-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Reference6 (m : (ℓ : Loc Cert.Reference6.nD Cert.Reference6.τ Cert.Reference6.sig) → Buf (Elt Bits) ℓ) : Prop :=
  True

def Pre_Kernel7 (m : (ℓ : Loc Cert.Kernel7.nD Cert.Kernel7.τ Cert.Kernel7.sig) → Buf (Elt Bits) ℓ) : Prop :=
  True

def Pre_Reference7 (m : (ℓ : Loc Cert.Reference7.nD Cert.Reference7.τ Cert.Reference7.sig) → Buf (Elt Bits) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0))
      ∧ r.2.sem = fun _ => 0)

def quiescent_Reference6 [hReference6 : Cert.Reference6.Facts] : Prop :=
  ∀ (m : (ℓ : Loc Cert.Reference6.nD Cert.Reference6.τ Cert.Reference6.sig) → Buf (Elt Bits) ℓ) (g : Dev Cert.Reference6.nD → PrngReg), Pre_Reference6 m →
    θ_run (Cert.Reference6.defs (F := Bits)) (onTc (τ := Cert.Reference6.τ) (Cert.Reference6.main (F := Bits))) ⟨m, fun _ => 0, g⟩ (fun r => (∀ c : Dev Cert.Reference6.nD,
      r.2.mem ((c.tc : Thread Cert.Reference6.nD Cert.Reference6.τ).loc Cert.Reference6.main_arg0) = m ((c.tc : Thread Cert.Reference6.nD Cert.Reference6.τ).loc Cert.Reference6.main_arg0))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0))
      ∧ r.2.sem = fun _ => 0)

def quiescent_Reference7 [hReference7 : Cert.Reference7.Facts] : Prop :=
  ∀ (m : (ℓ : Loc Cert.Reference7.nD Cert.Reference7.τ Cert.Reference7.sig) → Buf (Elt Bits) ℓ) (g : Dev Cert.Reference7.nD → PrngReg), Pre_Reference7 m →
    θ_run (Cert.Reference7.defs (F := Bits)) (onTc (τ := Cert.Reference7.τ) (Cert.Reference7.main (F := Bits))) ⟨m, fun _ => 0, g⟩ (fun r => (∀ c : Dev Cert.Reference7.nD,
      r.2.mem ((c.tc : Thread Cert.Reference7.nD Cert.Reference7.τ).loc Cert.Reference7.main_arg0) = m ((c.tc : Thread Cert.Reference7.nD Cert.Reference7.τ).loc Cert.Reference7.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v40) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)) →
    ∃ (v0 : (c : Dev Cert.Kernel2Ideal.nD) → Buf (Elt Ideal) ((c.tc : Thread Cert.Kernel2Ideal.nD Cert.Kernel2Ideal.τ).loc Cert.Kernel2Ideal.main_v19_0)) (v1 : (c : Dev Cert.Kernel2Ideal.nD) → Buf (Elt Ideal) ((c.tc : Thread Cert.Kernel2Ideal.nD Cert.Kernel2Ideal.τ).loc Cert.Kernel2Ideal.main_v19_1)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v19_0) = v0 c
          ∧ r.2.mem ((c.tc : Thread Cert.Kernel2Ideal.nD Cert.Kernel2Ideal.τ).loc Cert.Kernel2Ideal.main_v19_1) = v1 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v36) = v0 c
          ∧ r.2.mem ((c.tc : Thread Cert.Reference2Ideal.nD Cert.Reference2Ideal.τ).loc Cert.Reference2Ideal.main_v42) = v1 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)) →
    ∃ (v0 : (c : Dev Cert.Kernel3Ideal.nD) → Buf (Elt Ideal) ((c.tc : Thread Cert.Kernel3Ideal.nD Cert.Kernel3Ideal.τ).loc Cert.Kernel3Ideal.main_v39_0)) (v1 : (c : Dev Cert.Kernel3Ideal.nD) → Buf (Elt Ideal) ((c.tc : Thread Cert.Kernel3Ideal.nD Cert.Kernel3Ideal.τ).loc Cert.Kernel3Ideal.main_v39_1)) (v2 : (c : Dev Cert.Kernel3Ideal.nD) → Buf (Elt Ideal) ((c.tc : Thread Cert.Kernel3Ideal.nD Cert.Kernel3Ideal.τ).loc Cert.Kernel3Ideal.main_v39_2)) (v3 : (c : Dev Cert.Kernel3Ideal.nD) → Buf (Elt Ideal) ((c.tc : Thread Cert.Kernel3Ideal.nD Cert.Kernel3Ideal.τ).loc Cert.Kernel3Ideal.main_v39_3)) (v4 : (c : Dev Cert.Kernel3Ideal.nD) → Buf (Elt Ideal) ((c.tc : Thread Cert.Kernel3Ideal.nD Cert.Kernel3Ideal.τ).loc Cert.Kernel3Ideal.main_v39_4)) (v5 : (c : Dev Cert.Kernel3Ideal.nD) → Buf (Elt Ideal) ((c.tc : Thread Cert.Kernel3Ideal.nD Cert.Kernel3Ideal.τ).loc Cert.Kernel3Ideal.main_v39_5)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v39_0) = v0 c
          ∧ r.2.mem ((c.tc : Thread Cert.Kernel3Ideal.nD Cert.Kernel3Ideal.τ).loc Cert.Kernel3Ideal.main_v39_1) = v1 c
          ∧ r.2.mem ((c.tc : Thread Cert.Kernel3Ideal.nD Cert.Kernel3Ideal.τ).loc Cert.Kernel3Ideal.main_v39_2) = v2 c
          ∧ r.2.mem ((c.tc : Thread Cert.Kernel3Ideal.nD Cert.Kernel3Ideal.τ).loc Cert.Kernel3Ideal.main_v39_3) = v3 c
          ∧ r.2.mem ((c.tc : Thread Cert.Kernel3Ideal.nD Cert.Kernel3Ideal.τ).loc Cert.Kernel3Ideal.main_v39_4) = v4 c
          ∧ r.2.mem ((c.tc : Thread Cert.Kernel3Ideal.nD Cert.Kernel3Ideal.τ).loc Cert.Kernel3Ideal.main_v39_5) = v5 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v109) = v0 c
          ∧ r.2.mem ((c.tc : Thread Cert.Reference3Ideal.nD Cert.Reference3Ideal.τ).loc Cert.Reference3Ideal.main_v111) = v1 c
          ∧ r.2.mem ((c.tc : Thread Cert.Reference3Ideal.nD Cert.Reference3Ideal.τ).loc Cert.Reference3Ideal.main_v113) = v2 c
          ∧ r.2.mem ((c.tc : Thread Cert.Reference3Ideal.nD Cert.Reference3Ideal.τ).loc Cert.Reference3Ideal.main_v117) = v3 c
          ∧ r.2.mem ((c.tc : Thread Cert.Reference3Ideal.nD Cert.Reference3Ideal.τ).loc Cert.Reference3Ideal.main_v119) = v4 c
          ∧ r.2.mem ((c.tc : Thread Cert.Reference3Ideal.nD Cert.Reference3Ideal.τ).loc Cert.Reference3Ideal.main_v121) = v5 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3))

def preserves_Kernel4_Kernel4Ideal : Prop :=
  IdealRules.named_const.Statement Cert.Kernel4Ideal.κ "mask" .f32 0xF149F2CA#32 ⊥

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)) →
    ∃ (v0 : (c : Dev Cert.Kernel4Ideal.nD) → Buf (Elt Ideal) ((c.tc : Thread Cert.Kernel4Ideal.nD Cert.Kernel4Ideal.τ).loc Cert.Kernel4Ideal.main_v6)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v6) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v170) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)) →
    ∃ (v0 : (c : Dev Cert.Kernel5Ideal.nD) → Buf (Elt Ideal) ((c.tc : Thread Cert.Kernel5Ideal.nD Cert.Kernel5Ideal.τ).loc Cert.Kernel5Ideal.main_v3)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v3) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v24) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2))

def bitexact_Kernel6_Reference6 [hKernel6 : Cert.Kernel6.Facts] [hReference6 : Cert.Reference6.Facts] : Prop :=
  ∀ (m : (ℓ : Loc Cert.Kernel6.nD Cert.Kernel6.τ Cert.Kernel6.sig) → Buf (Elt Bits) ℓ) (g : Dev Cert.Kernel6.nD → PrngReg)
    (m' : (ℓ : Loc Cert.Reference6.nD Cert.Reference6.τ Cert.Reference6.sig) → Buf (Elt Bits) ℓ) (g' : Dev Cert.Reference6.nD → PrngReg), Pre_Kernel6 m →
    (∀ c : Dev Cert.Kernel6.nD,
      m' ((c.tc : Thread Cert.Reference6.nD Cert.Reference6.τ).loc Cert.Reference6.main_arg0) = m ((c.tc : Thread Cert.Kernel6.nD Cert.Kernel6.τ).loc Cert.Kernel6.main_arg0)) →
    ∃ (v0 : (c : Dev Cert.Kernel6.nD) → Buf (Elt Bits) ((c.tc : Thread Cert.Kernel6.nD Cert.Kernel6.τ).loc Cert.Kernel6.main_v0)),
      θ_run (Cert.Kernel6.defs (F := Bits)) (onTc (τ := Cert.Kernel6.τ) (Cert.Kernel6.main (F := Bits))) ⟨m, fun _ => 0, g⟩ (fun r => ∀ c : Dev Cert.Kernel6.nD,
          r.2.mem ((c.tc : Thread Cert.Kernel6.nD Cert.Kernel6.τ).loc Cert.Kernel6.main_v0) = v0 c
          ∧ r.2.mem ((c.tc : Thread Cert.Kernel6.nD Cert.Kernel6.τ).loc Cert.Kernel6.main_arg0) = m ((c.tc : Thread Cert.Kernel6.nD Cert.Kernel6.τ).loc Cert.Kernel6.main_arg0))
      ∧ θ_run (Cert.Reference6.defs (F := Bits)) (onTc (τ := Cert.Reference6.τ) (Cert.Reference6.main (F := Bits))) ⟨m', fun _ => 0, g'⟩ (fun r => ∀ c : Dev Cert.Reference6.nD,
          r.2.mem ((c.tc : Thread Cert.Reference6.nD Cert.Reference6.τ).loc Cert.Reference6.main_v5) = v0 c
          ∧ r.2.mem ((c.tc : Thread Cert.Reference6.nD Cert.Reference6.τ).loc Cert.Reference6.main_arg0) = m' ((c.tc : Thread Cert.Reference6.nD Cert.Reference6.τ).loc Cert.Reference6.main_arg0))

def bitexact_Kernel7_Reference7 [hKernel7 : Cert.Kernel7.Facts] [hReference7 : Cert.Reference7.Facts] : Prop :=
  ∀ (m : (ℓ : Loc Cert.Kernel7.nD Cert.Kernel7.τ Cert.Kernel7.sig) → Buf (Elt Bits) ℓ) (g : Dev Cert.Kernel7.nD → PrngReg)
    (m' : (ℓ : Loc Cert.Reference7.nD Cert.Reference7.τ Cert.Reference7.sig) → Buf (Elt Bits) ℓ) (g' : Dev Cert.Reference7.nD → PrngReg), Pre_Kernel7 m →
    (∀ c : Dev Cert.Kernel7.nD,
      m' ((c.tc : Thread Cert.Reference7.nD Cert.Reference7.τ).loc Cert.Reference7.main_arg0) = m ((c.tc : Thread Cert.Kernel7.nD Cert.Kernel7.τ).loc Cert.Kernel7.main_arg0)) →
    ∃ (v0 : (c : Dev Cert.Kernel7.nD) → Buf (Elt Bits) ((c.tc : Thread Cert.Kernel7.nD Cert.Kernel7.τ).loc Cert.Kernel7.main_v0)),
      θ_run (Cert.Kernel7.defs (F := Bits)) (onTc (τ := Cert.Kernel7.τ) (Cert.Kernel7.main (F := Bits))) ⟨m, fun _ => 0, g⟩ (fun r => ∀ c : Dev Cert.Kernel7.nD,
          r.2.mem ((c.tc : Thread Cert.Kernel7.nD Cert.Kernel7.τ).loc Cert.Kernel7.main_v0) = v0 c
          ∧ r.2.mem ((c.tc : Thread Cert.Kernel7.nD Cert.Kernel7.τ).loc Cert.Kernel7.main_arg0) = m ((c.tc : Thread Cert.Kernel7.nD Cert.Kernel7.τ).loc Cert.Kernel7.main_arg0))
      ∧ θ_run (Cert.Reference7.defs (F := Bits)) (onTc (τ := Cert.Reference7.τ) (Cert.Reference7.main (F := Bits))) ⟨m', fun _ => 0, g'⟩ (fun r => ∀ c : Dev Cert.Reference7.nD,
          r.2.mem ((c.tc : Thread Cert.Reference7.nD Cert.Reference7.τ).loc Cert.Reference7.main_v6) = v0 c
          ∧ r.2.mem ((c.tc : Thread Cert.Reference7.nD Cert.Reference7.τ).loc Cert.Reference7.main_arg0) = m' ((c.tc : Thread Cert.Reference7.nD Cert.Reference7.τ).loc Cert.Reference7.main_arg0))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hReference6 : Cert.Reference6.Facts) (hKernel7 : Cert.Kernel7.Facts) (hReference7 : Cert.Reference7.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Reference6 (hReference6 := hReference6)
    ∧ quiescent_Kernel7 (hKernel7 := hKernel7)
    ∧ quiescent_Reference7 (hReference7 := hReference7)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ bitexact_Kernel6_Reference6 (hKernel6 := hKernel6) (hReference6 := hReference6)
    ∧ bitexact_Kernel7_Reference7 (hKernel7 := hKernel7) (hReference7 := hReference7)
-- ==== Kernel.lean ====
abbrev S65536x512 : Shape := ⟨2, ![65536, 512]⟩
abbrev S65536x128 : Shape := ⟨2, ![65536, 128]⟩
abbrev S512 : Shape := ⟨1, ![512]⟩
abbrev S_ : Shape := ⟨0, ![]⟩
abbrev S512x1 : Shape := ⟨2, ![512, 1]⟩
abbrev S1x512 : Shape := ⟨2, ![1, 512]⟩
abbrev S512x512 : Shape := ⟨2, ![512, 512]⟩
abbrev S2048x128 : Shape := ⟨2, ![2048, 128]⟩
abbrev S512x128 : Shape := ⟨2, ![512, 128]⟩
abbrev S512x2048 : Shape := ⟨2, ![512, 2048]⟩
abbrev S1x128 : Shape := ⟨2, ![1, 128]⟩

abbrev nBuf : Space → Nat
  | .hbm => 14
  | .vmem => 9
  | .smem => 0
  | _ => 0

abbrev bufTy : (tb : Table) → Fin (tcTables nBuf tb) → BufTy
  | .hbm, ⟨0, _⟩ => ⟨S65536x512, .bf16⟩
  | .hbm, ⟨1, _⟩ => ⟨S65536x128, .bf16⟩
  | .hbm, ⟨2, _⟩ => ⟨S65536x128, .bf16⟩
  | .hbm, ⟨3, _⟩ => ⟨S512, .f32⟩
  | .hbm, ⟨4, _⟩ => ⟨S512, .i32⟩
  | .hbm, ⟨5, _⟩ => ⟨S512, .i1⟩
  | .hbm, ⟨6, _⟩ => ⟨S_, .i32⟩
  | .hbm, ⟨7, _⟩ => ⟨S512, .i32⟩
  | .hbm, ⟨8, _⟩ => ⟨S512, .i32⟩
  | .hbm, ⟨9, _⟩ => ⟨S512, .i32⟩
  | .hbm, ⟨10, _⟩ => ⟨S512x1, .i32⟩
  | .hbm, ⟨11, _⟩ => ⟨S512, .f32⟩
  | .hbm, ⟨12, _⟩ => ⟨S1x512, .f32⟩
  | .hbm, ⟨13, _⟩ => ⟨S65536x512, .bf16⟩
  | .local _ .vmem, ⟨0, _⟩ => ⟨S512x512, .bf16⟩
  | .local _ .vmem, ⟨1, _⟩ => ⟨S512x512, .bf16⟩
  | .local _ .vmem, ⟨2, _⟩ => ⟨S2048x128, .bf16⟩
  | .local _ .vmem, ⟨3, _⟩ => ⟨S2048x128, .bf16⟩
  | .local _ .vmem, ⟨4, _⟩ => ⟨S2048x128, .bf16⟩
  | .local _ .vmem, ⟨5, _⟩ => ⟨S2048x128, .bf16⟩
  | .local _ .vmem, ⟨6, _⟩ => ⟨S1x512, .f32⟩
  | .local _ .vmem, ⟨7, _⟩ => ⟨S512x512, .bf16⟩
  | .local _ .vmem, ⟨8, _⟩ => ⟨S512x512, .bf16⟩
  | _, _ => ⟨S65536x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_c_0 : Ref sig .tc := ⟨.hbm, 5, rfl⟩
abbrev main_c_1 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![32, 4], ![false, false]⟩

def cc0_transform_0 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S2048x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S512x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== ReferenceIdeal.lean ====
abbrev S65536x512 : Shape := ⟨2, ![65536, 512]⟩
abbrev S65536x128 : Shape := ⟨2, ![65536, 128]⟩
abbrev S512 : Shape := ⟨1, ![512]⟩
abbrev S32x2048x4x2x64 : Shape := ⟨5, ![32, 2048, 4, 2, 64]⟩
abbrev S32x2048x2x4x64 : Shape := ⟨5, ![32, 2048, 2, 4, 64]⟩
abbrev S32x2048x2x64 : Shape := ⟨4, ![32, 2048, 2, 64]⟩
abbrev S32x2x2048x2048x4 : Shape := ⟨5, ![32, 2, 2048, 2048, 4]⟩
abbrev S32x2x4x2048x2048 : Shape := ⟨5, ![32, 2, 4, 2048, 2048]⟩
abbrev S_ : Shape := ⟨0, ![]⟩
abbrev S32x2x4x2048 : Shape := ⟨4, ![32, 2, 4, 2048]⟩
abbrev S32x2x4x2048x1 : Shape := ⟨5, ![32, 2, 4, 2048, 1]⟩
abbrev S32x2x64x4x2048 : Shape := ⟨5, ![32, 2, 64, 4, 2048]⟩
abbrev S32x2048x8x64 : Shape := ⟨4, ![32, 2048, 8, 64]⟩
abbrev S8x64 : Shape := ⟨2, ![8, 64]⟩
abbrev S32x2048x8 : Shape := ⟨3, ![32, 2048, 8]⟩
abbrev S32x2048x8x1 : Shape := ⟨4, ![32, 2048, 8, 1]⟩
abbrev S1x1x8x64 : Shape := ⟨4, ![1, 1, 8, 64]⟩

abbrev nBuf : Space → Nat
  | .hbm => 51
  | .vmem => 0
  | .smem => 0
  | _ => 0

abbrev bufTy : (tb : Table) → Fin (tcTables nBuf tb) → BufTy
  | .hbm, ⟨0, _⟩ => ⟨S65536x512, .bf16⟩
  | .hbm, ⟨1, _⟩ => ⟨S65536x128, .bf16⟩
  | .hbm, ⟨2, _⟩ => ⟨S65536x128, .bf16⟩
  | .hbm, ⟨3, _⟩ => ⟨S512, .f32⟩
  | .hbm, ⟨4, _⟩ => ⟨S65536x512, .f32⟩
  | .hbm, ⟨5, _⟩ => ⟨S65536x128, .f32⟩
  | .hbm, ⟨6, _⟩ => ⟨S65536x128, .f32⟩
  | .hbm, ⟨7, _⟩ => ⟨S32x2048x4x2x64, .f32⟩
  | .hbm, ⟨8, _⟩ => ⟨S32x2048x2x4x64, .f32⟩
  | .hbm, ⟨9, _⟩ => ⟨S32x2048x2x64, .f32⟩
  | .hbm, ⟨10, _⟩ => ⟨S32x2048x2x64, .f32⟩
  | .hbm, ⟨11, _⟩ => ⟨S32x2x2048x2048x4, .f32⟩
  | .hbm, ⟨12, _⟩ => ⟨S32x2x4x2048x2048, .f32⟩
  | .hbm, ⟨13, _⟩ => ⟨S_, .f32⟩
  | .hbm, ⟨14, _⟩ => ⟨S32x2x4x2048, .f32⟩
  | .hbm, ⟨15, _⟩ => ⟨S_, .f32⟩
  | .hbm, ⟨16, _⟩ => ⟨S32x2x4x2048, .f32⟩
  | .hbm, ⟨17, _⟩ => ⟨S32x2x4x2048, .f32⟩
  | .hbm, ⟨18, _⟩ => ⟨S32x2x4x2048x1, .f32⟩
  | .hbm, ⟨19, _⟩ => ⟨S32x2x4x2048x2048, .f32⟩
  | .hbm, ⟨20, _⟩ => ⟨S32x2x4x2048x2048, .f32⟩
  | .hbm, ⟨21, _⟩ => ⟨S32x2x4x2048x2048, .f32⟩
  | .hbm, ⟨22, _⟩ => ⟨S_, .f32⟩
  | .hbm, ⟨23, _⟩ => ⟨S32x2x4x2048, .f32⟩
  | .hbm, ⟨24, _⟩ => ⟨S32x2x4x2048x1, .f32⟩
  | .hbm, ⟨25, _⟩ => ⟨S32x2x4x2048x2048, .f32⟩
  | .hbm, ⟨26, _⟩ => ⟨S32x2x4x2048x2048, .f32⟩
  | .hbm, ⟨27, _⟩ => ⟨S32x2x64x4x2048, .f32⟩
  | .hbm, ⟨28, _⟩ => ⟨S32x2048x2x4x64, .f32⟩
  | .hbm, ⟨29, _⟩ => ⟨S32x2048x8x64, .f32⟩
  | .hbm, ⟨30, _⟩ => ⟨S8x64, .f32⟩
  | .hbm, ⟨31, _⟩ => ⟨S32x2048x8x64, .f32⟩
  | .hbm, ⟨32, _⟩ => ⟨S_, .f32⟩
  | .hbm, ⟨33, _⟩ => ⟨S32x2048x8, .f32⟩
  | .hbm, ⟨34, _⟩ => ⟨S32x2048x8x1, .f32⟩
  | .hbm, ⟨35, _⟩ => ⟨S_, .f32⟩
  | .hbm, ⟨36, _⟩ => ⟨S32x2048x8x1, .f32⟩
  | .hbm, ⟨37, _⟩ => ⟨S32x2048x8x1, .f32⟩
  | .hbm, ⟨38, _⟩ => ⟨S_, .f32⟩
  | .hbm, ⟨39, _⟩ => ⟨S32x2048x8x1, .f32⟩
  | .hbm, ⟨40, _⟩ => ⟨S32x2048x8x1, .f32⟩
  | .hbm, ⟨41, _⟩ => ⟨S32x2048x8x1, .f32⟩
  | .hbm, ⟨42, _⟩ => ⟨S32x2048x8x64, .f32⟩
  | .hbm, ⟨43, _⟩ => ⟨S32x2048x8x64, .f32⟩
  | .hbm, ⟨44, _⟩ => ⟨S1x1x8x64, .f32⟩
  | .hbm, ⟨45, _⟩ => ⟨S32x2048x8x64, .f32⟩
  | .hbm, ⟨46, _⟩ => ⟨S32x2048x8x64, .f32⟩
  | .hbm, ⟨47, _⟩ => ⟨S32x2048x2x4x64, .f32⟩
  | .hbm, ⟨48, _⟩ => ⟨S32x2048x4x2x64, .f32⟩
  | .hbm, ⟨49, _⟩ => ⟨S65536x512, .f32⟩
  | .hbm, ⟨50, _⟩ => ⟨S65536x512, .bf16⟩
  | _, _ => ⟨S65536x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst : Ref sig .tc := ⟨.hbm, 13, rfl⟩
abbrev main_v9 : Ref sig .tc := ⟨.hbm, 14, rfl⟩
abbrev main_cst_0 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_cst_1 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_cst_2 : Ref sig .tc := ⟨.hbm, 32, rfl⟩
abbrev main_v25 : Ref sig .tc := ⟨.hbm, 33, rfl⟩
abbrev main_v26 : Ref sig .tc := ⟨.hbm, 34, rfl⟩
abbrev main_cst_3 : Ref sig .tc := ⟨.hbm, 35, rfl⟩
abbrev main_v27 : Ref sig .tc := ⟨.hbm, 36, rfl⟩
abbrev main_v28 : Ref sig .tc := ⟨.hbm, 37, rfl⟩
abbrev main_cst_4 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩

abbrev nD : Nat := 1
abbrev τ : Topo := Topo.v7x

variable {F : FTy → Type} [FloatOps F]
-- ==== Kernel2.lean ====
abbrev S65536x512 : Shape := ⟨2, ![65536, 512]⟩
abbrev S65536x1024 : Shape := ⟨2, ![65536, 1024]⟩
abbrev S1024x1024 : Shape := ⟨2, ![1024, 1024]⟩
abbrev S1024 : Shape := ⟨1, ![1024]⟩
abbrev S1024x2048 : Shape := ⟨2, ![1024, 2048]⟩
abbrev S8x2x128x128 : Shape := ⟨4, ![8, 2, 128, 128]⟩
abbrev S512 : Shape := ⟨1, ![512]⟩
abbrev S512x1024 : Shape := ⟨2, ![512, 1024]⟩
abbrev S_ : Shape := ⟨0, ![]⟩
abbrev S512x1 : Shape := ⟨2, ![512, 1]⟩
abbrev S16x128x128 : Shape := ⟨3, ![16, 128, 128]⟩
abbrev S1x1024 : Shape := ⟨2, ![1, 1024]⟩
abbrev S16x128x65536 : Shape := ⟨3, ![16, 128, 65536]⟩
abbrev S512x512 : Shape := ⟨2, ![512, 512]⟩
abbrev S16x128x512 : Shape := ⟨3, ![16, 128, 512]⟩
abbrev S512x2048 : Shape := ⟨2, ![512, 2048]⟩
abbrev S1x128x128 : Shape := ⟨3, ![1, 128, 128]⟩
abbrev S128x128 : Shape := ⟨2, ![128, 128]⟩
abbrev S512x128 : Shape := ⟨2, ![512, 128]⟩
abbrev S128x512 : Shape := ⟨2, ![128, 512]⟩
abbrev S1x128x512 : Shape := ⟨3, ![1, 128, 512]⟩

abbrev nBuf : Space → Nat
  | .hbm => 34
  | .vmem => 16
  | .smem => 0
  | _ => 0

abbrev bufTy : (tb : Table) → Fin (tcTables nBuf tb) → BufTy
  | .hbm, ⟨0, _⟩ => ⟨S65536x512, .bf16⟩
  | .hbm, ⟨1, _⟩ => ⟨S65536x512, .bf16⟩
  | .hbm, ⟨2, _⟩ => ⟨S65536x1024, .f32⟩
  | .hbm, ⟨3, _⟩ => ⟨S1024x1024, .f32⟩
  | .hbm, ⟨4, _⟩ => ⟨S1024, .f32⟩
  | .hbm, ⟨5, _⟩ => ⟨S1024, .f32⟩
  | .hbm, ⟨6, _⟩ => ⟨S1024x2048, .f32⟩
  | .hbm, ⟨7, _⟩ => ⟨S8x2x128x128, .f32⟩
  | .hbm, ⟨8, _⟩ => ⟨S512, .i32⟩
  | .hbm, ⟨9, _⟩ => ⟨S512, .i1⟩
  | .hbm, ⟨10, _⟩ => ⟨S512, .i1⟩
  | .hbm, ⟨11, _⟩ => ⟨S512x1024, .f32⟩
  | .hbm, ⟨12, _⟩ => ⟨S_, .i32⟩
  | .hbm, ⟨13, _⟩ => ⟨S512, .i32⟩
  | .hbm, ⟨14, _⟩ => ⟨S512, .i32⟩
  | .hbm, ⟨15, _⟩ => ⟨S512, .i32⟩
  | .hbm, ⟨16, _⟩ => ⟨S512x1, .i32⟩
  | .hbm, ⟨17, _⟩ => ⟨S512x1024, .f32⟩
  | .hbm, ⟨18, _⟩ => ⟨S512x1024, .bf16⟩
  | .hbm, ⟨19, _⟩ => ⟨S512x1024, .f32⟩
  | .hbm, ⟨20, _⟩ => ⟨S_, .i32⟩
  | .hbm, ⟨21, _⟩ => ⟨S512, .i32⟩
  | .hbm, ⟨22, _⟩ => ⟨S512, .i32⟩
  | .hbm, ⟨23, _⟩ => ⟨S512, .i32⟩
  | .hbm, ⟨24, _⟩ => ⟨S512x1, .i32⟩
  | .hbm, ⟨25, _⟩ => ⟨S512x1024, .f32⟩
  | .hbm, ⟨26, _⟩ => ⟨S512x1024, .bf16⟩
  | .hbm, ⟨27, _⟩ => ⟨S16x128x128, .f32⟩
  | .hbm, ⟨28, _⟩ => ⟨S16x128x128, .bf16⟩
  | .hbm, ⟨29, _⟩ => ⟨S1x1024, .f32⟩
  | .hbm, ⟨30, _⟩ => ⟨S1x1024, .f32⟩
  | .hbm, ⟨31, _⟩ => ⟨S1024x2048, .bf16⟩
  | .hbm, ⟨32, _⟩ => ⟨S65536x1024, .f32⟩
  | .hbm, ⟨33, _⟩ => ⟨S16x128x65536, .f32⟩
  | .local _ .vmem, ⟨0, _⟩ => ⟨S512x512, .bf16⟩
  | .local _ .vmem, ⟨1, _⟩ => ⟨S512x512, .bf16⟩
  | .local _ .vmem, ⟨2, _⟩ => ⟨S512x512, .bf16⟩
  | .local _ .vmem, ⟨3, _⟩ => ⟨S512x512, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .f32⟩
  | .local _ .vmem, ⟨7, _⟩ => ⟨S512x1024, .f32⟩
  | .local _ .vmem, ⟨8, _⟩ => ⟨S1x1024, .f32⟩
  | .local _ .vmem, ⟨9, _⟩ => ⟨S1x1024, .f32⟩
  | .local _ .vmem, ⟨10, _⟩ => ⟨S1024x2048, .bf16⟩
  | .local _ .vmem, ⟨11, _⟩ => ⟨S16x128x128, .bf16⟩
  | .local _ .vmem, ⟨12, _⟩ => ⟨S512x1024, .f32⟩
  | .local _ .vmem, ⟨13, _⟩ => ⟨S512x1024, .f32⟩
  | .local _ .vmem, ⟨14, _⟩ => ⟨S16x128x512, .f32⟩
  | .local _ .vmem, ⟨15, _⟩ => ⟨S16x128x512, .f32⟩
  | _, _ => ⟨S65536x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_c : Ref sig .tc := ⟨.hbm, 8, rfl⟩
abbrev main_c_0 : Ref sig .tc := ⟨.hbm, 9, rfl⟩
abbrev main_c_1 : Ref sig .tc := ⟨.hbm, 10, rfl⟩
abbrev main_v0 : Ref sig .tc := ⟨.hbm, 11, rfl⟩
abbrev main_c_2 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_c_3 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19_0 : Ref sig .tc := ⟨.hbm, 32, rfl⟩
abbrev main_v19_1 : Ref sig .tc := ⟨.hbm, 33, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg10_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem9_1 : DmaSem sig := 13
abbrev cc0_sem10_0 : DmaSem sig := 14
abbrev cc0_sem10_1 : DmaSem sig := 15

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S512x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S512x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x2048 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S16x128x128 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S16x128x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== Reference2Ideal.lean ====
abbrev S65536x512 : Shape := ⟨2, ![65536, 512]⟩
abbrev S65536x1024 : Shape := ⟨2, ![65536, 1024]⟩
abbrev S1024x1024 : Shape := ⟨2, ![1024, 1024]⟩
abbrev S1024 : Shape := ⟨1, ![1024]⟩
abbrev S1024x2048 : Shape := ⟨2, ![1024, 2048]⟩
abbrev S8x2x128x128 : Shape := ⟨4, ![8, 2, 128, 128]⟩
abbrev S65536x4x2x64 : Shape := ⟨4, ![65536, 4, 2, 64]⟩
abbrev S65536x2x4x64 : Shape := ⟨4, ![65536, 2, 4, 64]⟩
abbrev S_ : Shape := ⟨0, ![]⟩
abbrev S65536 : Shape := ⟨1, ![65536]⟩
abbrev S65536x1 : Shape := ⟨2, ![65536, 1]⟩
abbrev S1x1024 : Shape := ⟨2, ![1, 1024]⟩
abbrev S65536x2048 : Shape := ⟨2, ![65536, 2048]⟩
abbrev S65536x8x2x128 : Shape := ⟨4, ![65536, 8, 2, 128]⟩
abbrev S8x2x128x65536 : Shape := ⟨4, ![8, 2, 128, 65536]⟩
abbrev S16x128x65536 : Shape := ⟨3, ![16, 128, 65536]⟩

abbrev nBuf : Space → Nat
  | .hbm => 57
  | .vmem => 0
  | .smem => 0
  | _ => 0

abbrev bufTy : (tb : Table) → Fin (tcTables nBuf tb) → BufTy
  | .hbm, ⟨0, _⟩ => ⟨S65536x512, .bf16⟩
  | .hbm, ⟨1, _⟩ => ⟨S65536x512, .bf16⟩
  | .hbm, ⟨2, _⟩ => ⟨S65536x1024, .f32⟩
  | .hbm, ⟨3, _⟩ => ⟨S1024x1024, .f32⟩
  | .hbm, ⟨4, _⟩ => ⟨S1024, .f32⟩
  | .hbm, ⟨5, _⟩ => ⟨S1024, .f32⟩
  | .hbm, ⟨6, _⟩ => ⟨S1024x2048, .f32⟩
  | .hbm, ⟨7, _⟩ => ⟨S8x2x128x128, .f32⟩
  | .hbm, ⟨8, _⟩ => ⟨S65536x512, .f32⟩
  | .hbm, ⟨9, _⟩ => ⟨S65536x4x2x64, .f32⟩
  | .hbm, ⟨10, _⟩ => ⟨S65536x2x4x64, .f32⟩
  | .hbm, ⟨11, _⟩ => ⟨S65536x512, .f32⟩
  | .hbm, ⟨12, _⟩ => ⟨S65536x512, .f32⟩
  | .hbm, ⟨13, _⟩ => ⟨S65536x4x2x64, .f32⟩
  | .hbm, ⟨14, _⟩ => ⟨S65536x2x4x64, .f32⟩
  | .hbm, ⟨15, _⟩ => ⟨S65536x512, .f32⟩
  | .hbm, ⟨16, _⟩ => ⟨S65536x1024, .f32⟩
  | .hbm, ⟨17, _⟩ => ⟨S65536x1024, .f32⟩
  | .hbm, ⟨18, _⟩ => ⟨S_, .f32⟩
  | .hbm, ⟨19, _⟩ => ⟨S65536x1024, .f32⟩
  | .hbm, ⟨20, _⟩ => ⟨S65536x1024, .f32⟩
  | .hbm, ⟨21, _⟩ => ⟨S65536x1024, .f32⟩
  | .hbm, ⟨22, _⟩ => ⟨S_, .f32⟩
  | .hbm, ⟨23, _⟩ => ⟨S65536, .f32⟩
  | .hbm, ⟨24, _⟩ => ⟨S65536x1, .f32⟩
  | .hbm, ⟨25, _⟩ => ⟨S_, .f32⟩
  | .hbm, ⟨26, _⟩ => ⟨S65536x1, .f32⟩
  | .hbm, ⟨27, _⟩ => ⟨S65536x1, .f32⟩
  | .hbm, ⟨28, _⟩ => ⟨S65536x1024, .f32⟩
  | .hbm, ⟨29, _⟩ => ⟨S65536x1024, .f32⟩
  | .hbm, ⟨30, _⟩ => ⟨S65536x1024, .f32⟩
  | .hbm, ⟨31, _⟩ => ⟨S_, .f32⟩
  | .hbm, ⟨32, _⟩ => ⟨S65536, .f32⟩
  | .hbm, ⟨33, _⟩ => ⟨S65536x1, .f32⟩
  | .hbm, ⟨34, _⟩ => ⟨S_, .f32⟩
  | .hbm, ⟨35, _⟩ => ⟨S65536x1, .f32⟩
  | .hbm, ⟨36, _⟩ => ⟨S65536x1, .f32⟩
  | .hbm, ⟨37, _⟩ => ⟨S65536x1024, .f32⟩
  | .hbm, ⟨38, _⟩ => ⟨S65536x1024, .f32⟩
  | .hbm, ⟨39, _⟩ => ⟨S_, .f32⟩
  | .hbm, ⟨40, _⟩ => ⟨S65536x1, .f32⟩
  | .hbm, ⟨41, _⟩ => ⟨S65536x1, .f32⟩
  | .hbm, ⟨42, _⟩ => ⟨S65536x1, .f32⟩
  | .hbm, ⟨43, _⟩ => ⟨S65536x1024, .f32⟩
  | .hbm, ⟨44, _⟩ => ⟨S65536x1024, .f32⟩
  | .hbm, ⟨45, _⟩ => ⟨S1x1024, .f32⟩
  | .hbm, ⟨46, _⟩ => ⟨S65536x1024, .f32⟩
  | .hbm, ⟨47, _⟩ => ⟨S65536x1024, .f32⟩
  | .hbm, ⟨48, _⟩ => ⟨S1x1024, .f32⟩
  | .hbm, ⟨49, _⟩ => ⟨S65536x1024, .f32⟩
  | .hbm, ⟨50, _⟩ => ⟨S65536x1024, .f32⟩
  | .hbm, ⟨51, _⟩ => ⟨S65536x2048, .f32⟩
  | .hbm, ⟨52, _⟩ => ⟨S65536x8x2x128, .f32⟩
  | .hbm, ⟨53, _⟩ => ⟨S8x2x128x65536, .f32⟩
  | .hbm, ⟨54, _⟩ => ⟨S65536x8x2x128, .f32⟩
  | .hbm, ⟨55, _⟩ => ⟨S8x2x128x65536, .f32⟩
  | .hbm, ⟨56, _⟩ => ⟨S16x128x65536, .f32⟩
  | _, _ => ⟨S65536x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_0 : Ref sig .tc := ⟨.hbm, 22, rfl⟩
abbrev main_v13 : Ref sig .tc := ⟨.hbm, 23, rfl⟩
abbrev main_v14 : Ref sig .tc := ⟨.hbm, 24, rfl⟩
abbrev main_cst_1 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst_2 : Ref sig .tc := ⟨.hbm, 31, rfl⟩
abbrev main_v20 : Ref sig .tc := ⟨.hbm, 32, rfl⟩
abbrev main_v21 : Ref sig .tc := ⟨.hbm, 33, rfl⟩
abbrev main_cst_3 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_cst_4 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩

abbrev nD : Nat := 1
abbrev τ : Topo := Topo.v7x

variable {F : FTy → Type} [FloatOps F]
-- ==== Kernel3.lean ====
abbrev S65536x1024 : Shape := ⟨2, ![65536, 1024]⟩
abbrev S1024x1536 : Shape := ⟨2, ![1024, 1536]⟩
abbrev S64 : Shape := ⟨1, ![64]⟩
abbrev S2048 : Shape := ⟨1, ![2048]⟩
abbrev S1536 : Shape := ⟨1, ![1536]⟩
abbrev S16 : Shape := ⟨1, ![16]⟩
abbrev S_ : Shape := ⟨0, ![]⟩
abbrev S2048x1 : Shape := ⟨2, ![2048, 1]⟩
abbrev S1x16 : Shape := ⟨2, ![1, 16]⟩
abbrev S2048x16 : Shape := ⟨2, ![2048, 16]⟩
abbrev S2048x64 : Shape := ⟨2, ![2048, 64]⟩
abbrev S2048x128 : Shape := ⟨2, ![2048, 128]⟩
abbrev S1536x1 : Shape := ⟨2, ![1536, 1]⟩
abbrev S128 : Shape := ⟨1, ![128]⟩
abbrev S1x128 : Shape := ⟨2, ![1, 128]⟩
abbrev S65536x512 : Shape := ⟨2, ![65536, 512]⟩
abbrev S65536x128 : Shape := ⟨2, ![65536, 128]⟩
abbrev S1024x1024 : Shape := ⟨2, ![1024, 1024]⟩
abbrev S1024x128 : Shape := ⟨2, ![1024, 128]⟩
abbrev S1024x512 : Shape := ⟨2, ![1024, 512]⟩
abbrev S1024 : Shape := ⟨1, ![1024]⟩
abbrev S1024x1 : Shape := ⟨2, ![1024, 1]⟩

abbrev nBuf : Space → Nat
  | .hbm => 57
  | .vmem => 23
  | .smem => 0
  | _ => 0

abbrev bufTy : (tb : Table) → Fin (tcTables nBuf tb) → BufTy
  | .hbm, ⟨0, _⟩ => ⟨S65536x1024, .f32⟩
  | .hbm, ⟨1, _⟩ => ⟨S1024x1536, .f32⟩
  | .hbm, ⟨2, _⟩ => ⟨S64, .f32⟩
  | .hbm, ⟨3, _⟩ => ⟨S64, .f32⟩
  | .hbm, ⟨4, _⟩ => ⟨S2048, .f32⟩
  | .hbm, ⟨5, _⟩ => ⟨S2048, .f32⟩
  | .hbm, ⟨6, _⟩ => ⟨S1536, .i32⟩
  | .hbm, ⟨7, _⟩ => ⟨S1536, .i1⟩
  | .hbm, ⟨8, _⟩ => ⟨S16, .f32⟩
  | .hbm, ⟨9, _⟩ => ⟨S16, .f32⟩
  | .hbm, ⟨10, _⟩ => ⟨S_, .f32⟩
  | .hbm, ⟨11, _⟩ => ⟨S16, .f32⟩
  | .hbm, ⟨12, _⟩ => ⟨S16, .f32⟩
  | .hbm, ⟨13, _⟩ => ⟨S_, .f32⟩
  | .hbm, ⟨14, _⟩ => ⟨S16, .f32⟩
  | .hbm, ⟨15, _⟩ => ⟨S16, .f32⟩
  | .hbm, ⟨16, _⟩ => ⟨S2048x1, .f32⟩
  | .hbm, ⟨17, _⟩ => ⟨S1x16, .f32⟩
  | .hbm, ⟨18, _⟩ => ⟨S2048x16, .f32⟩
  | .hbm, ⟨19, _⟩ => ⟨S2048x16, .f32⟩
  | .hbm, ⟨20, _⟩ => ⟨S2048x16, .f32⟩
  | .hbm, ⟨21, _⟩ => ⟨S2048x1, .f32⟩
  | .hbm, ⟨22, _⟩ => ⟨S1x16, .f32⟩
  | .hbm, ⟨23, _⟩ => ⟨S2048x16, .f32⟩
  | .hbm, ⟨24, _⟩ => ⟨S2048x16, .f32⟩
  | .hbm, ⟨25, _⟩ => ⟨S2048x16, .f32⟩
  | .hbm, ⟨26, _⟩ => ⟨S2048x16, .f32⟩
  | .hbm, ⟨27, _⟩ => ⟨S2048x16, .f32⟩
  | .hbm, ⟨28, _⟩ => ⟨S2048x16, .f32⟩
  | .hbm, ⟨29, _⟩ => ⟨S2048x16, .f32⟩
  | .hbm, ⟨30, _⟩ => ⟨S_, .f32⟩
  | .hbm, ⟨31, _⟩ => ⟨S2048x16, .f32⟩
  | .hbm, ⟨32, _⟩ => ⟨S2048x64, .f32⟩
  | .hbm, ⟨33, _⟩ => ⟨S2048x16, .f32⟩
  | .hbm, ⟨34, _⟩ => ⟨S2048x16, .f32⟩
  | .hbm, ⟨35, _⟩ => ⟨S2048x64, .f32⟩
  | .hbm, ⟨36, _⟩ => ⟨S2048x64, .f32⟩
  | .hbm, ⟨37, _⟩ => ⟨S2048x128, .f32⟩
  | .hbm, ⟨38, _⟩ => ⟨S2048x128, .f32⟩
  | .hbm, ⟨39, _⟩ => ⟨S2048x128, .f32⟩
  | .hbm, ⟨40, _⟩ => ⟨S_, .i32⟩
  | .hbm, ⟨41, _⟩ => ⟨S1536, .i32⟩
  | .hbm, ⟨42, _⟩ => ⟨S1536, .i32⟩
  | .hbm, ⟨43, _⟩ => ⟨S1536, .i32⟩
  | .hbm, ⟨44, _⟩ => ⟨S1536x1, .i32⟩
  | .hbm, ⟨45, _⟩ => ⟨S1024x1536, .f32⟩
  | .hbm, ⟨46, _⟩ => ⟨S1024x1536, .bf16⟩
  | .hbm, ⟨47, _⟩ => ⟨S128, .f32⟩
  | .hbm, ⟨48, _⟩ => ⟨S1x128, .f32⟩
  | .hbm, ⟨49, _⟩ => ⟨S128, .f32⟩
  | .hbm, ⟨50, _⟩ => ⟨S1x128, .f32⟩
  | .hbm, ⟨51, _⟩ => ⟨S65536x512, .bf16⟩
  | .hbm, ⟨52, _⟩ => ⟨S65536x128, .bf16⟩
  | .hbm, ⟨53, _⟩ => ⟨S65536x128, .bf16⟩
  | .hbm, ⟨54, _⟩ => ⟨S65536x512, .bf16⟩
  | .hbm, ⟨55, _⟩ => ⟨S65536x128, .bf16⟩
  | .hbm, ⟨56, _⟩ => ⟨S65536x128, .bf16⟩
  | .local _ .vmem, ⟨0, _⟩ => ⟨S1024x1024, .f32⟩
  | .local _ .vmem, ⟨1, _⟩ => ⟨S1024x1024, .f32⟩
  | .local _ .vmem, ⟨2, _⟩ => ⟨S1024x1536, .bf16⟩
  | .local _ .vmem, ⟨3, _⟩ => ⟨S1x128, .f32⟩
  | .local _ .vmem, ⟨4, _⟩ => ⟨S1x128, .f32⟩
  | .local _ .vmem, ⟨5, _⟩ => ⟨S1024x128, .f32⟩
  | .local _ .vmem, ⟨6, _⟩ => ⟨S1024x128, .f32⟩
  | .local _ .vmem, ⟨7, _⟩ => ⟨S1024x128, .f32⟩
  | .local _ .vmem, ⟨8, _⟩ => ⟨S1024x128, .f32⟩
  | .local _ .vmem, ⟨9, _⟩ => ⟨S1024x128, .f32⟩
  | .local _ .vmem, ⟨10, _⟩ => ⟨S1024x128, .f32⟩
  | .local _ .vmem, ⟨11, _⟩ => ⟨S1024x512, .bf16⟩
  | .local _ .vmem, ⟨12, _⟩ => ⟨S1024x512, .bf16⟩
  | .local _ .vmem, ⟨13, _⟩ => ⟨S1024x128, .bf16⟩
  | .local _ .vmem, ⟨14, _⟩ => ⟨S1024x128, .bf16⟩
  | .local _ .vmem, ⟨15, _⟩ => ⟨S1024x128, .bf16⟩
  | .local _ .vmem, ⟨16, _⟩ => ⟨S1024x128, .bf16⟩
  | .local _ .vmem, ⟨17, _⟩ => ⟨S1024x512, .bf16⟩
  | .local _ .vmem, ⟨18, _⟩ => ⟨S1024x512, .bf16⟩
  | .local _ .vmem, ⟨19, _⟩ => ⟨S1024x128, .bf16⟩
  | .local _ .vmem, ⟨20, _⟩ => ⟨S1024x128, .bf16⟩
  | .local _ .vmem, ⟨21, _⟩ => ⟨S1024x128, .bf16⟩
  | .local _ .vmem, ⟨22, _⟩ => ⟨S1024x128, .bf16⟩
  | _, _ => ⟨S65536x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_cst_0 : Ref sig .tc := ⟨.hbm, 5, rfl⟩
abbrev main_c : Ref sig .tc := ⟨.hbm, 6, rfl⟩
abbrev main_c_1 : Ref sig .tc := ⟨.hbm, 7, rfl⟩
abbrev main_v0 : Ref sig .tc := ⟨.hbm, 8, rfl⟩
abbrev main_v1 : Ref sig .tc := ⟨.hbm, 9, rfl⟩
abbrev main_cst_2 : Ref sig .tc := ⟨.hbm, 10, rfl⟩
abbrev main_v2 : Ref sig .tc := ⟨.hbm, 11, rfl⟩
abbrev main_v3 : Ref sig .tc := ⟨.hbm, 12, rfl⟩
abbrev main_cst_3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_cst_4 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_c_5 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39_0 : Ref sig .tc := ⟨.hbm, 51, rfl⟩
abbrev main_v39_1 : Ref sig .tc := ⟨.hbm, 52, rfl⟩
abbrev main_v39_2 : Ref sig .tc := ⟨.hbm, 53, rfl⟩
abbrev main_v39_3 : Ref sig .tc := ⟨.hbm, 54, rfl⟩
abbrev main_v39_4 : Ref sig .tc := ⟨.hbm, 55, rfl⟩
abbrev main_v39_5 : Ref sig .tc := ⟨.hbm, 56, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_stg11_1 : Ref sig .tc := ⟨.vmem, 20, rfl⟩
abbrev cc0_stg12_0 : Ref sig .tc := ⟨.vmem, 21, rfl⟩
abbrev cc0_stg12_1 : Ref sig .tc := ⟨.vmem, 22, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem10_1 : DmaSem sig := 18
abbrev cc0_sem11_0 : DmaSem sig := 19
abbrev cc0_sem11_1 : DmaSem sig := 20
abbrev cc0_sem12_0 : DmaSem sig := 21
abbrev cc0_sem12_1 : DmaSem sig := 22

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_5 (i : grid0.Coords) : Fin 2 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_6 (i : grid0.Coords) : Fin 2 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1536 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1024x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1024x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1024x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1024x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1024x128 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1024x128 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1024x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S1024x128 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S1024x128 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]
-- ==== Reference3Ideal.lean ====
abbrev S65536x1024 : Shape := ⟨2, ![65536, 1024]⟩
abbrev S1024x1536 : Shape := ⟨2, ![1024, 1536]⟩
abbrev S64 : Shape := ⟨1, ![64]⟩
abbrev S32 : Shape := ⟨1, ![32]⟩
abbrev S32x64 : Shape := ⟨2, ![32, 64]⟩
abbrev S2048 : Shape := ⟨1, ![2048]⟩
abbrev S1x64 : Shape := ⟨2, ![1, 64]⟩
abbrev S2048x1 : Shape := ⟨2, ![2048, 1]⟩
abbrev S2048x2 : Shape := ⟨2, ![2048, 2]⟩
abbrev S16 : Shape := ⟨1, ![16]⟩
abbrev S_ : Shape := ⟨0, ![]⟩
abbrev S2048x2x1 : Shape := ⟨3, ![2048, 2, 1]⟩
abbrev S1x1x16 : Shape := ⟨3, ![1, 1, 16]⟩
abbrev S2048x2x16 : Shape := ⟨3, ![2048, 2, 16]⟩
abbrev S65536x1536 : Shape := ⟨2, ![65536, 1536]⟩
abbrev S32x2048x1536 : Shape := ⟨3, ![32, 2048, 1536]⟩
abbrev S32x2048x512 : Shape := ⟨3, ![32, 2048, 512]⟩
abbrev S32x2048x128 : Shape := ⟨3, ![32, 2048, 128]⟩
abbrev S32x2048x8x64 : Shape := ⟨4, ![32, 2048, 8, 64]⟩
abbrev S32x2048x2x64 : Shape := ⟨4, ![32, 2048, 2, 64]⟩
abbrev S32x2048x8 : Shape := ⟨3, ![32, 2048, 8]⟩
abbrev S32x2048x8x1 : Shape := ⟨4, ![32, 2048, 8, 1]⟩
abbrev S1x1x1x64 : Shape := ⟨4, ![1, 1, 1, 64]⟩
abbrev S32x2048x8x2x2x16 : Shape := ⟨6, ![32, 2048, 8, 2, 2, 16]⟩
abbrev S32x2048x8x2x1x16 : Shape := ⟨6, ![32, 2048, 8, 2, 1, 16]⟩
abbrev S32x2048x8x2x16 : Shape := ⟨5, ![32, 2048, 8, 2, 16]⟩
abbrev S1x2048x1x2x16 : Shape := ⟨5, ![1, 2048, 1, 2, 16]⟩
abbrev S32x2048x2 : Shape := ⟨3, ![32, 2048, 2]⟩
abbrev S32x2048x2x1 : Shape := ⟨4, ![32, 2048, 2, 1]⟩
abbrev S32x2048x2x2x2x16 : Shape := ⟨6, ![32, 2048, 2, 2, 2, 16]⟩
abbrev S32x2048x2x2x1x16 : Shape := ⟨6, ![32, 2048, 2, 2, 1, 16]⟩
abbrev S32x2048x2x2x16 : Shape := ⟨5, ![32, 2048, 2, 2, 16]⟩
abbrev S65536x2x4x64 : Shape := ⟨4, ![65536, 2, 4, 64]⟩
abbrev S65536x4x2x64 : Shape := ⟨4, ![65536, 4, 2, 64]⟩
abbrev S65536x512 : Shape := ⟨2, ![65536, 512]⟩
abbrev S65536x128 : Shape := ⟨2, ![65536, 128]⟩

abbrev nBuf : Space → Nat
  | .hbm => 136
  | .vmem => 0
  | .smem => 0
  | _ => 0

abbrev hbmTy0_0 (i : Nat) : BufTy := match i % 128 with
  | 0 => ⟨S65536x1024, .f32⟩
  | 1 => ⟨S1024x1536, .f32⟩
  | 2 => ⟨S64, .f32⟩
  | 3 => ⟨S64, .f32⟩
  | 4 => ⟨S32, .i32⟩
  | 5 => ⟨S32x64, .i32⟩
  | 6 => ⟨S2048, .i32⟩
  | 7 => ⟨S64, .i32⟩
  | 8 => ⟨S1x64, .i32⟩
  | 9 => ⟨S32x64, .i32⟩
  | 10 => ⟨S2048, .i32⟩
  | 11 => ⟨S2048x1, .i32⟩
  | 12 => ⟨S2048x1, .i32⟩
  | 13 => ⟨S2048x2, .i32⟩
  | 14 => ⟨S2048x2, .f32⟩
  | 15 => ⟨S16, .f32⟩
  | 16 => ⟨S16, .f32⟩
  | 17 => ⟨S_, .f32⟩
  | 18 => ⟨S16, .f32⟩
  | 19 => ⟨S16, .f32⟩
  | 20 => ⟨S_, .f32⟩
  | 21 => ⟨S16, .f32⟩
  | 22 => ⟨S16, .f32⟩
  | 23 => ⟨S2048x2x1, .f32⟩
  | 24 => ⟨S1x1x16, .f32⟩
  | 25 => ⟨S2048x2x16, .f32⟩
  | 26 => ⟨S2048x2x16, .f32⟩
  | 27 => ⟨S2048x2x16, .f32⟩
  | 28 => ⟨S2048x2x16, .f32⟩
  | 29 => ⟨S2048x2x16, .f32⟩
  | 30 => ⟨S65536x1536, .f32⟩
  | 31 => ⟨S32x2048x1536, .f32⟩
  | 32 => ⟨S32x2048x512, .f32⟩
  | 33 => ⟨S32x2048x128, .f32⟩
  | 34 => ⟨S32x2048x128, .f32⟩
  | 35 => ⟨S32x2048x512, .f32⟩
  | 36 => ⟨S32x2048x128, .f32⟩
  | 37 => ⟨S32x2048x128, .f32⟩
  | 38 => ⟨S32x2048x8x64, .f32⟩
  | 39 => ⟨S32x2048x2x64, .f32⟩
  | 40 => ⟨S32x2048x8x64, .f32⟩
  | 41 => ⟨S_, .f32⟩
  | 42 => ⟨S32x2048x8, .f32⟩
  | 43 => ⟨S32x2048x8x1, .f32⟩
  | 44 => ⟨S_, .f32⟩
  | 45 => ⟨S32x2048x8x1, .f32⟩
  | 46 => ⟨S32x2048x8x1, .f32⟩
  | 47 => ⟨S_, .f32⟩
  | 48 => ⟨S32x2048x8x1, .f32⟩
  | 49 => ⟨S32x2048x8x1, .f32⟩
  | 50 => ⟨S32x2048x8x1, .f32⟩
  | 51 => ⟨S32x2048x8x64, .f32⟩
  | 52 => ⟨S32x2048x8x64, .f32⟩
  | 53 => ⟨S1x1x1x64, .f32⟩
  | 54 => ⟨S32x2048x8x64, .f32⟩
  | 55 => ⟨S32x2048x8x64, .f32⟩
  | 56 => ⟨S32x2048x8x2x2x16, .f32⟩
  | 57 => ⟨S32x2048x8x2x1x16, .f32⟩
  | 58 => ⟨S32x2048x8x2x16, .f32⟩
  | 59 => ⟨S32x2048x8x2x1x16, .f32⟩
  | 60 => ⟨S32x2048x8x2x16, .f32⟩
  | 61 => ⟨S1x2048x1x2x16, .f32⟩
  | 62 => ⟨S1x2048x1x2x16, .f32⟩
  | 63 => ⟨S32x2048x8x2x16, .f32⟩
  | 64 => ⟨S32x2048x8x2x16, .f32⟩
  | 65 => ⟨S32x2048x8x2x16, .f32⟩
  | 66 => ⟨S32x2048x8x2x16, .f32⟩
  | 67 => ⟨S32x2048x8x2x16, .f32⟩
  | 68 => ⟨S32x2048x8x2x16, .f32⟩
  | 69 => ⟨S32x2048x8x2x16, .f32⟩
  | 70 => ⟨S32x2048x8x2x16, .f32⟩
  | 71 => ⟨S32x2048x8x2x16, .f32⟩
  | 72 => ⟨S32x2048x8x2x16, .f32⟩
  | 73 => ⟨S32x2048x8x2x1x16, .f32⟩
  | 74 => ⟨S32x2048x8x2x1x16, .f32⟩
  | 75 => ⟨S32x2048x8x2x2x16, .f32⟩
  | 76 => ⟨S32x2048x8x64, .f32⟩
  | 77 => ⟨S_, .f32⟩
  | 78 => ⟨S32x2048x8x64, .f32⟩
  | 79 => ⟨S32x2048x8x64, .f32⟩
  | 80 => ⟨S32x2048x2x64, .f32⟩
  | 81 => ⟨S_, .f32⟩
  | 82 => ⟨S32x2048x2, .f32⟩
  | 83 => ⟨S32x2048x2x1, .f32⟩
  | 84 => ⟨S_, .f32⟩
  | 85 => ⟨S32x2048x2x1, .f32⟩
  | 86 => ⟨S32x2048x2x1, .f32⟩
  | 87 => ⟨S_, .f32⟩
  | 88 => ⟨S32x2048x2x1, .f32⟩
  | 89 => ⟨S32x2048x2x1, .f32⟩
  | 90 => ⟨S32x2048x2x1, .f32⟩
  | 91 => ⟨S32x2048x2x64, .f32⟩
  | 92 => ⟨S32x2048x2x64, .f32⟩
  | 93 => ⟨S1x1x1x64, .f32⟩
  | 94 => ⟨S32x2048x2x64, .f32⟩
  | 95 => ⟨S32x2048x2x64, .f32⟩
  | 96 => ⟨S32x2048x2x2x2x16, .f32⟩
  | 97 => ⟨S32x2048x2x2x1x16, .f32⟩
  | 98 => ⟨S32x2048x2x2x16, .f32⟩
  | 99 => ⟨S32x2048x2x2x1x16, .f32⟩
  | 100 => ⟨S32x2048x2x2x16, .f32⟩
  | 101 => ⟨S1x2048x1x2x16, .f32⟩
  | 102 => ⟨S1x2048x1x2x16, .f32⟩
  | 103 => ⟨S32x2048x2x2x16, .f32⟩
  | 104 => ⟨S32x2048x2x2x16, .f32⟩
  | 105 => ⟨S32x2048x2x2x16, .f32⟩
  | 106 => ⟨S32x2048x2x2x16, .f32⟩
  | 107 => ⟨S32x2048x2x2x16, .f32⟩
  | 108 => ⟨S32x2048x2x2x16, .f32⟩
  | 109 => ⟨S32x2048x2x2x16, .f32⟩
  | 110 => ⟨S32x2048x2x2x16, .f32⟩
  | 111 => ⟨S32x2048x2x2x16, .f32⟩
  | 112 => ⟨S32x2048x2x2x16, .f32⟩
  | 113 => ⟨S32x2048x2x2x1x16, .f32⟩
  | 114 => ⟨S32x2048x2x2x1x16, .f32⟩
  | 115 => ⟨S32x2048x2x2x2x16, .f32⟩
  | 116 => ⟨S32x2048x2x64, .f32⟩
  | 117 => ⟨S_, .f32⟩
  | 118 => ⟨S32x2048x512, .f32⟩
  | 119 => ⟨S32x2048x512, .f32⟩
  | 120 => ⟨S65536x2x4x64, .f32⟩
  | 121 => ⟨S65536x4x2x64, .f32⟩
  | 122 => ⟨S65536x512, .f32⟩
  | 123 => ⟨S65536x512, .bf16⟩
  | 124 => ⟨S65536x128, .f32⟩
  | 125 => ⟨S65536x128, .bf16⟩
  | 126 => ⟨S65536x128, .f32⟩
  | 127 => ⟨S65536x128, .bf16⟩
  | _ => ⟨S65536x1024, .f32⟩

abbrev hbmTy0_1 (i : Nat) : BufTy := match i % 128 with
  | 0 => ⟨S65536x2x4x64, .f32⟩
  | 1 => ⟨S65536x4x2x64, .f32⟩
  | 2 => ⟨S65536x512, .f32⟩
  | 3 => ⟨S65536x512, .bf16⟩
  | 4 => ⟨S65536x128, .f32⟩
  | 5 => ⟨S65536x128, .bf16⟩
  | 6 => ⟨S65536x128, .f32⟩
  | 7 => ⟨S65536x128, .bf16⟩
  | _ => ⟨S65536x1024, .f32⟩

abbrev hbmTy (i : Nat) : BufTy := match i / 128 with
  | 0 => hbmTy0_0 i
  | 1 => hbmTy0_1 i
  | _ => ⟨S65536x1024, .f32⟩

abbrev bufTy : (tb : Table) → Fin (tcTables nBuf tb) → BufTy
  | .hbm, ⟨i, _⟩ => hbmTy i
  | _, _ => ⟨S65536x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_cst : Ref sig .tc := ⟨.hbm, 17, rfl⟩
abbrev main_v13 : Ref sig .tc := ⟨.hbm, 18, rfl⟩
abbrev main_v14 : Ref sig .tc := ⟨.hbm, 19, rfl⟩
abbrev main_cst_0 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_cst_1 : Ref sig .tc := ⟨.hbm, 41, rfl⟩
abbrev main_v35 : Ref sig .tc := ⟨.hbm, 42, rfl⟩
abbrev main_v36 : Ref sig .tc := ⟨.hbm, 43, rfl⟩
abbrev main_cst_2 : Ref sig .tc := ⟨.hbm, 44, rfl⟩
abbrev main_v37 : Ref sig .tc := ⟨.hbm, 45, rfl⟩
abbrev main_v38 : Ref sig .tc := ⟨.hbm, 46, rfl⟩
abbrev main_cst_3 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_v45 : Ref sig .tc := ⟨.hbm, 54, rfl⟩
abbrev main_v46 : Ref sig .tc := ⟨.hbm, 55, rfl⟩
abbrev main_v47 : Ref sig .tc := ⟨.hbm, 56, rfl⟩
abbrev main_v48 : Ref sig .tc := ⟨.hbm, 57, rfl⟩
abbrev main_v49 : Ref sig .tc := ⟨.hbm, 58, rfl⟩
abbrev main_v50 : Ref sig .tc := ⟨.hbm, 59, rfl⟩
abbrev main_v51 : Ref sig .tc := ⟨.hbm, 60, rfl⟩
abbrev main_v52 : Ref sig .tc := ⟨.hbm, 61, rfl⟩
abbrev main_v53 : Ref sig .tc := ⟨.hbm, 62, rfl⟩
abbrev main_v54 : Ref sig .tc := ⟨.hbm, 63, rfl⟩
abbrev main_v55 : Ref sig .tc := ⟨.hbm, 64, rfl⟩
abbrev main_v56 : Ref sig .tc := ⟨.hbm, 65, rfl⟩
abbrev main_v57 : Ref sig .tc := ⟨.hbm, 66, rfl⟩
abbrev main_v58 : Ref sig .tc := ⟨.hbm, 67, rfl⟩
abbrev main_v59 : Ref sig .tc := ⟨.hbm, 68, rfl⟩
abbrev main_v60 : Ref sig .tc := ⟨.hbm, 69, rfl⟩
abbrev main_v61 : Ref sig .tc := ⟨.hbm, 70, rfl⟩
abbrev main_v62 : Ref sig .tc := ⟨.hbm, 71, rfl⟩
abbrev main_v63 : Ref sig .tc := ⟨.hbm, 72, rfl⟩
abbrev main_v64 : Ref sig .tc := ⟨.hbm, 73, rfl⟩
abbrev main_v65 : Ref sig .tc := ⟨.hbm, 74, rfl⟩
abbrev main_v66 : Ref sig .tc := ⟨.hbm, 75, rfl⟩
abbrev main_v67 : Ref sig .tc := ⟨.hbm, 76, rfl⟩
abbrev main_cst_4 : Ref sig .tc := ⟨.hbm, 77, rfl⟩
abbrev main_v68 : Ref sig .tc := ⟨.hbm, 78, rfl⟩
abbrev main_v69 : Ref sig .tc := ⟨.hbm, 79, rfl⟩
abbrev main_v70 : Ref sig .tc := ⟨.hbm, 80, rfl⟩
abbrev main_cst_5 : Ref sig .tc := ⟨.hbm, 81, rfl⟩
abbrev main_v71 : Ref sig .tc := ⟨.hbm, 82, rfl⟩
abbrev main_v72 : Ref sig .tc := ⟨.hbm, 83, rfl⟩
abbrev main_cst_6 : Ref sig .tc := ⟨.hbm, 84, rfl⟩
abbrev main_v73 : Ref sig .tc := ⟨.hbm, 85, rfl⟩
abbrev main_v74 : Ref sig .tc := ⟨.hbm, 86, rfl⟩
abbrev main_cst_7 : Ref sig .tc := ⟨.hbm, 87, rfl⟩
abbrev main_v75 : Ref sig .tc := ⟨.hbm, 88, rfl⟩
abbrev main_v76 : Ref sig .tc := ⟨.hbm, 89, rfl⟩
abbrev main_v77 : Ref sig .tc := ⟨.hbm, 90, rfl⟩
abbrev main_v78 : Ref sig .tc := ⟨.hbm, 91, rfl⟩
abbrev main_v79 : Ref sig .tc := ⟨.hbm, 92, rfl⟩
abbrev main_v80 : Ref sig .tc := ⟨.hbm, 93, rfl⟩
abbrev main_v81 : Ref sig .tc := ⟨.hbm, 94, rfl⟩
abbrev main_v82 : Ref sig .tc := ⟨.hbm, 95, rfl⟩
abbrev main_v83 : Ref sig .tc := ⟨.hbm, 96, rfl⟩
abbrev main_v84 : Ref sig .tc := ⟨.hbm, 97, rfl⟩
abbrev main_v85 : Ref sig .tc := ⟨.hbm, 98, rfl⟩
abbrev main_v86 : Ref sig .tc := ⟨.hbm, 99, rfl⟩
abbrev main_v87 : Ref sig .tc := ⟨.hbm, 100, rfl⟩
abbrev main_v88 : Ref sig .tc := ⟨.hbm, 101, rfl⟩
abbrev main_v89 : Ref sig .tc := ⟨.hbm, 102, rfl⟩
abbrev main_v90 : Ref sig .tc := ⟨.hbm, 103, rfl⟩
abbrev main_v91 : Ref sig .tc := ⟨.hbm, 104, rfl⟩
abbrev main_v92 : Ref sig .tc := ⟨.hbm, 105, rfl⟩
abbrev main_v93 : Ref sig .tc := ⟨.hbm, 106, rfl⟩
abbrev main_v94 : Ref sig .tc := ⟨.hbm, 107, rfl⟩
abbrev main_v95 : Ref sig .tc := ⟨.hbm, 108, rfl⟩
abbrev main_v96 : Ref sig .tc := ⟨.hbm, 109, rfl⟩
abbrev main_v97 : Ref sig .tc := ⟨.hbm, 110, rfl⟩
abbrev main_v98 : Ref sig .tc := ⟨.hbm, 111, rfl⟩
abbrev main_v99 : Ref sig .tc := ⟨.hbm, 112, rfl⟩
abbrev main_v100 : Ref sig .tc := ⟨.hbm, 113, rfl⟩
abbrev main_v101 : Ref sig .tc := ⟨.hbm, 114, rfl⟩
abbrev main_v102 : Ref sig .tc := ⟨.hbm, 115, rfl⟩
abbrev main_v103 : Ref sig .tc := ⟨.hbm, 116, rfl⟩
abbrev main_cst_8 : Ref sig .tc := ⟨.hbm, 117, rfl⟩
abbrev main_v104 : Ref sig .tc := ⟨.hbm, 118, rfl⟩
abbrev main_v105 : Ref sig .tc := ⟨.hbm, 119, rfl⟩
abbrev main_v106 : Ref sig .tc := ⟨.hbm, 120, rfl⟩
abbrev main_v107 : Ref sig .tc := ⟨.hbm, 121, rfl⟩
abbrev main_v108 : Ref sig .tc := ⟨.hbm, 122, rfl⟩
abbrev main_v109 : Ref sig .tc := ⟨.hbm, 123, rfl⟩
abbrev main_v110 : Ref sig .tc := ⟨.hbm, 124, rfl⟩
abbrev main_v111 : Ref sig .tc := ⟨.hbm, 125, rfl⟩
abbrev main_v112 : Ref sig .tc := ⟨.hbm, 126, rfl⟩
abbrev main_v113 : Ref sig .tc := ⟨.hbm, 127, rfl⟩
abbrev main_v114 : Ref sig .tc := ⟨.hbm, 128, rfl⟩
abbrev main_v115 : Ref sig .tc := ⟨.hbm, 129, rfl⟩
abbrev main_v116 : Ref sig .tc := ⟨.hbm, 130, rfl⟩
abbrev main_v117 : Ref sig .tc := ⟨.hbm, 131, rfl⟩
abbrev main_v118 : Ref sig .tc := ⟨.hbm, 132, rfl⟩
abbrev main_v119 : Ref sig .tc := ⟨.hbm, 133, rfl⟩
abbrev main_v120 : Ref sig .tc := ⟨.hbm, 134, rfl⟩
abbrev main_v121 : Ref sig .tc := ⟨.hbm, 135, rfl⟩

abbrev nD : Nat := 1
abbrev τ : Topo := Topo.v7x

variable {F : FTy → Type} [FloatOps F]
-- ==== Kernel4.lean ====
abbrev S65536x512 : Shape := ⟨2, ![65536, 512]⟩
abbrev S65536x128 : Shape := ⟨2, ![65536, 128]⟩
abbrev S8 : Shape := ⟨1, ![8]⟩
abbrev S512 : Shape := ⟨1, ![512]⟩
abbrev S_ : Shape := ⟨0, ![]⟩
abbrev S512x1 : Shape := ⟨2, ![512, 1]⟩
abbrev S1x512 : Shape := ⟨2, ![1, 512]⟩
abbrev S512x512 : Shape := ⟨2, ![512, 512]⟩
abbrev S2048x128 : Shape := ⟨2, ![2048, 128]⟩
abbrev S128x128 : Shape := ⟨2, ![128, 128]⟩
abbrev S384x128 : Shape := ⟨2, ![384, 128]⟩
abbrev S128x384 : Shape := ⟨2, ![128, 384]⟩
abbrev S1024x128 : Shape := ⟨2, ![1024, 128]⟩
abbrev S1024x384 : Shape := ⟨2, ![1024, 384]⟩
abbrev S1 : Shape := ⟨1, ![1]⟩
abbrev S128 : Shape := ⟨1, ![128]⟩
abbrev S128x1 : Shape := ⟨2, ![128, 1]⟩
abbrev S1x128 : Shape := ⟨2, ![1, 128]⟩

abbrev nBuf : Space → Nat
  | .hbm => 15
  | .vmem => 9
  | .smem => 1
  | _ => 0

abbrev bufTy : (tb : Table) → Fin (tcTables nBuf tb) → BufTy
  | .hbm, ⟨0, _⟩ => ⟨S65536x512, .bf16⟩
  | .hbm, ⟨1, _⟩ => ⟨S65536x128, .bf16⟩
  | .hbm, ⟨2, _⟩ => ⟨S65536x128, .bf16⟩
  | .hbm, ⟨3, _⟩ => ⟨S8, .f32⟩
  | .hbm, ⟨4, _⟩ => ⟨S512, .f32⟩
  | .hbm, ⟨5, _⟩ => ⟨S512, .i32⟩
  | .hbm, ⟨6, _⟩ => ⟨S512, .i1⟩
  | .hbm, ⟨7, _⟩ => ⟨S_, .i32⟩
  | .hbm, ⟨8, _⟩ => ⟨S512, .i32⟩
  | .hbm, ⟨9, _⟩ => ⟨S512, .i32⟩
  | .hbm, ⟨10, _⟩ => ⟨S512, .i32⟩
  | .hbm, ⟨11, _⟩ => ⟨S512x1, .i32⟩
  | .hbm, ⟨12, _⟩ => ⟨S512, .f32⟩
  | .hbm, ⟨13, _⟩ => ⟨S1x512, .f32⟩
  | .hbm, ⟨14, _⟩ => ⟨S65536x512, .bf16⟩
  | .local _ .vmem, ⟨0, _⟩ => ⟨S512x512, .bf16⟩
  | .local _ .vmem, ⟨1, _⟩ => ⟨S512x512, .bf16⟩
  | .local _ .vmem, ⟨2, _⟩ => ⟨S2048x128, .bf16⟩
  | .local _ .vmem, ⟨3, _⟩ => ⟨S2048x128, .bf16⟩
  | .local _ .vmem, ⟨4, _⟩ => ⟨S2048x128, .bf16⟩
  | .local _ .vmem, ⟨5, _⟩ => ⟨S2048x128, .bf16⟩
  | .local _ .vmem, ⟨6, _⟩ => ⟨S1x512, .f32⟩
  | .local _ .vmem, ⟨7, _⟩ => ⟨S512x512, .bf16⟩
  | .local _ .vmem, ⟨8, _⟩ => ⟨S512x512, .bf16⟩
  | .local _ .smem, ⟨0, _⟩ => ⟨S8, .f32⟩
  | _, _ => ⟨S65536x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .smem, ⟨0, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_c_0 : Ref sig .tc := ⟨.hbm, 6, rfl⟩
abbrev main_c_1 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![32, 4], ![false, false]⟩

def k0_mult1 (i : grid0.Coords) : BitVec 32 :=
  let c15_i32 : BitVec 32 := 15#32
  let c0_i32_0 : BitVec 32 := 0#32
  let arg1 : BitVec 32 := BitVec.ofNat 32 (i 1).val
  let c4_i32 : BitVec 32 := 4#32
  let v0 : BitVec 32 := Scalar.muli arg1 c4_i32
  let c0_i32 : BitVec 32 := 0#32
  let v1 : BitVec 32 := Scalar.addi v0 c0_i32
  let c_m1_i32 : BitVec 32 := 4294967295#32
  let v2 : BitVec 32 := Scalar.addi v1 c_m1_i32
  let v3 : BitVec 32 := Scalar.maxsi c0_i32_0 v2
  let v4 : BitVec 32 := Scalar.minsi c15_i32 v3
  let c128_i32 : BitVec 32 := 128#32
  let v5 : BitVec 32 := Scalar.muli v4 c128_i32
  v5
def k0_off1 (i : grid0.Coords) (c0_i32 : BitVec 32) (c_m1_i32 : BitVec 32) : Fin 2 → Nat :=
  let c15_i32 : BitVec 32 := 15#32
  let c0_i32_0 : BitVec 32 := 0#32
  let arg1 : BitVec 32 := BitVec.ofNat 32 (i 1).val
  let c4_i32 : BitVec 32 := 4#32
  let v0 : BitVec 32 := Scalar.muli arg1 c4_i32
  let v1 : BitVec 32 := Scalar.addi v0 c0_i32
  let v2 : BitVec 32 := Scalar.addi v1 c_m1_i32
  let v3 : BitVec 32 := Scalar.maxsi c0_i32_0 v2
  let v4 : BitVec 32 := Scalar.minsi c15_i32 v3
  let c128_i32 : BitVec 32 := 128#32
  let v5 : BitVec 32 := Scalar.muli v4 c128_i32
  let v6 : BitVec 32 := v5
  let v7 : Index := Scalar.indexCast v6
  let c0 : Index := 0#32
  ![v7.toNat, 0]
def k0_off1_at (r : Fin 12) : BitVec 32 × BitVec 32 :=
  if r.val < 6 then
    if r.val < 3 then
      if r.val < 1 then
        (0#32, 4294967295#32)
      else
        if r.val < 2 then
          (0#32, 0#32)
        else
          (0#32, 1#32)
    else
      if r.val < 4 then
        (1#32, 4294967295#32)
      else
        if r.val < 5 then
          (1#32, 0#32)
        else
          (1#32, 1#32)
  else
    if r.val < 9 then
      if r.val < 7 then
        (2#32, 4294967295#32)
      else
        if r.val < 8 then
          (2#32, 0#32)
        else
          (2#32, 1#32)
    else
      if r.val < 10 then
        (3#32, 4294967295#32)
      else
        if r.val < 11 then
          (3#32, 0#32)
        else
          (3#32, 1#32)
def k0_mult2 (i : grid0.Coords) : BitVec 32 :=
  let c15_i32_4 : BitVec 32 := 15#32
  let c0_i32_3 : BitVec 32 := 0#32
  let arg1 : BitVec 32 := BitVec.ofNat 32 (i 1).val
  let c4_i32 : BitVec 32 := 4#32
  let v0 : BitVec 32 := Scalar.muli arg1 c4_i32
  let c0_i32 : BitVec 32 := 0#32
  let v1 : BitVec 32 := Scalar.addi v0 c0_i32
  let c0_i32_2 : BitVec 32 := 0#32
  let v11 : BitVec 32 := Scalar.addi v1 c0_i32_2
  let v12 : BitVec 32 := Scalar.maxsi c0_i32_3 v11
  let v13 : BitVec 32 := Scalar.minsi c15_i32_4 v12
  let c128_i32_5 : BitVec 32 := 128#32
  let v14 : BitVec 32 := Scalar.muli v13 c128_i32_5
  v14
def k0_mult3 (i : grid0.Coords) : BitVec 32 :=
  let c15_i32_9 : BitVec 32 := 15#32
  let c0_i32_8 : BitVec 32 := 0#32
  let arg1 : BitVec 32 := BitVec.ofNat 32 (i 1).val
  let c4_i32 : BitVec 32 := 4#32
  let v0 : BitVec 32 := Scalar.muli arg1 c4_i32
  let c0_i32 : BitVec 32 := 0#32
  let v1 : BitVec 32 := Scalar.addi v0 c0_i32
  let c1_i32 : BitVec 32 := 1#32
  let v20 : BitVec 32 := Scalar.addi v1 c1_i32
  let v21 : BitVec 32 := Scalar.maxsi c0_i32_8 v20
  let v22 : BitVec 32 := Scalar.minsi c15_i32_9 v21
  let c128_i32_10 : BitVec 32 := 128#32
  let v23 : BitVec 32 := Scalar.muli v22 c128_i32_10
  v23
def k0_mult4 (i : grid0.Coords) : BitVec 32 :=
  let c15_i32_134 : BitVec 32 := 15#32
  let c0_i32_133 : BitVec 32 := 0#32
  let arg1 : BitVec 32 := BitVec.ofNat 32 (i 1).val
  let c4_i32_130 : BitVec 32 := 4#32
  let v418 : BitVec 32 := Scalar.muli arg1 c4_i32_130
  let c1_i32_131 : BitVec 32 := 1#32
  let v419 : BitVec 32 := Scalar.addi v418 c1_i32_131
  let c_m1_i32_132 : BitVec 32 := 4294967295#32
  let v420 : BitVec 32 := Scalar.addi v419 c_m1_i32_132
  let v421 : BitVec 32 := Scalar.maxsi c0_i32_133 v420
  let v422 : BitVec 32 := Scalar.minsi c15_i32_134 v421
  let c128_i32_135 : BitVec 32 := 128#32
  let v423 : BitVec 32 := Scalar.muli v422 c128_i32_135
  v423
def k0_mult5 (i : grid0.Coords) : BitVec 32 :=
  let c15_i32_140 : BitVec 32 := 15#32
  let c0_i32_139 : BitVec 32 := 0#32
  let arg1 : BitVec 32 := BitVec.ofNat 32 (i 1).val
  let c4_i32_130 : BitVec 32 := 4#32
  let v418 : BitVec 32 := Scalar.muli arg1 c4_i32_130
  let c1_i32_131 : BitVec 32 := 1#32
  let v419 : BitVec 32 := Scalar.addi v418 c1_i32_131
  let c0_i32_138 : BitVec 32 := 0#32
  let v429 : BitVec 32 := Scalar.addi v419 c0_i32_138
  let v430 : BitVec 32 := Scalar.maxsi c0_i32_139 v429
  let v431 : BitVec 32 := Scalar.minsi c15_i32_140 v430
  let c128_i32_141 : BitVec 32 := 128#32
  let v432 : BitVec 32 := Scalar.muli v431 c128_i32_141
  v432
def k0_mult6 (i : grid0.Coords) : BitVec 32 :=
  let c15_i32_146 : BitVec 32 := 15#32
  let c0_i32_145 : BitVec 32 := 0#32
  let arg1 : BitVec 32 := BitVec.ofNat 32 (i 1).val
  let c4_i32_130 : BitVec 32 := 4#32
  let v418 : BitVec 32 := Scalar.muli arg1 c4_i32_130
  let c1_i32_131 : BitVec 32 := 1#32
  let v419 : BitVec 32 := Scalar.addi v418 c1_i32_131
  let c1_i32_144 : BitVec 32 := 1#32
  let v438 : BitVec 32 := Scalar.addi v419 c1_i32_144
  let v439 : BitVec 32 := Scalar.maxsi c0_i32_145 v438
  let v440 : BitVec 32 := Scalar.minsi c15_i32_146 v439
  let c128_i32_147 : BitVec 32 := 128#32
  let v441 : BitVec 32 := Scalar.muli v440 c128_i32_147
  v441
def k0_mult7 (i : grid0.Coords) : BitVec 32 :=
  let c15_i32_283 : BitVec 32 := 15#32
  let c0_i32_282 : BitVec 32 := 0#32
  let arg1 : BitVec 32 := BitVec.ofNat 32 (i 1).val
  let c4_i32_280 : BitVec 32 := 4#32
  let v836 : BitVec 32 := Scalar.muli arg1 c4_i32_280
  let c2_i32 : BitVec 32 := 2#32
  let v837 : BitVec 32 := Scalar.addi v836 c2_i32
  let c_m1_i32_281 : BitVec 32 := 4294967295#32
  let v838 : BitVec 32 := Scalar.addi v837 c_m1_i32_281
  let v839 : BitVec 32 := Scalar.maxsi c0_i32_282 v838
  let v840 : BitVec 32 := Scalar.minsi c15_i32_283 v839
  let c128_i32_284 : BitVec 32 := 128#32
  let v841 : BitVec 32 := Scalar.muli v840 c128_i32_284
  v841
def k0_mult8 (i : grid0.Coords) : BitVec 32 :=
  let c15_i32_289 : BitVec 32 := 15#32
  let c0_i32_288 : BitVec 32 := 0#32
  let arg1 : BitVec 32 := BitVec.ofNat 32 (i 1).val
  let c4_i32_280 : BitVec 32 := 4#32
  let v836 : BitVec 32 := Scalar.muli arg1 c4_i32_280
  let c2_i32 : BitVec 32 := 2#32
  let v837 : BitVec 32 := Scalar.addi v836 c2_i32
  let c0_i32_287 : BitVec 32 := 0#32
  let v847 : BitVec 32 := Scalar.addi v837 c0_i32_287
  let v848 : BitVec 32 := Scalar.maxsi c0_i32_288 v847
  let v849 : BitVec 32 := Scalar.minsi c15_i32_289 v848
  let c128_i32_290 : BitVec 32 := 128#32
  let v850 : BitVec 32 := Scalar.muli v849 c128_i32_290
  v850
def k0_mult9 (i : grid0.Coords) : BitVec 32 :=
  let c15_i32_295 : BitVec 32 := 15#32
  let c0_i32_294 : BitVec 32 := 0#32
  let arg1 : BitVec 32 := BitVec.ofNat 32 (i 1).val
  let c4_i32_280 : BitVec 32 := 4#32
  let v836 : BitVec 32 := Scalar.muli arg1 c4_i32_280
  let c2_i32 : BitVec 32 := 2#32
  let v837 : BitVec 32 := Scalar.addi v836 c2_i32
  let c1_i32_293 : BitVec 32 := 1#32
  let v856 : BitVec 32 := Scalar.addi v837 c1_i32_293
  let v857 : BitVec 32 := Scalar.maxsi c0_i32_294 v856
  let v858 : BitVec 32 := Scalar.minsi c15_i32_295 v857
  let c128_i32_296 : BitVec 32 := 128#32
  let v859 : BitVec 32 := Scalar.muli v858 c128_i32_296
  v859
def k0_mult10 (i : grid0.Coords) : BitVec 32 :=
  let c15_i32_432 : BitVec 32 := 15#32
  let c0_i32_431 : BitVec 32 := 0#32
  let arg1 : BitVec 32 := BitVec.ofNat 32 (i 1).val
  let c4_i32_429 : BitVec 32 := 4#32
  let v1254 : BitVec 32 := Scalar.muli arg1 c4_i32_429
  let c3_i32 : BitVec 32 := 3#32
  let v1255 : BitVec 32 := Scalar.addi v1254 c3_i32
  let c_m1_i32_430 : BitVec 32 := 4294967295#32
  let v1256 : BitVec 32 := Scalar.addi v1255 c_m1_i32_430
  let v1257 : BitVec 32 := Scalar.maxsi c0_i32_431 v1256
  let v1258 : BitVec 32 := Scalar.minsi c15_i32_432 v1257
  let c128_i32_433 : BitVec 32 := 128#32
  let v1259 : BitVec 32 := Scalar.muli v1258 c128_i32_433
  v1259
def k0_mult11 (i : grid0.Coords) : BitVec 32 :=
  let c15_i32_438 : BitVec 32 := 15#32
  let c0_i32_437 : BitVec 32 := 0#32
  let arg1 : BitVec 32 := BitVec.ofNat 32 (i 1).val
  let c4_i32_429 : BitVec 32 := 4#32
  let v1254 : BitVec 32 := Scalar.muli arg1 c4_i32_429
  let c3_i32 : BitVec 32 := 3#32
  let v1255 : BitVec 32 := Scalar.addi v1254 c3_i32
  let c0_i32_436 : BitVec 32 := 0#32
  let v1265 : BitVec 32 := Scalar.addi v1255 c0_i32_436
  let v1266 : BitVec 32 := Scalar.maxsi c0_i32_437 v1265
  let v1267 : BitVec 32 := Scalar.minsi c15_i32_438 v1266
  let c128_i32_439 : BitVec 32 := 128#32
  let v1268 : BitVec 32 := Scalar.muli v1267 c128_i32_439
  v1268
def k0_mult12 (i : grid0.Coords) : BitVec 32 :=
  let c15_i32_444 : BitVec 32 := 15#32
  let c0_i32_443 : BitVec 32 := 0#32
  let arg1 : BitVec 32 := BitVec.ofNat 32 (i 1).val
  let c4_i32_429 : BitVec 32 := 4#32
  let v1254 : BitVec 32 := Scalar.muli arg1 c4_i32_429
  let c3_i32 : BitVec 32 := 3#32
  let v1255 : BitVec 32 := Scalar.addi v1254 c3_i32
  let c1_i32_442 : BitVec 32 := 1#32
  let v1274 : BitVec 32 := Scalar.addi v1255 c1_i32_442
  let v1275 : BitVec 32 := Scalar.maxsi c0_i32_443 v1274
  let v1276 : BitVec 32 := Scalar.minsi c15_i32_444 v1275
  let c128_i32_445 : BitVec 32 := 128#32
  let v1277 : BitVec 32 := Scalar.muli v1276 c128_i32_445
  v1277
def cc0_transform_0 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_1 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

abbrev stage0_0 : Fin 1 → Memref sig .tc .smem S8 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S2048x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S2048x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S512x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Kernel4Ideal.lean ====
variable {F : FTy → Type} [FloatOps F] [Named F]
def κ : String → Option EReal := fun
  | "mask" => some ⊥
  | _ => none
-- ==== Reference4Ideal.lean ====
abbrev S65536x512 : Shape := ⟨2, ![65536, 512]⟩
abbrev S65536x128 : Shape := ⟨2, ![65536, 128]⟩
abbrev S8 : Shape := ⟨1, ![8]⟩
abbrev S512 : Shape := ⟨1, ![512]⟩
abbrev S_ : Shape := ⟨0, ![]⟩
abbrev S1 : Shape := ⟨1, ![1]⟩
abbrev S32x16x128x4x2x64 : Shape := ⟨6, ![32, 16, 128, 4, 2, 64]⟩
abbrev S32x16x128x2x4x64 : Shape := ⟨6, ![32, 16, 128, 2, 4, 64]⟩
abbrev S32x2048x2x64 : Shape := ⟨4, ![32, 2048, 2, 64]⟩
abbrev S32x2304x2x64 : Shape := ⟨4, ![32, 2304, 2, 64]⟩
abbrev S2x4x1x1 : Shape := ⟨4, ![2, 4, 1, 1]⟩
abbrev S2x4x1 : Shape := ⟨3, ![2, 4, 1]⟩
abbrev S128 : Shape := ⟨1, ![128]⟩
abbrev S384 : Shape := ⟨1, ![384]⟩
abbrev S32x384x2x64 : Shape := ⟨4, ![32, 384, 2, 64]⟩
abbrev S32x1x384x2x64 : Shape := ⟨5, ![32, 1, 384, 2, 64]⟩
abbrev S32x16x384x2x64 : Shape := ⟨5, ![32, 16, 384, 2, 64]⟩
abbrev S16 : Shape := ⟨1, ![16]⟩
abbrev S16x1 : Shape := ⟨2, ![16, 1]⟩
abbrev S1x128 : Shape := ⟨2, ![1, 128]⟩
abbrev S16x128 : Shape := ⟨2, ![16, 128]⟩
abbrev S1x384 : Shape := ⟨2, ![1, 384]⟩
abbrev S16x384 : Shape := ⟨2, ![16, 384]⟩
abbrev S16x128x1 : Shape := ⟨3, ![16, 128, 1]⟩
abbrev S16x1x384 : Shape := ⟨3, ![16, 1, 384]⟩
abbrev S16x128x384 : Shape := ⟨3, ![16, 128, 384]⟩
abbrev S32x16x2x384x128x4 : Shape := ⟨6, ![32, 16, 2, 384, 128, 4]⟩
abbrev S32x16x2x4x128x384 : Shape := ⟨6, ![32, 16, 2, 4, 128, 384]⟩
abbrev S16x1x1x128x384 : Shape := ⟨5, ![16, 1, 1, 128, 384]⟩
abbrev S1x2x4x1x1 : Shape := ⟨5, ![1, 2, 4, 1, 1]⟩
abbrev S16x2x4x128x384 : Shape := ⟨5, ![16, 2, 4, 128, 384]⟩
abbrev S1x16x2x4x128x384 : Shape := ⟨6, ![1, 16, 2, 4, 128, 384]⟩
abbrev S32x16x2x4x128 : Shape := ⟨5, ![32, 16, 2, 4, 128]⟩
abbrev S1x1x2x4x1 : Shape := ⟨5, ![1, 1, 2, 4, 1]⟩
abbrev S32x16x2x4x128x1 : Shape := ⟨6, ![32, 16, 2, 4, 128, 1]⟩
abbrev S32x16x2x64x4x128 : Shape := ⟨6, ![32, 16, 2, 64, 4, 128]⟩
abbrev S32x2048x8x64 : Shape := ⟨4, ![32, 2048, 8, 64]⟩
abbrev S8x64 : Shape := ⟨2, ![8, 64]⟩
abbrev S32x2048x8 : Shape := ⟨3, ![32, 2048, 8]⟩
abbrev S32x2048x8x1 : Shape := ⟨4, ![32, 2048, 8, 1]⟩
abbrev S1x1x8x64 : Shape := ⟨4, ![1, 1, 8, 64]⟩
abbrev S32x2048x2x4x64 : Shape := ⟨5, ![32, 2048, 2, 4, 64]⟩
abbrev S32x2048x4x2x64 : Shape := ⟨5, ![32, 2048, 4, 2, 64]⟩

abbrev nBuf : Space → Nat
  | .hbm => 202
  | .vmem => 0
  | .smem => 0
  | _ => 0

abbrev hbmTy0_0 (i : Nat) : BufTy := match i % 128 with
  | 0 => ⟨S65536x512, .bf16⟩
  | 1 => ⟨S65536x128, .bf16⟩
  | 2 => ⟨S65536x128, .bf16⟩
  | 3 => ⟨S8, .f32⟩
  | 4 => ⟨S512, .f32⟩
  | 5 => ⟨S65536x512, .f32⟩
  | 6 => ⟨S65536x128, .f32⟩
  | 7 => ⟨S65536x128, .f32⟩
  | 8 => ⟨S_, .f32⟩
  | 9 => ⟨S1, .f32⟩
  | 10 => ⟨S_, .f32⟩
  | 11 => ⟨S1, .f32⟩
  | 12 => ⟨S_, .f32⟩
  | 13 => ⟨S1, .f32⟩
  | 14 => ⟨S_, .f32⟩
  | 15 => ⟨S1, .f32⟩
  | 16 => ⟨S_, .f32⟩
  | 17 => ⟨S1, .f32⟩
  | 18 => ⟨S_, .f32⟩
  | 19 => ⟨S1, .f32⟩
  | 20 => ⟨S_, .f32⟩
  | 21 => ⟨S1, .f32⟩
  | 22 => ⟨S_, .f32⟩
  | 23 => ⟨S1, .f32⟩
  | 24 => ⟨S8, .f32⟩
  | 25 => ⟨S32x16x128x4x2x64, .f32⟩
  | 26 => ⟨S32x16x128x2x4x64, .f32⟩
  | 27 => ⟨S32x2048x2x64, .f32⟩
  | 28 => ⟨S_, .i32⟩
  | 29 => ⟨S_, .f32⟩
  | 30 => ⟨S32x2304x2x64, .f32⟩
  | 31 => ⟨S32x2048x2x64, .f32⟩
  | 32 => ⟨S_, .i32⟩
  | 33 => ⟨S_, .f32⟩
  | 34 => ⟨S32x2304x2x64, .f32⟩
  | 35 => ⟨S2x4x1x1, .f32⟩
  | 36 => ⟨S2x4x1, .f32⟩
  | 37 => ⟨S128, .i32⟩
  | 38 => ⟨S384, .i32⟩
  | 39 => ⟨S_, .i32⟩
  | 40 => ⟨S384, .i32⟩
  | 41 => ⟨S384, .i32⟩
  | 42 => ⟨S32x384x2x64, .f32⟩
  | 43 => ⟨S32x384x2x64, .f32⟩
  | 44 => ⟨S32x384x2x64, .f32⟩
  | 45 => ⟨S32x384x2x64, .f32⟩
  | 46 => ⟨S32x384x2x64, .f32⟩
  | 47 => ⟨S32x384x2x64, .f32⟩
  | 48 => ⟨S32x384x2x64, .f32⟩
  | 49 => ⟨S32x384x2x64, .f32⟩
  | 50 => ⟨S32x384x2x64, .f32⟩
  | 51 => ⟨S32x384x2x64, .f32⟩
  | 52 => ⟨S32x384x2x64, .f32⟩
  | 53 => ⟨S32x384x2x64, .f32⟩
  | 54 => ⟨S32x384x2x64, .f32⟩
  | 55 => ⟨S32x384x2x64, .f32⟩
  | 56 => ⟨S32x384x2x64, .f32⟩
  | 57 => ⟨S32x384x2x64, .f32⟩
  | 58 => ⟨S32x1x384x2x64, .f32⟩
  | 59 => ⟨S32x1x384x2x64, .f32⟩
  | 60 => ⟨S32x1x384x2x64, .f32⟩
  | 61 => ⟨S32x1x384x2x64, .f32⟩
  | 62 => ⟨S32x1x384x2x64, .f32⟩
  | 63 => ⟨S32x1x384x2x64, .f32⟩
  | 64 => ⟨S32x1x384x2x64, .f32⟩
  | 65 => ⟨S32x1x384x2x64, .f32⟩
  | 66 => ⟨S32x1x384x2x64, .f32⟩
  | 67 => ⟨S32x1x384x2x64, .f32⟩
  | 68 => ⟨S32x1x384x2x64, .f32⟩
  | 69 => ⟨S32x1x384x2x64, .f32⟩
  | 70 => ⟨S32x1x384x2x64, .f32⟩
  | 71 => ⟨S32x1x384x2x64, .f32⟩
  | 72 => ⟨S32x1x384x2x64, .f32⟩
  | 73 => ⟨S32x1x384x2x64, .f32⟩
  | 74 => ⟨S32x16x384x2x64, .f32⟩
  | 75 => ⟨S32x384x2x64, .f32⟩
  | 76 => ⟨S32x384x2x64, .f32⟩
  | 77 => ⟨S32x384x2x64, .f32⟩
  | 78 => ⟨S32x384x2x64, .f32⟩
  | 79 => ⟨S32x384x2x64, .f32⟩
  | 80 => ⟨S32x384x2x64, .f32⟩
  | 81 => ⟨S32x384x2x64, .f32⟩
  | 82 => ⟨S32x384x2x64, .f32⟩
  | 83 => ⟨S32x384x2x64, .f32⟩
  | 84 => ⟨S32x384x2x64, .f32⟩
  | 85 => ⟨S32x384x2x64, .f32⟩
  | 86 => ⟨S32x384x2x64, .f32⟩
  | 87 => ⟨S32x384x2x64, .f32⟩
  | 88 => ⟨S32x384x2x64, .f32⟩
  | 89 => ⟨S32x384x2x64, .f32⟩
  | 90 => ⟨S32x384x2x64, .f32⟩
  | 91 => ⟨S32x1x384x2x64, .f32⟩
  | 92 => ⟨S32x1x384x2x64, .f32⟩
  | 93 => ⟨S32x1x384x2x64, .f32⟩
  | 94 => ⟨S32x1x384x2x64, .f32⟩
  | 95 => ⟨S32x1x384x2x64, .f32⟩
  | 96 => ⟨S32x1x384x2x64, .f32⟩
  | 97 => ⟨S32x1x384x2x64, .f32⟩
  | 98 => ⟨S32x1x384x2x64, .f32⟩
  | 99 => ⟨S32x1x384x2x64, .f32⟩
  | 100 => ⟨S32x1x384x2x64, .f32⟩
  | 101 => ⟨S32x1x384x2x64, .f32⟩
  | 102 => ⟨S32x1x384x2x64, .f32⟩
  | 103 => ⟨S32x1x384x2x64, .f32⟩
  | 104 => ⟨S32x1x384x2x64, .f32⟩
  | 105 => ⟨S32x1x384x2x64, .f32⟩
  | 106 => ⟨S32x1x384x2x64, .f32⟩
  | 107 => ⟨S32x16x384x2x64, .f32⟩
  | 108 => ⟨S16, .i32⟩
  | 109 => ⟨S16x1, .i32⟩
  | 110 => ⟨S_, .i32⟩
  | 111 => ⟨S16x1, .i32⟩
  | 112 => ⟨S16x1, .i32⟩
  | 113 => ⟨S1x128, .i32⟩
  | 114 => ⟨S16x128, .i32⟩
  | 115 => ⟨S16x128, .i32⟩
  | 116 => ⟨S16x128, .i32⟩
  | 117 => ⟨S1x384, .i32⟩
  | 118 => ⟨S16x384, .i32⟩
  | 119 => ⟨S16x384, .i32⟩
  | 120 => ⟨S16x384, .i32⟩
  | 121 => ⟨S16x128x1, .i32⟩
  | 122 => ⟨S16x1x384, .i32⟩
  | 123 => ⟨S16x128x384, .i32⟩
  | 124 => ⟨S16x128x384, .i32⟩
  | 125 => ⟨S16x128x384, .i32⟩
  | 126 => ⟨S16x128x384, .i32⟩
  | 127 => ⟨S_, .i32⟩
  | _ => ⟨S65536x512, .bf16⟩

abbrev hbmTy0_1 (i : Nat) : BufTy := match i % 128 with
  | 0 => ⟨S16x128x384, .i32⟩
  | 1 => ⟨S16x128x384, .i1⟩
  | 2 => ⟨S_, .i32⟩
  | 3 => ⟨S16x384, .i32⟩
  | 4 => ⟨S16x384, .i1⟩
  | 5 => ⟨S16x1x384, .i1⟩
  | 6 => ⟨S16x128x384, .i1⟩
  | 7 => ⟨S16x128x384, .i1⟩
  | 8 => ⟨S_, .i32⟩
  | 9 => ⟨S16x384, .i32⟩
  | 10 => ⟨S16x384, .i1⟩
  | 11 => ⟨S16x1x384, .i1⟩
  | 12 => ⟨S16x128x384, .i1⟩
  | 13 => ⟨S16x128x384, .i1⟩
  | 14 => ⟨S32x16x2x384x128x4, .f32⟩
  | 15 => ⟨S32x16x2x4x128x384, .f32⟩
  | 16 => ⟨S16x1x1x128x384, .i32⟩
  | 17 => ⟨S16x1x1x128x384, .f32⟩
  | 18 => ⟨S1x2x4x1x1, .f32⟩
  | 19 => ⟨S16x2x4x128x384, .f32⟩
  | 20 => ⟨S16x2x4x128x384, .f32⟩
  | 21 => ⟨S16x2x4x128x384, .f32⟩
  | 22 => ⟨S1x16x2x4x128x384, .f32⟩
  | 23 => ⟨S32x16x2x4x128x384, .f32⟩
  | 24 => ⟨S32x16x2x4x128x384, .f32⟩
  | 25 => ⟨S16x1x1x128x384, .i1⟩
  | 26 => ⟨S_, .f32⟩
  | 27 => ⟨S_, .f32⟩
  | 28 => ⟨S32x16x2x4x128x384, .i1⟩
  | 29 => ⟨S32x16x2x4x128x384, .f32⟩
  | 30 => ⟨S32x16x2x4x128x384, .f32⟩
  | 31 => ⟨S_, .f32⟩
  | 32 => ⟨S32x16x2x4x128, .f32⟩
  | 33 => ⟨S1x1x2x4x1, .f32⟩
  | 34 => ⟨S32x16x2x4x128, .f32⟩
  | 35 => ⟨S32x16x2x4x128, .f32⟩
  | 36 => ⟨S32x16x2x4x128x1, .f32⟩
  | 37 => ⟨S32x16x2x4x128x384, .f32⟩
  | 38 => ⟨S32x16x2x4x128x384, .f32⟩
  | 39 => ⟨S32x16x2x4x128x384, .f32⟩
  | 40 => ⟨S_, .f32⟩
  | 41 => ⟨S32x16x2x4x128, .f32⟩
  | 42 => ⟨S1x1x2x4x1, .f32⟩
  | 43 => ⟨S32x16x2x4x128, .f32⟩
  | 44 => ⟨S32x16x2x4x128, .f32⟩
  | 45 => ⟨S32x16x2x4x128, .f32⟩
  | 46 => ⟨S32x16x2x4x128, .f32⟩
  | 47 => ⟨S32x16x2x4x128x1, .f32⟩
  | 48 => ⟨S32x16x2x4x128x384, .f32⟩
  | 49 => ⟨S32x16x2x4x128x384, .f32⟩
  | 50 => ⟨S32x16x2x64x4x128, .f32⟩
  | 51 => ⟨S32x16x128x2x4x64, .f32⟩
  | 52 => ⟨S32x2048x8x64, .f32⟩
  | 53 => ⟨S8x64, .f32⟩
  | 54 => ⟨S32x2048x8x64, .f32⟩
  | 55 => ⟨S_, .f32⟩
  | 56 => ⟨S32x2048x8, .f32⟩
  | 57 => ⟨S32x2048x8x1, .f32⟩
  | 58 => ⟨S_, .f32⟩
  | 59 => ⟨S32x2048x8x1, .f32⟩
  | 60 => ⟨S32x2048x8x1, .f32⟩
  | 61 => ⟨S_, .f32⟩
  | 62 => ⟨S32x2048x8x1, .f32⟩
  | 63 => ⟨S32x2048x8x1, .f32⟩
  | 64 => ⟨S32x2048x8x1, .f32⟩
  | 65 => ⟨S32x2048x8x64, .f32⟩
  | 66 => ⟨S32x2048x8x64, .f32⟩
  | 67 => ⟨S1x1x8x64, .f32⟩
  | 68 => ⟨S32x2048x8x64, .f32⟩
  | 69 => ⟨S32x2048x8x64, .f32⟩
  | 70 => ⟨S32x2048x2x4x64, .f32⟩
  | 71 => ⟨S32x2048x4x2x64, .f32⟩
  | 72 => ⟨S65536x512, .f32⟩
  | 73 => ⟨S65536x512, .bf16⟩
  | _ => ⟨S65536x512, .bf16⟩

abbrev hbmTy (i : Nat) : BufTy := match i / 128 with
  | 0 => hbmTy0_0 i
  | 1 => hbmTy0_1 i
  | _ => ⟨S65536x512, .bf16⟩

abbrev bufTy : (tb : Table) → Fin (tcTables nBuf tb) → BufTy
  | .hbm, ⟨i, _⟩ => hbmTy i
  | _, _ => ⟨S65536x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_cst_2 : Ref sig .tc := ⟨.hbm, 14, rfl⟩
abbrev main_v6 : Ref sig .tc := ⟨.hbm, 15, rfl⟩
abbrev main_cst_3 : Ref sig .tc := ⟨.hbm, 16, rfl⟩
abbrev main_v7 : Ref sig .tc := ⟨.hbm, 17, rfl⟩
abbrev main_cst_4 : Ref sig .tc := ⟨.hbm, 18, rfl⟩
abbrev main_v8 : Ref sig .tc := ⟨.hbm, 19, rfl⟩
abbrev main_cst_5 : Ref sig .tc := ⟨.hbm, 20, rfl⟩
abbrev main_v9 : Ref sig .tc := ⟨.hbm, 21, rfl⟩
abbrev main_cst_6 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_c : Ref sig .tc := ⟨.hbm, 28, rfl⟩
abbrev main_call0_v0 : Ref sig .tc := ⟨.hbm, 29, rfl⟩
abbrev main_v15 : Ref sig .tc := ⟨.hbm, 30, rfl⟩
abbrev main_v16 : Ref sig .tc := ⟨.hbm, 31, rfl⟩
abbrev main_c_7 : Ref sig .tc := ⟨.hbm, 32, rfl⟩
abbrev main_call1_v0 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_c_8 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩
abbrev main_v69 : Ref sig .tc := ⟨.hbm, 87, rfl⟩
abbrev main_v70 : Ref sig .tc := ⟨.hbm, 88, rfl⟩
abbrev main_v71 : Ref sig .tc := ⟨.hbm, 89, rfl⟩
abbrev main_v72 : Ref sig .tc := ⟨.hbm, 90, rfl⟩
abbrev main_v73 : Ref sig .tc := ⟨.hbm, 91, rfl⟩
abbrev main_v74 : Ref sig .tc := ⟨.hbm, 92, rfl⟩
abbrev main_v75 : Ref sig .tc := ⟨.hbm, 93, rfl⟩
abbrev main_v76 : Ref sig .tc := ⟨.hbm, 94, rfl⟩
abbrev main_v77 : Ref sig .tc := ⟨.hbm, 95, rfl⟩
abbrev main_v78 : Ref sig .tc := ⟨.hbm, 96, rfl⟩
abbrev main_v79 : Ref sig .tc := ⟨.hbm, 97, rfl⟩
abbrev main_v80 : Ref sig .tc := ⟨.hbm, 98, rfl⟩
abbrev main_v81 : Ref sig .tc := ⟨.hbm, 99, rfl⟩
abbrev main_v82 : Ref sig .tc := ⟨.hbm, 100, rfl⟩
abbrev main_v83 : Ref sig .tc := ⟨.hbm, 101, rfl⟩
abbrev main_v84 : Ref sig .tc := ⟨.hbm, 102, rfl⟩
abbrev main_v85 : Ref sig .tc := ⟨.hbm, 103, rfl⟩
abbrev main_v86 : Ref sig .tc := ⟨.hbm, 104, rfl⟩
abbrev main_v87 : Ref sig .tc := ⟨.hbm, 105, rfl⟩
abbrev main_v88 : Ref sig .tc := ⟨.hbm, 106, rfl⟩
abbrev main_v89 : Ref sig .tc := ⟨.hbm, 107, rfl⟩
abbrev main_v90 : Ref sig .tc := ⟨.hbm, 108, rfl⟩
abbrev main_v91 : Ref sig .tc := ⟨.hbm, 109, rfl⟩
abbrev main_c_9 : Ref sig .tc := ⟨.hbm, 110, rfl⟩
abbrev main_v92 : Ref sig .tc := ⟨.hbm, 111, rfl⟩
abbrev main_v93 : Ref sig .tc := ⟨.hbm, 112, rfl⟩
abbrev main_v94 : Ref sig .tc := ⟨.hbm, 113, rfl⟩
abbrev main_v95 : Ref sig .tc := ⟨.hbm, 114, rfl⟩
abbrev main_v96 : Ref sig .tc := ⟨.hbm, 115, rfl⟩
abbrev main_v97 : Ref sig .tc := ⟨.hbm, 116, rfl⟩
abbrev main_v98 : Ref sig .tc := ⟨.hbm, 117, rfl⟩
abbrev main_v99 : Ref sig .tc := ⟨.hbm, 118, rfl⟩
abbrev main_v100 : Ref sig .tc := ⟨.hbm, 119, rfl⟩
abbrev main_v101 : Ref sig .tc := ⟨.hbm, 120, rfl⟩
abbrev main_v102 : Ref sig .tc := ⟨.hbm, 121, rfl⟩
abbrev main_v103 : Ref sig .tc := ⟨.hbm, 122, rfl⟩
abbrev main_v104 : Ref sig .tc := ⟨.hbm, 123, rfl⟩
abbrev main_v105 : Ref sig .tc := ⟨.hbm, 124, rfl⟩
abbrev main_v106 : Ref sig .tc := ⟨.hbm, 125, rfl⟩
abbrev main_v107 : Ref sig .tc := ⟨.hbm, 126, rfl⟩
abbrev main_c_10 : Ref sig .tc := ⟨.hbm, 127, rfl⟩
abbrev main_v108 : Ref sig .tc := ⟨.hbm, 128, rfl⟩
abbrev main_v109 : Ref sig .tc := ⟨.hbm, 129, rfl⟩
abbrev main_c_11 : Ref sig .tc := ⟨.hbm, 130, rfl⟩
abbrev main_v110 : Ref sig .tc := ⟨.hbm, 131, rfl⟩
abbrev main_v111 : Ref sig .tc := ⟨.hbm, 132, rfl⟩
abbrev main_v112 : Ref sig .tc := ⟨.hbm, 133, rfl⟩
abbrev main_v113 : Ref sig .tc := ⟨.hbm, 134, rfl⟩
abbrev main_v114 : Ref sig .tc := ⟨.hbm, 135, rfl⟩
abbrev main_c_12 : Ref sig .tc := ⟨.hbm, 136, rfl⟩
abbrev main_v115 : Ref sig .tc := ⟨.hbm, 137, rfl⟩
abbrev main_v116 : Ref sig .tc := ⟨.hbm, 138, rfl⟩
abbrev main_v117 : Ref sig .tc := ⟨.hbm, 139, rfl⟩
abbrev main_v118 : Ref sig .tc := ⟨.hbm, 140, rfl⟩
abbrev main_v119 : Ref sig .tc := ⟨.hbm, 141, rfl⟩
abbrev main_v120 : Ref sig .tc := ⟨.hbm, 142, rfl⟩
abbrev main_v121 : Ref sig .tc := ⟨.hbm, 143, rfl⟩
abbrev main_v122 : Ref sig .tc := ⟨.hbm, 144, rfl⟩
abbrev main_v123 : Ref sig .tc := ⟨.hbm, 145, rfl⟩
abbrev main_v124 : Ref sig .tc := ⟨.hbm, 146, rfl⟩
abbrev main_v125 : Ref sig .tc := ⟨.hbm, 147, rfl⟩
abbrev main_v126 : Ref sig .tc := ⟨.hbm, 148, rfl⟩
abbrev main_v127 : Ref sig .tc := ⟨.hbm, 149, rfl⟩
abbrev main_v128 : Ref sig .tc := ⟨.hbm, 150, rfl⟩
abbrev main_v129 : Ref sig .tc := ⟨.hbm, 151, rfl⟩
abbrev main_v130 : Ref sig .tc := ⟨.hbm, 152, rfl⟩
abbrev main_v131 : Ref sig .tc := ⟨.hbm, 153, rfl⟩
abbrev main_cst_13 : Ref sig .tc := ⟨.hbm, 154, rfl⟩
abbrev main_call2_v0 : Ref sig .tc := ⟨.hbm, 155, rfl⟩
abbrev main_call2_v1 : Ref sig .tc := ⟨.hbm, 156, rfl⟩
abbrev main_call2_v2 : Ref sig .tc := ⟨.hbm, 157, rfl⟩
abbrev main_v132 : Ref sig .tc := ⟨.hbm, 158, rfl⟩
abbrev main_cst_14 : Ref sig .tc := ⟨.hbm, 159, rfl⟩
abbrev main_v133 : Ref sig .tc := ⟨.hbm, 160, rfl⟩
abbrev main_v134 : Ref sig .tc := ⟨.hbm, 161, rfl⟩
abbrev main_v135 : Ref sig .tc := ⟨.hbm, 162, rfl⟩
abbrev main_v136 : Ref sig .tc := ⟨.hbm, 163, rfl⟩
abbrev main_v137 : Ref sig .tc := ⟨.hbm, 164, rfl⟩
abbrev main_v138 : Ref sig .tc := ⟨.hbm, 165, rfl⟩
abbrev main_v139 : Ref sig .tc := ⟨.hbm, 166, rfl⟩
abbrev main_v140 : Ref sig .tc := ⟨.hbm, 167, rfl⟩
abbrev main_cst_15 : Ref sig .tc := ⟨.hbm, 168, rfl⟩
abbrev main_v141 : Ref sig .tc := ⟨.hbm, 169, rfl⟩
abbrev main_v142 : Ref sig .tc := ⟨.hbm, 170, rfl⟩
abbrev main_v143 : Ref sig .tc := ⟨.hbm, 171, rfl⟩
abbrev main_v144 : Ref sig .tc := ⟨.hbm, 172, rfl⟩
abbrev main_v145 : Ref sig .tc := ⟨.hbm, 173, rfl⟩
abbrev main_v146 : Ref sig .tc := ⟨.hbm, 174, rfl⟩
abbrev main_v147 : Ref sig .tc := ⟨.hbm, 175, rfl⟩
abbrev main_v148 : Ref sig .tc := ⟨.hbm, 176, rfl⟩
abbrev main_v149 : Ref sig .tc := ⟨.hbm, 177, rfl⟩
abbrev main_v150 : Ref sig .tc := ⟨.hbm, 178, rfl⟩
abbrev main_v151 : Ref sig .tc := ⟨.hbm, 179, rfl⟩
abbrev main_v152 : Ref sig .tc := ⟨.hbm, 180, rfl⟩
abbrev main_v153 : Ref sig .tc := ⟨.hbm, 181, rfl⟩
abbrev main_v154 : Ref sig .tc := ⟨.hbm, 182, rfl⟩
abbrev main_cst_16 : Ref sig .tc := ⟨.hbm, 183, rfl⟩
abbrev main_v155 : Ref sig .tc := ⟨.hbm, 184, rfl⟩
abbrev main_v156 : Ref sig .tc := ⟨.hbm, 185, rfl⟩
abbrev main_cst_17 : Ref sig .tc := ⟨.hbm, 186, rfl⟩
abbrev main_v157 : Ref sig .tc := ⟨.hbm, 187, rfl⟩
abbrev main_v158 : Ref sig .tc := ⟨.hbm, 188, rfl⟩
abbrev main_cst_18 : Ref sig .tc := ⟨.hbm, 189, rfl⟩
abbrev main_v159 : Ref sig .tc := ⟨.hbm, 190, rfl⟩
abbrev main_v160 : Ref sig .tc := ⟨.hbm, 191, rfl⟩
abbrev main_v161 : Ref sig .tc := ⟨.hbm, 192, rfl⟩
abbrev main_v162 : Ref sig .tc := ⟨.hbm, 193, rfl⟩
abbrev main_v163 : Ref sig .tc := ⟨.hbm, 194, rfl⟩
abbrev main_v164 : Ref sig .tc := ⟨.hbm, 195, rfl⟩
abbrev main_v165 : Ref sig .tc := ⟨.hbm, 196, rfl⟩
abbrev main_v166 : Ref sig .tc := ⟨.hbm, 197, rfl⟩
abbrev main_v167 : Ref sig .tc := ⟨.hbm, 198, rfl⟩
abbrev main_v168 : Ref sig .tc := ⟨.hbm, 199, rfl⟩
abbrev main_v169 : Ref sig .tc := ⟨.hbm, 200, rfl⟩
abbrev main_v170 : Ref sig .tc := ⟨.hbm, 201, rfl⟩

abbrev nD : Nat := 1
abbrev τ : Topo := Topo.v7x

variable {F : FTy → Type} [FloatOps F]
-- ==== Kernel5.lean ====
abbrev S32x2048x1024 : Shape := ⟨3, ![32, 2048, 1024]⟩
abbrev S1024 : Shape := ⟨1, ![1024]⟩
abbrev S65536x1024 : Shape := ⟨2, ![65536, 1024]⟩
abbrev S1x1024 : Shape := ⟨2, ![1, 1024]⟩
abbrev S1024x1024 : Shape := ⟨2, ![1024, 1024]⟩
abbrev S1024x1 : Shape := ⟨2, ![1024, 1]⟩

abbrev nBuf : Space → Nat
  | .hbm => 7
  | .vmem => 6
  | .smem => 0
  | _ => 0

abbrev bufTy : (tb : Table) → Fin (tcTables nBuf tb) → BufTy
  | .hbm, ⟨0, _⟩ => ⟨S32x2048x1024, .f32⟩
  | .hbm, ⟨1, _⟩ => ⟨S1024, .f32⟩
  | .hbm, ⟨2, _⟩ => ⟨S1024, .f32⟩
  | .hbm, ⟨3, _⟩ => ⟨S65536x1024, .f32⟩
  | .hbm, ⟨4, _⟩ => ⟨S1x1024, .f32⟩
  | .hbm, ⟨5, _⟩ => ⟨S1x1024, .f32⟩
  | .hbm, ⟨6, _⟩ => ⟨S65536x1024, .f32⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1x1024, .f32⟩
  | .local _ .vmem, ⟨4, _⟩ => ⟨S1024x1024, .f32⟩
  | .local _ .vmem, ⟨5, _⟩ => ⟨S1024x1024, .f32⟩
  | _, _ => ⟨S32x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference5Ideal.lean ====
abbrev S32x2048x1024 : Shape := ⟨3, ![32, 2048, 1024]⟩
abbrev S1024 : Shape := ⟨1, ![1024]⟩
abbrev S_ : Shape := ⟨0, ![]⟩
abbrev S32x2048 : Shape := ⟨2, ![32, 2048]⟩
abbrev S32x2048x1 : Shape := ⟨3, ![32, 2048, 1]⟩
abbrev S1x1x1024 : Shape := ⟨3, ![1, 1, 1024]⟩
abbrev S65536x1024 : Shape := ⟨2, ![65536, 1024]⟩

abbrev nBuf : Space → Nat
  | .hbm => 33
  | .vmem => 0
  | .smem => 0
  | _ => 0

abbrev bufTy : (tb : Table) → Fin (tcTables nBuf tb) → BufTy
  | .hbm, ⟨0, _⟩ => ⟨S32x2048x1024, .f32⟩
  | .hbm, ⟨1, _⟩ => ⟨S1024, .f32⟩
  | .hbm, ⟨2, _⟩ => ⟨S1024, .f32⟩
  | .hbm, ⟨3, _⟩ => ⟨S_, .f32⟩
  | .hbm, ⟨4, _⟩ => ⟨S32x2048, .f32⟩
  | .hbm, ⟨5, _⟩ => ⟨S32x2048x1, .f32⟩
  | .hbm, ⟨6, _⟩ => ⟨S_, .f32⟩
  | .hbm, ⟨7, _⟩ => ⟨S32x2048x1, .f32⟩
  | .hbm, ⟨8, _⟩ => ⟨S32x2048x1, .f32⟩
  | .hbm, ⟨9, _⟩ => ⟨S32x2048x1024, .f32⟩
  | .hbm, ⟨10, _⟩ => ⟨S32x2048x1024, .f32⟩
  | .hbm, ⟨11, _⟩ => ⟨S32x2048x1024, .f32⟩
  | .hbm, ⟨12, _⟩ => ⟨S_, .f32⟩
  | .hbm, ⟨13, _⟩ => ⟨S32x2048, .f32⟩
  | .hbm, ⟨14, _⟩ => ⟨S32x2048x1, .f32⟩
  | .hbm, ⟨15, _⟩ => ⟨S_, .f32⟩
  | .hbm, ⟨16, _⟩ => ⟨S32x2048x1, .f32⟩
  | .hbm, ⟨17, _⟩ => ⟨S32x2048x1, .f32⟩
  | .hbm, ⟨18, _⟩ => ⟨S32x2048x1024, .f32⟩
  | .hbm, ⟨19, _⟩ => ⟨S32x2048x1024, .f32⟩
  | .hbm, ⟨20, _⟩ => ⟨S_, .f32⟩
  | .hbm, ⟨21, _⟩ => ⟨S32x2048x1, .f32⟩
  | .hbm, ⟨22, _⟩ => ⟨S32x2048x1, .f32⟩
  | .hbm, ⟨23, _⟩ => ⟨S32x2048x1, .f32⟩
  | .hbm, ⟨24, _⟩ => ⟨S32x2048x1024, .f32⟩
  | .hbm, ⟨25, _⟩ => ⟨S32x2048x1024, .f32⟩
  | .hbm, ⟨26, _⟩ => ⟨S1x1x1024, .f32⟩
  | .hbm, ⟨27, _⟩ => ⟨S32x2048x1024, .f32⟩
  | .hbm, ⟨28, _⟩ => ⟨S32x2048x1024, .f32⟩
  | .hbm, ⟨29, _⟩ => ⟨S1x1x1024, .f32⟩
  | .hbm, ⟨30, _⟩ => ⟨S32x2048x1024, .f32⟩
  | .hbm, ⟨31, _⟩ => ⟨S32x2048x1024, .f32⟩
  | .hbm, ⟨32, _⟩ => ⟨S65536x1024, .f32⟩
  | _, _ => ⟨S32x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_cst_2 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst_3 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩

abbrev nD : Nat := 1
abbrev τ : Topo := Topo.v7x

variable {F : FTy → Type} [FloatOps F]
-- ==== Kernel6.lean ====
abbrev S2x16384x1024 : Shape := ⟨3, ![2, 16384, 1024]⟩
abbrev S8192x1024 : Shape := ⟨2, ![8192, 1024]⟩
abbrev S1x1024x1024 : Shape := ⟨3, ![1, 1024, 1024]⟩
abbrev S512x1024 : Shape := ⟨2, ![512, 1024]⟩
abbrev S1024x1024 : Shape := ⟨2, ![1024, 1024]⟩

abbrev nBuf : Space → Nat
  | .hbm => 2
  | .vmem => 4
  | .smem => 0
  | _ => 0

abbrev bufTy : (tb : Table) → Fin (tcTables nBuf tb) → BufTy
  | .hbm, ⟨0, _⟩ => ⟨S2x16384x1024, .f32⟩
  | .hbm, ⟨1, _⟩ => ⟨S8192x1024, .i32⟩
  | .local _ .vmem, ⟨0, _⟩ => ⟨S1x1024x1024, .f32⟩
  | .local _ .vmem, ⟨1, _⟩ => ⟨S1x1024x1024, .f32⟩
  | .local _ .vmem, ⟨2, _⟩ => ⟨S512x1024, .i32⟩
  | .local _ .vmem, ⟨3, _⟩ => ⟨S512x1024, .i32⟩
  | _, _ => ⟨S2x16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [BitOps F]

abbrev grid0 : Pipeline.Grid := ⟨2, ![16, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x1024 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]
-- ==== Reference6.lean ====
abbrev S2x16384x1024 : Shape := ⟨3, ![2, 16384, 1024]⟩
abbrev S1x16384x1024 : Shape := ⟨3, ![1, 16384, 1024]⟩
abbrev S16384x1024 : Shape := ⟨2, ![16384, 1024]⟩
abbrev S8192x2x1024 : Shape := ⟨3, ![8192, 2, 1024]⟩
abbrev S8192x1024x2 : Shape := ⟨3, ![8192, 1024, 2]⟩
abbrev S8192x1024 : Shape := ⟨2, ![8192, 1024]⟩

abbrev nBuf : Space → Nat
  | .hbm => 7
  | .vmem => 0
  | .smem => 0
  | _ => 0

abbrev bufTy : (tb : Table) → Fin (tcTables nBuf tb) → BufTy
  | .hbm, ⟨0, _⟩ => ⟨S2x16384x1024, .f32⟩
  | .hbm, ⟨1, _⟩ => ⟨S1x16384x1024, .f32⟩
  | .hbm, ⟨2, _⟩ => ⟨S16384x1024, .f32⟩
  | .hbm, ⟨3, _⟩ => ⟨S16384x1024, .bf16⟩
  | .hbm, ⟨4, _⟩ => ⟨S8192x2x1024, .bf16⟩
  | .hbm, ⟨5, _⟩ => ⟨S8192x1024x2, .bf16⟩
  | .hbm, ⟨6, _⟩ => ⟨S8192x1024, .i32⟩
  | _, _ => ⟨S2x16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩

abbrev nD : Nat := 1
abbrev τ : Topo := Topo.v7x

variable {F : FTy → Type} [BitOps F]
-- ==== Kernel7.lean ====
abbrev S2x16384x1024 : Shape := ⟨3, ![2, 16384, 1024]⟩
abbrev S512x16384 : Shape := ⟨2, ![512, 16384]⟩
abbrev S1x1024x1024 : Shape := ⟨3, ![1, 1024, 1024]⟩
abbrev S512x1024 : Shape := ⟨2, ![512, 1024]⟩
abbrev S1024x1024 : Shape := ⟨2, ![1024, 1024]⟩

abbrev nBuf : Space → Nat
  | .hbm => 2
  | .vmem => 4
  | .smem => 0
  | _ => 0

abbrev bufTy : (tb : Table) → Fin (tcTables nBuf tb) → BufTy
  | .hbm, ⟨0, _⟩ => ⟨S2x16384x1024, .f32⟩
  | .hbm, ⟨1, _⟩ => ⟨S512x16384, .i32⟩
  | .local _ .vmem, ⟨0, _⟩ => ⟨S1x1024x1024, .f32⟩
  | .local _ .vmem, ⟨1, _⟩ => ⟨S1x1024x1024, .f32⟩
  | .local _ .vmem, ⟨2, _⟩ => ⟨S512x1024, .i32⟩
  | .local _ .vmem, ⟨3, _⟩ => ⟨S512x1024, .i32⟩
  | _, _ => ⟨S2x16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [BitOps F]

abbrev grid0 : Pipeline.Grid := ⟨2, ![16, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x1024 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]
-- ==== Reference7.lean ====
abbrev S2x16384x1024 : Shape := ⟨3, ![2, 16384, 1024]⟩
abbrev S1x16384x1024 : Shape := ⟨3, ![1, 16384, 1024]⟩
abbrev S16384x1024 : Shape := ⟨2, ![16384, 1024]⟩
abbrev S1024x16384 : Shape := ⟨2, ![1024, 16384]⟩
abbrev S512x2x16384 : Shape := ⟨3, ![512, 2, 16384]⟩
abbrev S512x16384x2 : Shape := ⟨3, ![512, 16384, 2]⟩
abbrev S512x16384 : Shape := ⟨2, ![512, 16384]⟩

abbrev nBuf : Space → Nat
  | .hbm => 8
  | .vmem => 0
  | .smem => 0
  | _ => 0

abbrev bufTy : (tb : Table) → Fin (tcTables nBuf tb) → BufTy
  | .hbm, ⟨0, _⟩ => ⟨S2x16384x1024, .f32⟩
  | .hbm, ⟨1, _⟩ => ⟨S1x16384x1024, .f32⟩
  | .hbm, ⟨2, _⟩ => ⟨S16384x1024, .f32⟩
  | .hbm, ⟨3, _⟩ => ⟨S1024x16384, .f32⟩
  | .hbm, ⟨4, _⟩ => ⟨S1024x16384, .bf16⟩
  | .hbm, ⟨5, _⟩ => ⟨S512x2x16384, .bf16⟩
  | .hbm, ⟨6, _⟩ => ⟨S512x16384x2, .bf16⟩
  | .hbm, ⟨7, _⟩ => ⟨S512x16384, .i32⟩
  | _, _ => ⟨S2x16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩

abbrev nD : Nat := 1
abbrev τ : Topo := Topo.v7x

variable {F : FTy → Type} [BitOps F]
-- ==== Proof.Attn.Softmax.lean ====
/- The arithmetic of one row of attention followed by an RMS normalization over a head's 64 lanes, on the extended
   reals: dividing the weighted sum by the weights' sum afterwards, or each weight first, is the same after the
   normalization. No program is mentioned here. -/
module

public import Idealize.ShloMosaic.PureOps.Ideal
public import Idealize.ShloMosaic.PureOps.Ideal.Laws
public import Idealize.ShloMosaic.Lib.Pointwise

@[expose] public section

noncomputable section

namespace Cert.Attn

open Idealize.ShloMosaic

/-- The largest score of a row of 2048, folded from the pattern of minus infinity. -/
def top (s : Fin 2048 → EReal) : EReal := Finset.univ.fold max (Ideal.ofBits .f32 0xFF800000#32) s

/-- A key's weight before it is divided by the weights' sum. -/
def wt (s : Fin 2048 → EReal) (k : Fin 2048) : EReal := Ideal.exp (s k - top s)

/-- The row's output at a lane: the weighted sum of the values, divided by the sum of the weights. -/
def outLate (s : Fin 2048 → EReal) (v : Fin 2048 → Fin 64 → EReal) (d : Fin 64) : EReal :=
  Ideal.div (∑ k, wt s k * v k d) (∑ k, wt s k)

/-- The same with each weight divided first. -/
def outEarly (s : Fin 2048 → EReal) (v : Fin 2048 → Fin 64 → EReal) (d : Fin 64) : EReal :=
  ∑ k, v k d * Ideal.div (wt s k) (∑ k, wt s k)

/-- The RMS normalization of 64 lanes, without its gain. -/
def normed (o : Fin 64 → EReal) (d : Fin 64) : EReal :=
  o d * Ideal.rsqrt (Ideal.div (∑ e, o e * o e) (Ideal.ofBits .f32 0x42800000#32) + Ideal.ofBits .f32 0x358637BD#32)

/-- The fold's own start does not exceed it. -/
theorem max_top (s : Fin 2048 → EReal) : max (Ideal.ofBits .f32 0xFF800000#32) (top s) = top s :=
  max_eq_right (by unfold top; rw [Finset.le_fold_max]; exact Or.inl le_rfl)

/-- An exponential is not negative. -/
theorem exp_nonneg (x : EReal) : 0 ≤ Ideal.exp x := by
  induction x using EReal.rec with
  | bot => exact le_rfl
  | top => exact le_top
  | coe r => exact EReal.coe_nonneg.mpr (Real.exp_pos r).le

/-- A weight is not negative. -/
theorem wt_nonneg (s : Fin 2048 → EReal) (k : Fin 2048) : 0 ≤ wt s k := exp_nonneg _

/-- Nor is the weights' sum. -/
theorem sum_wt_nonneg (s : Fin 2048 → EReal) : 0 ≤ ∑ k, wt s k := Finset.sum_nonneg fun k _ => wt_nonneg s k

/-- The number of lanes. -/
theorem c64 : Ideal.ofBits .f32 0x42800000#32 = ((64 : ℝ) : EReal) := by
  simp [Ideal.ofBits, Ideal.ieee]
  rw [← EReal.coe_mul]
  norm_num

/-- The normalization's epsilon is a number. -/
theorem eps_ne_bot : Ideal.ofBits .f32 0x358637BD#32 ≠ ⊥ := by
  simp only [Ideal.ofBits, Ideal.ieee]
  exact EReal.coe_ne_bot _

/-- A sum of terms that are each plus infinity, zero or minus infinity is one of the three. -/
theorem sum_extreme {n : Nat} (f : Fin n → EReal) (h : ∀ k, f k = ⊥ ∨ f k = 0 ∨ f k = ⊤) :
    (∑ k, f k) = ⊥ ∨ (∑ k, f k) = 0 ∨ (∑ k, f k) = ⊤ := by
  refine Finset.sum_induction f (fun x => x = ⊥ ∨ x = 0 ∨ x = ⊤) ?_ (Or.inr (Or.inl rfl)) fun k _ => h k
  rintro a b (rfl | rfl | rfl) (rfl | rfl | rfl) <;> simp

/-- Where every lane is infinite or zero, the normalized row is zero. -/
theorem normed_extreme (o : Fin 64 → EReal) (h : ∀ d, o d = ⊥ ∨ o d = 0 ∨ o d = ⊤) (d : Fin 64) : normed o d = 0 := by
  unfold normed
  by_cases h0 : o d = 0
  · rw [h0, zero_mul]
  have hsq : ∀ e, 0 ≤ o e * o e := fun e => by
    rcases h e with h | h | h <;> rw [h] <;> simp
  have hd : o d * o d = ⊤ := by
    rcases h d with h | h | h
    · rw [h]; rfl
    · exact absurd h h0
    · rw [h]; rfl
  have hs : (∑ e, o e * o e) = ⊤ :=
    top_le_iff.mp (hd ▸ Finset.single_le_sum (f := fun e => o e * o e) (fun e _ => hsq e) (Finset.mem_univ d))
  rw [hs, c64, Ideal.div_coe (by norm_num), EReal.top_mul_coe_of_pos (by norm_num), EReal.top_add_of_ne_bot eps_ne_bot]
  exact mul_zero _

/-- A factor that is neither negative nor plus infinity goes into a sum. -/
theorem sum_mul_of_nonneg {n : Nat} (f : Fin n → EReal) (c : EReal) (h0 : 0 ≤ c) (h1 : c ≠ ⊤) :
    (∑ k, f k) * c = ∑ k, f k * c := by
  induction n with
  | zero => simp
  | succ n ih =>
    rw [Fin.sum_univ_succ, Fin.sum_univ_succ, ← ih, EReal.right_distrib_of_nonneg_of_ne_top h0 h1]

/-- A division by zero is infinite. -/
theorem div_zero_extreme (x : EReal) : Ideal.div x 0 = ⊥ ∨ Ideal.div x 0 = 0 ∨ Ideal.div x 0 = ⊤ := by
  unfold Ideal.div
  rw [if_pos rfl]
  split
  · exact Or.inr (Or.inr rfl)
  · exact Or.inl rfl

/-- After the normalization the two orders of dividing agree: where the weights' sum is not zero its inverse goes
    into the sum, and where it is zero every lane is infinite or zero and both rows are zero. -/
theorem normed_late_eq_early (s : Fin 2048 → EReal) (v : Fin 2048 → Fin 64 → EReal) (d : Fin 64) :
    normed (outLate s v) d = normed (outEarly s v) d := by
  by_cases hl : (∑ k, wt s k) = 0
  · rw [normed_extreme, normed_extreme]
    · intro e
      unfold outEarly
      rw [hl]
      refine sum_extreme _ fun k => ?_
      have hv : v k e = 0 ∨ 0 < v k e ∨ v k e < 0 := by
        rcases lt_trichotomy (v k e) 0 with h | h | h
        · exact Or.inr (Or.inr h)
        · exact Or.inl h
        · exact Or.inr (Or.inl h)
      rcases div_zero_extreme (wt s k) with h | h | h <;> rw [h]
      · rcases hv with h | h | h
        · rw [h, zero_mul]; exact Or.inr (Or.inl rfl)
        · rw [EReal.mul_bot_of_pos h]; exact Or.inl rfl
        · rw [EReal.mul_bot_of_neg h]; exact Or.inr (Or.inr rfl)
      · rw [mul_zero]; exact Or.inr (Or.inl rfl)
      · rcases hv with h | h | h
        · rw [h, zero_mul]; exact Or.inr (Or.inl rfl)
        · rw [EReal.mul_top_of_pos h]; exact Or.inr (Or.inr rfl)
        · rw [EReal.mul_top_of_neg h]; exact Or.inl rfl
    · intro e
      unfold outLate
      rw [hl]
      exact div_zero_extreme _
  · refine congrArg (fun o => normed o d) (funext fun e => ?_)
    unfold outLate outEarly Ideal.div
    simp only [if_neg hl]
    rw [sum_mul_of_nonneg _ _ (EReal.inv_nonneg_of_nonneg (sum_wt_nonneg s)) (EReal.inv_lt_top _).ne]
    refine Finset.sum_congr rfl fun k _ => ?_
    ac_rfl

end Cert.Attn

end
-- ==== Proof.Attn.Spec.lean ====
/- Where the attention's operands lie in the arrays: a batch's tokens are 2048 consecutive rows; a query column is
   its pair of heads, the head of the pair, and the lane; a key or value column is the head and the lane. -/
module

public import proofs.«01_k».proof.Proof.Attn.Softmax

@[expose] public section

noncomputable section

namespace Cert.Attn

open Idealize.ShloMosaic

/-- The row of token `t` of batch `b`. -/
abbrev row (b : Fin 32) (t : Fin 2048) : Fin 65536 := ⟨b.val * 2048 + t.val, by omega⟩
/-- The query column of pair `g`, head `kv` of the pair, lane `d`. -/
abbrev qcol (g : Fin 4) (kv : Fin 2) (d : Fin 64) : Fin 512 := ⟨g.val * 128 + kv.val * 64 + d.val, by omega⟩
/-- The key or value column of head `kv`, lane `d`. -/
abbrev kcol (kv : Fin 2) (d : Fin 64) : Fin 128 := ⟨kv.val * 64 + d.val, by omega⟩
/-- The gain of that query head's lane, in the layer's own order of heads. -/
abbrev gcol (g : Fin 4) (kv : Fin 2) (d : Fin 64) : Fin 512 := ⟨(kv.val * 4 + g.val) * 64 + d.val, by omega⟩

/-- The scores of one query token of one head against the batch's keys. -/
def score (x0 : (⟨2, ![65536, 512]⟩ : Shape).Idx → EReal) (x1 : (⟨2, ![65536, 128]⟩ : Shape).Idx → EReal)
    (b : Fin 32) (t : Fin 2048) (g : Fin 4) (kv : Fin 2) (s : Fin 2048) : EReal :=
  ∑ d : Fin 64, x0 (ix2 (row b t) (qcol g kv d)) * x1 (ix2 (row b s) (kcol kv d))

/-- The values of one head over the batch's tokens. -/
def value (x2 : (⟨2, ![65536, 128]⟩ : Shape).Idx → EReal) (b : Fin 32) (kv : Fin 2) (s : Fin 2048) (d : Fin 64) : EReal :=
  x2 (ix2 (row b s) (kcol kv d))

end Cert.Attn

end
-- ==== Proof.Attn.Tile.lean ====
/- What the attention kernel's body stores for one pair of heads, in one form for all four pairs, and that form read at
   a row and a lane of either head of the pair. -/
module

public import proofs.«01_k».proof.Proof.Attn.Spec
public import proofs.«01_k».proof.Proof.Gen.KernelIdeal.Frame

@[expose] public section

set_option maxRecDepth 16384

noncomputable section

namespace Cert.Attn.Tile

open Idealize.ShloMosaic Idealize.ShloMosaic.TcCoe Idealize.SL.Sem
open Cert.KernelIdeal Cert.KernelIdeal.Gen

variable {F : FTy → Type} [FloatOps F]

/-- The lanes of the pair's first head. -/
def lower : IVec S512x128 1 := cmpi .slt (iota .tc S512x128 32 [1] iota_S512x128_d1_w32) (broadcast S512x128 64#32)

/-- The lanes of the pair's second head. -/
def upper : IVec S512x128 1 := xori lower (constantI S512x128 1 1#1)

/-- The scores of the query rows, those lanes outside the head's taken as zero. -/
def scores (mask : IVec S512x128 1) (q : Vec F S512x128 .bf16) (k : Vec F S2048x128 .bf16) : FVec F S512x2048 .f32 :=
  matmul dot_S512x128_S2048x128_S512x2048_1_1_0_0_n_n none
    (select mask q (broadcast S512x128 (Scalar.ofBits .bf16 0x0000#16))) k (constant S512x2048 .f32 0x00000000#32)

/-- The weights of a block of scores. -/
def weights (s : FVec F S512x2048 .f32) : FVec F S512x2048 .f32 :=
  exp (subf s (broadcastTo S512x2048 (shapeCast S512x1 (multiReduction .maximumf [1] S512 s 0xFF800000#32 reduces_S512x2048_S512 (.inl rfl) rfl) shapeCasts_S512_S512x1) broadcasts_S512x1_S512x2048))

/-- The weighted sums of the values over the weights' sums. -/
def attend (s : FVec F S512x2048 .f32) (v : Vec F S2048x128 .bf16) : FVec F S512x128 .f32 :=
  divf (matmul dot_S512x2048_S2048x128_S512x128_1_0_0_1_n_n none (truncf .bf16 (weights s) bitsLt_bf16_f32) v (constant S512x128 .f32 0x00000000#32))
    (broadcastTo S512x128 (shapeCast S512x1 (multiReduction .add [1] S512 (weights s) 0x00000000#32 reduces_S512x2048_S512 (.inl rfl) rfl) shapeCasts_S512_S512x1) broadcasts_S512x1_S512x128)

/-- The pair's rows: the first head's lanes from its attention, the second's from its own. -/
def both (k v : Vec F S2048x128 .bf16) (q : Vec F S512x128 .bf16) : FVec F S512x128 .f32 :=
  select lower (attend (scores lower q k) v) (attend (scores upper q k) v)

/-- The normalizing factor of one head from the squares of its lanes. -/
def factor (sq : FVec F S512x128 .f32) : FVec F S512x128 .f32 :=
  broadcastTo S512x128 (shapeCast S512x1 (rsqrt (addf (divf (shapeCast S512x1 (multiReduction .add [1] S512 sq 0x00000000#32 reduces_S512x128_S512 (.inl rfl) rfl) shapeCasts_S512_S512x1) (broadcast S512x1 (Scalar.ofBits .f32 0x42800000#32))) (broadcast S512x1 (Scalar.ofBits .f32 0x358637BD#32)))) shapeCasts_S512x1_S512x1) broadcasts_S512x1_S512x128

/-- The pair's rows normalized head by head and scaled by the gain. -/
def scale (o : FVec F S512x128 .f32) (g : Vec F S1x128 .f32) : FVec F S512x128 .bf16 :=
  truncf .bf16 (mulf (mulf o (select lower
      (factor (select lower (mulf o o) (broadcast S512x128 (Scalar.ofBits .f32 0x00000000#32))))
      (factor (select lower (broadcast S512x128 (Scalar.ofBits .f32 0x00000000#32)) (mulf o o)))))
    (broadcastTo S512x128 (shapeCast S1x128 g shapeCasts_S1x128_S1x128) broadcasts_S1x128_S512x128)) bitsLt_bf16_f32

/-- The first pair's stored rows are `scale` of `both`. -/
theorem pair0 (k v : Vec F S2048x128 .bf16) (q : Vec F S512x128 .bf16) (g : Vec F S1x128 .f32) :
    k0_pay5 k0_pay1 (k0_pay2 k v q) (k0_pay3 k v q) (k0_pay4 k v q) g = scale (both k v q) g := rfl

/-- The second pair's stored rows are the same form. -/
theorem pair1 (k v : Vec F S2048x128 .bf16) (q : Vec F S512x128 .bf16) (g : Vec F S1x128 .f32) :
    k0_pay10 (k0_pay9 k v k0_pay1 q (k0_pay7 k k0_pay1 q) (k0_pay8 k v k0_pay1 q)) g = scale (both k v q) g := rfl

/-- The third pair's stored rows are the same form. -/
theorem pair2 (k v : Vec F S2048x128 .bf16) (q : Vec F S512x128 .bf16) (g : Vec F S1x128 .f32) :
    k0_pay14 k0_pay1 (k0_pay11 k v k0_pay1 q) (k0_pay12 k v k0_pay1 q) (k0_pay13 k v k0_pay1 q) (Scalar.ofBits .f32 0x00000000#32) g = scale (both k v q) g := rfl

/-- The fourth pair's stored rows are the same form. -/
theorem pair3 (k v : Vec F S2048x128 .bf16) (q : Vec F S512x128 .bf16) (g : Vec F S1x128 .f32) :
    k0_pay17 k v k0_pay1 q (k0_pay15 k v k0_pay1 q) (k0_pay16 k0_pay1) g = scale (both k v q) g := rfl

/-! ## Read at a row and a lane, on the extended reals -/

/-- The first head's lanes are marked. -/
theorem lower_lo (r : Fin 512) (d : Fin 64) : lower (ix2 r (kcol 0 d)) = 1#1 := by
  pointwise [lower]
  revert d; decide

/-- The second head's lanes are not. -/
theorem lower_hi (r : Fin 512) (d : Fin 64) : lower (ix2 r (kcol 1 d)) = 0#1 := by
  pointwise [lower]
  revert d; decide

/-- The other mark leaves out the first head's lanes. -/
theorem upper_lo (r : Fin 512) (d : Fin 64) : upper (ix2 r (kcol 0 d)) = 0#1 := by
  have h := lower_lo r d
  pointwise [upper]
  rw [h]; rfl

/-- The other mark holds the second head's lanes. -/
theorem upper_hi (r : Fin 512) (d : Fin 64) : upper (ix2 r (kcol 1 d)) = 1#1 := by
  have h := lower_hi r d
  pointwise [upper]
  rw [h]; rfl

/-- A sum over the pair's lanes, head by head. -/
theorem sum_lanes (f : Fin 128 → EReal) : (∑ l, f l) = (∑ d, f (kcol 0 d)) + ∑ d, f (kcol 1 d) := by
  rw [Fin.sum_univ_two_halves 64 64 rfl f]
  refine congrArg₂ (· + ·) (Finset.sum_congr rfl fun d _ => congrArg f (Fin.ext ?_)) (Finset.sum_congr rfl fun d _ => congrArg f (Fin.ext ?_))
  · show d.val = 0 * 64 + d.val; omega
  · show 64 + d.val = 1 * 64 + d.val; omega

/-- A score as a sum over the pair's lanes. -/
theorem scores_apply (mask : IVec S512x128 1) (q : FVec Ideal S512x128 .bf16) (k : FVec Ideal S2048x128 .bf16) (r : Fin 512) (s : Fin 2048) :
    scores (F := Ideal) mask q k (ix2 r s) = ∑ l : Fin 128, Scalar.select (mask (ix2 r l)) (q (ix2 r l)) 0 * k (ix2 s l) := by
  pointwise [scores]

/-- The first head's score: the other head's lanes add nothing. -/
theorem scores_lo (q : FVec Ideal S512x128 .bf16) (k : FVec Ideal S2048x128 .bf16) (r : Fin 512) (s : Fin 2048) :
    scores (F := Ideal) lower q k (ix2 r s) = ∑ d : Fin 64, q (ix2 r (kcol 0 d)) * k (ix2 s (kcol 0 d)) := by
  rw [scores_apply, sum_lanes]
  simp only [lower_lo, lower_hi, ValueIdx.select_one, ValueIdx.select_zero, zero_mul, Finset.sum_const_zero, add_zero]

/-- The second head's score. -/
theorem scores_hi (q : FVec Ideal S512x128 .bf16) (k : FVec Ideal S2048x128 .bf16) (r : Fin 512) (s : Fin 2048) :
    scores (F := Ideal) upper q k (ix2 r s) = ∑ d : Fin 64, q (ix2 r (kcol 1 d)) * k (ix2 s (kcol 1 d)) := by
  rw [scores_apply, sum_lanes]
  simp only [upper_lo, upper_hi, ValueIdx.select_one, ValueIdx.select_zero, zero_mul, Finset.sum_const_zero, zero_add]

/-- A weight of a row of scores. -/
theorem weights_apply (s : FVec Ideal S512x2048 .f32) (r : Fin 512) (j : Fin 2048) :
    weights (F := Ideal) s (ix2 r j) = wt (fun j => s (ix2 r j)) j := by
  pointwise [weights, wt, top]

/-- The weighted sum over the weights' sum, at a lane. -/
theorem attend_apply (s : FVec Ideal S512x2048 .f32) (v : FVec Ideal S2048x128 .bf16) (r : Fin 512) (kv : Fin 2) (d : Fin 64) :
    attend (F := Ideal) s v (ix2 r (kcol kv d)) = outLate (fun j => s (ix2 r j)) (fun j e => v (ix2 j (kcol kv e))) d := by
  unfold outLate
  simp only [← weights_apply]
  pointwise [attend]

/-- The pair's rows at a head and a lane. -/
theorem both_apply (k v : FVec Ideal S2048x128 .bf16) (q : FVec Ideal S512x128 .bf16) (r : Fin 512) (kv : Fin 2) (d : Fin 64) :
    both (F := Ideal) k v q (ix2 r (kcol kv d))
      = outLate (fun s => ∑ d : Fin 64, q (ix2 r (kcol kv d)) * k (ix2 s (kcol kv d))) (fun j e => v (ix2 j (kcol kv e))) d := by
  rcases (by omega : kv = 0 ∨ kv = 1) with rfl | rfl
  · simp only [← scores_lo, ← attend_apply]
    show Scalar.select (lower (ix2 r (kcol 0 d))) _ _ = _
    rw [lower_lo, ValueIdx.select_one]
  · simp only [← scores_hi, ← attend_apply]
    show Scalar.select (lower (ix2 r (kcol 1 d))) _ _ = _
    rw [lower_hi, ValueIdx.select_zero]

/-- The normalizing factor of a row. -/
theorem factor_apply (sq : FVec Ideal S512x128 .f32) (r : Fin 512) (l : Fin 128) :
    factor (F := Ideal) sq (ix2 r l)
      = Ideal.rsqrt (Ideal.div (∑ l : Fin 128, sq (ix2 r l)) (Ideal.ofBits .f32 0x42800000#32) + Ideal.ofBits .f32 0x358637BD#32) := by
  pointwise [factor]

/-- The pair's rows normalized and scaled, at a head and a lane. -/
theorem scale_apply (o : FVec Ideal S512x128 .f32) (g : FVec Ideal S1x128 .f32) (r : Fin 512) (kv : Fin 2) (d : Fin 64) :
    scale (F := Ideal) o g (ix2 r (kcol kv d)) = normed (fun e => o (ix2 r (kcol kv e))) d * g (ix2 0 (kcol kv d)) := by
  pointwise [scale, normed, factor_apply]
  simp only [sum_lanes]
  rcases (by omega : kv = 0 ∨ kv = 1) with rfl | rfl
  · simp only [lower_lo, lower_hi, ValueIdx.select_one, ValueIdx.select_zero, Finset.sum_const_zero, add_zero]
  · simp only [lower_lo, lower_hi, ValueIdx.select_one, ValueIdx.select_zero, Finset.sum_const_zero, zero_add]

end Cert.Attn.Tile

end
-- ==== Proof.Attn.Gain.lean ====
/- The gain the attention kernel is handed: the host's gather puts each query head's gain where the pairs of heads have
   their lanes. -/
module

public import proofs.«01_k».proof.Proof.Attn.Spec
public import proofs.«01_k».proof.Proof.Gen.KernelIdeal.Frame
public import Idealize.ShloMosaic.Lib.Claim
public import Idealize.ShloMosaic.Lib.Pipeline.ValueKit
public import Idealize.ShloMosaic.Lib.Routing.OpsSearch

@[expose] public section

set_option maxRecDepth 16384

noncomputable section

namespace Cert.Attn.Gain

open Idealize.ShloMosaic Idealize.ShloMosaic.TcCoe Idealize.SL.Sem
open Cert.KernelIdeal Cert.KernelIdeal.Gen

/-- The table of the gather, at the column of a pair, a head and a lane. -/
theorem table : ∀ (g : Fin 4) (kv : Fin 2) (d : Fin 64), lit0 (qcol g kv d) = BitVec.ofNat 32 (gcol g kv d).val := by
  decide +kernel

variable (m : (ℓ : Loc nD τ sig) → Buf (Elt Ideal) ℓ)

/-- The gains as the kernel's columns hold them. -/
theorem gain_apply (c : Dev nD) (g : Fin 4) (kv : Fin 2) (d : Fin 64) :
    V m c main_v5 (ix2 0 (qcol g kv d)) = m ((c : Thread nD τ).loc main_arg3) (ix1 (gcol g kv d)) := by
  entry_read
  pointwise
  refine Routing.take_ap gather_S512_S512x1_S512_n_0_n_n_0_1_1 rfl rfl rfl rfl _ _ (qcol g kv d) (gcol g kv d).isLt ?_ ?_
  · have := (gcol g kv d).isLt; omega
  · pointwise
    have e : S512.rowMajor (ix1 (qcol g kv d)) = qcol g kv d := Fin.ext (Shape.rowMajor_val_one (ix1 (qcol g kv d)))
    exact (congrArg lit0 e).trans (table g kv d)

end Cert.Attn.Gain

end
-- ==== Proof.Attn.Ref.lean ====
/- The reference's result at an index: the attention of one query head, each weight divided before it meets its
   value, RMS-normalized and scaled. -/
module

public import proofs.«01_k».proof.Proof.Attn.Spec
public import proofs.«01_k».proof.Proof.Gen.ReferenceIdeal.Read

@[expose] public section

set_option maxRecDepth 16384

noncomputable section

namespace Cert.Attn.Ref

open Idealize.ShloMosaic Idealize.ShloMosaic.TcCoe Idealize.SL.Sem
open Cert.ReferenceIdeal Cert.ReferenceIdeal.Gen Cert.ReferenceIdeal.Read

variable (x0 : FVec Ideal S65536x512 .bf16) (x1 x2 : FVec Ideal S65536x128 .bf16) (x3 : FVec Ideal S512 .f32)

/-- The scores before the softmax. -/
theorem score_apply (b : Fin 32) (t : Fin 2048) (g : Fin 4) (kv : Fin 2) (s : Fin 2048) :
    val_main_v8 (F := Ideal) x0 x1 (ix5 b kv g t s) = score x0 x1 b t g kv s := by
  pointwise [val_main_v8, val_main_v7, val_main_v5, val_main_v4, val_main_v3, val_main_v2, val_main_v1, val_main_v0, score]
  exact Finset.sum_congr rfl fun d _ => mul_comm _ _

/-- The host's largest score of a row, as a fold over the row. -/
theorem reduce_max (y : FVec Ideal S32x2x4x2048x2048 .f32) (c : FVec Ideal S_ .f32) (b : Fin 32) (t : Fin 2048) (g : Fin 4) (kv : Fin 2) :
    Host.reduce FloatOps.maximumf y c reducesTo_S32x2x4x2048x2048_S32x2x4x2048_d4 h_S_ (ix4 b kv g t)
      = Finset.univ.fold max (c (Shape.Idx.first h_S_)) (fun k : Fin 2048 => y (ix5 b kv g t k)) := by
  pointwise

/-- The row maximum of the scores. -/
theorem reduced_apply (b : Fin 32) (t : Fin 2048) (g : Fin 4) (kv : Fin 2) :
    val_main_v9 (F := Ideal) x0 x1 (ix4 b kv g t) = top (score x0 x1 b t g kv) := by
  unfold val_main_v9 top
  rw [reduce_max]
  refine congrArg₂ (fun c y => Finset.univ.fold max c y) ?_ (funext fun k => score_apply x0 x1 b t g kv k)
  pointwise [val_main_cst]

/-- The row maximum, once more against minus infinity. -/
theorem top_apply (b : Fin 32) (t : Fin 2048) (g : Fin 4) (kv : Fin 2) :
    val_main_v11 (F := Ideal) x0 x1 (ix4 b kv g t) = top (score x0 x1 b t g kv) := by
  rw [val_main_v11_apply, val_main_v10_apply, val_main_cst_0_apply, reduced_apply]
  exact max_top _

/-- The weights. -/
theorem wt_apply (b : Fin 32) (t : Fin 2048) (g : Fin 4) (kv : Fin 2) (s : Fin 2048) :
    val_main_v15 (F := Ideal) x0 x1 (ix5 b kv g t s) = wt (score x0 x1 b t g kv) s := by
  rw [wt, ← score_apply, ← top_apply]
  pointwise [val_main_v15, val_main_v14, val_main_v13, val_main_v12]

/-- The weighted sums of the values. -/
theorem out_apply (b : Fin 32) (t : Fin 2048) (g : Fin 4) (kv : Fin 2) (d : Fin 64) :
    val_main_v21 (F := Ideal) x0 x1 x2 (ix5 b t kv g d)
      = outEarly (score x0 x1 b t g kv) (value x2 b kv) d := by
  unfold outEarly value
  simp only [← wt_apply]
  pointwise [val_main_v21, val_main_v20, val_main_v19, val_main_v18, val_main_v17, val_main_v16, val_main_cst_1, val_main_v6, val_main_v2]

/-- The heads in the layer's order: the key and value head first, then the pair. -/
abbrev head (g : Fin 4) (kv : Fin 2) : Fin 8 := ⟨kv.val * 4 + g.val, by omega⟩

/-- The weighted sums with the heads in the layer's order. -/
theorem heads_apply (b : Fin 32) (t : Fin 2048) (g : Fin 4) (kv : Fin 2) (d : Fin 64) :
    val_main_v22 (F := Ideal) x0 x1 x2 (ix4 b t (head g kv) d)
      = outEarly (score x0 x1 b t g kv) (value x2 b kv) d := by
  rw [← out_apply, val_main_v22_apply]
  refine congrArg _ (funext fun a => Fin.ext ?_)
  have hb := b.isLt; have ht := t.isLt; have hg := g.isLt; have hk := kv.isLt; have hd := d.isLt
  match a with
  | ⟨0, _⟩ => show (((b.val * 2048 + t.val) * 8 + (kv.val * 4 + g.val)) * 64 + d.val) / 1048576 = b.val; omega
  | ⟨1, _⟩ => show (((b.val * 2048 + t.val) * 8 + (kv.val * 4 + g.val)) * 64 + d.val) / 512 % 2048 = t.val; omega
  | ⟨2, _⟩ => show (((b.val * 2048 + t.val) * 8 + (kv.val * 4 + g.val)) * 64 + d.val) / 256 % 2 = kv.val; omega
  | ⟨3, _⟩ => show (((b.val * 2048 + t.val) * 8 + (kv.val * 4 + g.val)) * 64 + d.val) / 64 % 4 = g.val; omega
  | ⟨4, _⟩ => show (((b.val * 2048 + t.val) * 8 + (kv.val * 4 + g.val)) * 64 + d.val) % 64 = d.val; omega

/-- The heads normalized and scaled by their gains. -/
theorem scaled_apply (b : Fin 32) (t : Fin 2048) (g : Fin 4) (kv : Fin 2) (d : Fin 64) :
    val_main_v36 (F := Ideal) x0 x1 x2 x3 (ix4 b t (head g kv) d)
      = normed (outEarly (score x0 x1 b t g kv) (value x2 b kv)) d * x3 (ix1 (gcol g kv d)) := by
  unfold normed
  simp only [← heads_apply]
  pointwise [val_main_v36, val_main_v35, val_main_v34, val_main_v33, val_main_v32, val_main_v31, val_main_v30, val_main_v29, val_main_v28, val_main_v27, val_main_v26, val_main_v25, val_main_v24, val_main_v23, val_main_cst_2, val_main_cst_3, val_main_cst_4]

/-- The reference's result. -/
theorem result_apply (b : Fin 32) (t : Fin 2048) (g : Fin 4) (kv : Fin 2) (d : Fin 64) :
    val_main_v40 (F := Ideal) x0 x1 x2 x3 (ix2 (row b t) (qcol g kv d))
      = normed (outEarly (score x0 x1 b t g kv) (value x2 b kv)) d * x3 (ix1 (gcol g kv d)) := by
  rw [← scaled_apply]
  pointwise [val_main_v40, val_main_v39, val_main_v38, val_main_v37]
  have hb := b.isLt; have ht := t.isLt; have hg := g.isLt; have hk := kv.isLt; have hd := d.isLt
  refine congrArg _ ((ix4_inj ..).2 ⟨Fin.ext ?_, Fin.ext ?_, Fin.ext ?_, Fin.ext ?_⟩) <;> dsimp only <;> omega

end Cert.Attn.Ref

end
-- ==== Proof.Attn.Final.lean ====
/- The attention kernel's result array after the run: at every row and column the attention of that row's query head,
   as the reference computes it. -/
module

public import proofs.«01_k».proof.Proof.Attn.Tile
public import proofs.«01_k».proof.Proof.Attn.Gain
public import proofs.«01_k».proof.Proof.Attn.Ref
public import proofs.«01_k».proof.Proof.Gen.KernelIdeal.Value

@[expose] public section

set_option maxRecDepth 16384

noncomputable section

namespace Cert.Attn.Final

open Idealize.ShloMosaic Idealize.ShloMosaic.TcCoe Idealize.SL.Sem
open Cert.KernelIdeal Cert.KernelIdeal.Gen Cert.Attn.Tile

/-- A query column is one of a pair, a head and a lane. -/
theorem qcol_cases (l : Fin 512) : ∃ (g : Fin 4) (kv : Fin 2) (d : Fin 64), l = qcol g kv d :=
  ⟨⟨l.val / 128, by omega⟩, ⟨l.val / 64 % 2, by omega⟩, ⟨l.val % 64, by omega⟩, Fin.ext (by
    show l.val = l.val / 128 * 128 + l.val / 64 % 2 * 64 + l.val % 64; omega)⟩

/-- One pair's stored rows, read at a row and a lane, from its pair's columns of the blocks. -/
theorem pair_apply (g : Fin 4) (q : FVec Ideal S512x512 .bf16) (k v : FVec Ideal S2048x128 .bf16) (gn : FVec Ideal S1x512 .f32)
    (qt : FVec Ideal S512x128 .bf16) (gt : FVec Ideal S1x128 .f32)
    (hq : ∀ r kv d, qt (ix2 r (kcol kv d)) = q (ix2 r (qcol g kv d))) (hg : ∀ kv d, gt (ix2 0 (kcol kv d)) = gn (ix2 0 (qcol g kv d)))
    (r : Fin 512) (kv : Fin 2) (d : Fin 64) :
    scale (F := Ideal) (both k v qt) gt (ix2 r (kcol kv d))
      = normed (outLate (fun s => ∑ d : Fin 64, q (ix2 r (qcol g kv d)) * k (ix2 s (kcol kv d))) (fun j e => v (ix2 j (kcol kv e)))) d
        * gn (ix2 0 (qcol g kv d)) := by
  rw [scale_apply, hg]
  simp only [both_apply, hq]

/-- An index of a pair's block from its coordinates. -/
theorem at_lane {r : Fin 512} {l : Fin 128} (x : S512x128.Idx) (h0 : (x 0).val = r.val) (h1 : (x 1).val = l.val) : x = ix2 r l :=
  funext fun a => Fin.ext (match a with | ⟨0, _⟩ => h0 | ⟨1, _⟩ => h1)

/-- The keys' and the values' block is read whole. -/
theorem whole (k : Vec Ideal S2048x128 .bf16) : View.ld k r0_0 = k :=
  View.ld_unit_zero (by funext a; match a with | ⟨0, _⟩ => rfl | ⟨1, _⟩ => rfl) _ k

/-- What the body leaves in the output block, at a row and a column. -/
theorem block_apply (q : FVec Ideal S512x512 .bf16) (k v : FVec Ideal S2048x128 .bf16) (gn : FVec Ideal S1x512 .f32)
    (r : Fin 512) (g : Fin 4) (kv : Fin 2) (d : Fin 64) :
    out0_4 (F := Ideal) q k v gn (ix2 r (qcol g kv d))
      = normed (outLate (fun s => ∑ d : Fin 64, q (ix2 r (qcol g kv d)) * k (ix2 s (kcol kv d))) (fun j e => v (ix2 j (kcol kv e)))) d
        * gn (ix2 0 (qcol g kv d)) := by
  canon_tiles x h
  case piece0 =>
    have hk := kv.isLt; have hd := d.isLt
    replace h1 : g.val * 128 + kv.val * 64 + d.val = 384 + (x 1).val := h1
    replace x1_lt : (x 1).val < 128 := x1_lt
    obtain rfl : g = 3 := Fin.ext (show g.val = 3 by omega)
    obtain rfl : x = ix2 r (kcol kv d) := at_lane x h0.symm (by show (x 1).val = kv.val * 64 + d.val; have : ((3 : Fin 4) : Nat) = 3 := rfl; omega)
    unfold k0_pay18
    rw [whole, whole, pair3]
    exact pair_apply 3 q k v gn _ _
      (fun r kv d => View.ld_unit_apply_of _ _ _ _ _ _ (fun a => match a with
        | ⟨0, _⟩ => (Nat.zero_add r.val).symm
        | ⟨1, _⟩ => by show 3 * 128 + kv.val * 64 + d.val = 384 + (kv.val * 64 + d.val); omega))
      (fun kv d => View.ld_unit_apply_of _ _ _ _ _ _ (fun a => match a with
        | ⟨0, _⟩ => rfl
        | ⟨1, _⟩ => by show 3 * 128 + kv.val * 64 + d.val = 384 + (kv.val * 64 + d.val); omega)) r kv d
  case piece1 =>
    have hk := kv.isLt; have hd := d.isLt
    replace h1 : g.val * 128 + kv.val * 64 + d.val = 256 + (x 1).val := h1
    replace x1_lt : (x 1).val < 128 := x1_lt
    obtain rfl : g = 2 := Fin.ext (show g.val = 2 by omega)
    obtain rfl : x = ix2 r (kcol kv d) := at_lane x h0.symm (by show (x 1).val = kv.val * 64 + d.val; have : ((2 : Fin 4) : Nat) = 2 := rfl; omega)
    unfold k0_pay18
    rw [whole, whole, pair2]
    exact pair_apply 2 q k v gn _ _
      (fun r kv d => View.ld_unit_apply_of _ _ _ _ _ _ (fun a => match a with
        | ⟨0, _⟩ => (Nat.zero_add r.val).symm
        | ⟨1, _⟩ => by show 2 * 128 + kv.val * 64 + d.val = 256 + (kv.val * 64 + d.val); omega))
      (fun kv d => View.ld_unit_apply_of _ _ _ _ _ _ (fun a => match a with
        | ⟨0, _⟩ => rfl
        | ⟨1, _⟩ => by show 2 * 128 + kv.val * 64 + d.val = 256 + (kv.val * 64 + d.val); omega)) r kv d
  case piece2 =>
    have hk := kv.isLt; have hd := d.isLt
    replace h1 : g.val * 128 + kv.val * 64 + d.val = 128 + (x 1).val := h1
    replace x1_lt : (x 1).val < 128 := x1_lt
    obtain rfl : g = 1 := Fin.ext (show g.val = 1 by omega)
    obtain rfl : x = ix2 r (kcol kv d) := at_lane x h0.symm (by show (x 1).val = kv.val * 64 + d.val; have : ((1 : Fin 4) : Nat) = 1 := rfl; omega)
    unfold k0_pay18
    rw [whole, whole, pair1]
    exact pair_apply 1 q k v gn _ _
      (fun r kv d => View.ld_unit_apply_of _ _ _ _ _ _ (fun a => match a with
        | ⟨0, _⟩ => (Nat.zero_add r.val).symm
        | ⟨1, _⟩ => by show 1 * 128 + kv.val * 64 + d.val = 128 + (kv.val * 64 + d.val); omega))
      (fun kv d => View.ld_unit_apply_of _ _ _ _ _ _ (fun a => match a with
        | ⟨0, _⟩ => rfl
        | ⟨1, _⟩ => by show 1 * 128 + kv.val * 64 + d.val = 128 + (kv.val * 64 + d.val); omega)) r kv d
  case piece3 =>
    have hk := kv.isLt; have hd := d.isLt
    replace h1 : g.val * 128 + kv.val * 64 + d.val = 0 + (x 1).val := h1.trans (Nat.zero_add _).symm
    replace x1_lt : (x 1).val < 128 := x1_lt
    obtain rfl : g = 0 := Fin.ext (show g.val = 0 by omega)
    obtain rfl : x = ix2 r (kcol kv d) := at_lane x h0.symm (by show (x 1).val = kv.val * 64 + d.val; have : ((0 : Fin 4) : Nat) = 0 := rfl; omega)
    unfold k0_pay18
    rw [whole, whole, pair0]
    exact pair_apply 0 q k v gn _ _
      (fun r kv d => View.ld_unit_apply_of _ _ _ _ _ _ (fun a => match a with
        | ⟨0, _⟩ => (Nat.zero_add r.val).symm
        | ⟨1, _⟩ => by show 0 * 128 + kv.val * 64 + d.val = 0 + (kv.val * 64 + d.val); omega))
      (fun kv d => View.ld_unit_apply_of _ _ _ _ _ _ (fun a => match a with
        | ⟨0, _⟩ => rfl
        | ⟨1, _⟩ => by show 0 * 128 + kv.val * 64 + d.val = 0 + (kv.val * 64 + d.val); omega)) r kv d

variable (m : (ℓ : Loc nD τ sig) → Buf (Elt Ideal) ℓ)

/-- The windows' block indices. -/
theorem idx : ∀ t : Fin cfg0.N, win0_0.index t = ![t.val, 0] ∧ win0_1.index t = ![t.val / 4, 0] ∧ win0_2.index t = ![t.val / 4, 0]
    ∧ win0_3.index t = ![0, 0] ∧ win0_4.index t = ![t.val, 0] :=
  (by decide +kernel : ∀ t : Fin grid0.N, _)

/-- A block's rows are the reference's rows at the block's place. -/
theorem point (c : Dev nD) (t : Fin cfg0.N) (y : S512x512.Idx) :
    out0_4 (iblk m c 0 t) (iblk m c 1 t) (iblk m c 2 t) (iblk m c 3 t) y
      = Cert.ReferenceIdeal.Read.val_main_v40 (F := Ideal) (m ((c : Thread nD τ).loc main_arg0)) (m ((c : Thread nD τ).loc main_arg1))
          (m ((c : Thread nD τ).loc main_arg2)) (m ((c : Thread nD τ).loc main_arg3)) (((cfg0.win 4).blk t).view.emb y) := by
  obtain ⟨r, l, rfl⟩ : ∃ r l : Fin 512, y = ix2 r l :=
    ⟨y 0, y 1, funext fun a => Fin.ext (match a with | ⟨0, _⟩ => rfl | ⟨1, _⟩ => rfl)⟩
  obtain ⟨g, kv, d, rfl⟩ := qcol_cases l
  have ht := t.isLt
  have hr := r.isLt
  have hq := (qcol g kv d).isLt
  have hN : cfg0.N = 128 := rfl
  rw [block_apply, normed_late_eq_early]
  have e : ((cfg0.win 4).blk t).view.emb (ix2 r (qcol g kv d))
      = ix2 (row ⟨t.val / 4, by omega⟩ ⟨t.val % 4 * 512 + r.val, by omega⟩) (qcol g kv d) := by
    blk_ext [idx t]
  rw [e, Ref.result_apply]
  refine congrArg₂ (· * ·) (congrArg₂ (fun s v => normed (outEarly s v) d) ?_ ?_) ?_
  · funext s
    unfold score
    refine Finset.sum_congr rfl fun d _ => congrArg₂ (· * ·) ?_ ?_
    · blk_ext [iblk, V, idx t]
    · blk_ext [iblk, V, idx t]
  · funext s d
    unfold value
    blk_ext [iblk, V, idx t]
  · refine Eq.trans ?_ (Gain.gain_apply m c g kv d)
    blk_ext [iblk, idx t]

/-- The result array after the run. -/
theorem final (c : Dev nD) : (dats m 0 c).arrAt 4 cfg0.N
    = Cert.ReferenceIdeal.Read.val_main_v40 (F := Ideal) (m ((c : Thread nD τ).loc main_arg0)) (m ((c : Thread nD τ).loc main_arg1))
        (m ((c : Thread nD τ).loc main_arg2)) (m ((c : Thread nD τ).loc main_arg3)) := by
  refine (dats m 0 c).arrAt_eq_of_covers 4 _ (by decide +kernel) fun t _ y => ?_
  blk_simp
  rw [after0_4]
  exact point m c t y

end Cert.Attn.Final

end
-- ==== Proof.Oproj.Spec.lean ====
/- The output projection, the normalization after it and the retrieval scores as functions of the arrays' elements. No
   program is mentioned here. -/
module

public import Idealize.ShloMosaic.PureOps.Ideal
public import Idealize.ShloMosaic.PureOps.Ideal.Laws
public import Idealize.ShloMosaic.Lib.Pointwise

@[expose] public section

noncomputable section

namespace Cert.Oproj

open Idealize.ShloMosaic

/-- The place in the order of the heads of a column in the order of the pairs. -/
abbrev toHead (j : Fin 512) : Fin 512 := ⟨(j.val / 64 % 2 * 4 + j.val / 128) * 64 + j.val % 64, by omega⟩

/-- The column in the order of the pairs of a place in the order of the heads. -/
abbrev toPair (i : Fin 512) : Fin 512 := ⟨i.val / 64 % 4 * 128 + i.val / 256 * 64 + i.val % 64, by omega⟩

/-- The two orders of the columns, one against the other. -/
def order : Fin 512 ≃ Fin 512 where
  toFun := toHead
  invFun := toPair
  left_inv := (by decide +kernel : ∀ j : Fin 512, toPair (toHead j) = j)
  right_inv := (by decide +kernel : ∀ i : Fin 512, toHead (toPair i) = i)

/-- A row of the projection's first half. -/
abbrev up (i : Fin 512) : Fin 1024 := ⟨i.val, by omega⟩

/-- A row of its second half. -/
abbrev down (i : Fin 512) : Fin 1024 := ⟨512 + i.val, by omega⟩

/-- A column of the retrieval queries: the set of keys, the lane. -/
abbrev lane (n : Fin 16) (d : Fin 128) : Fin 2048 := ⟨n.val * 128 + d.val, by omega⟩

/-- The normalization of 1024 columns with its gain and shift at a column. -/
def ln (z : Fin 1024 → EReal) (g b : EReal) (c : Fin 1024) : EReal :=
  let mean := Ideal.div (∑ e, z e) (Ideal.ofBits .f32 0x44800000#32)
  (z c - mean) * Ideal.rsqrt (Ideal.div (∑ e, (z e - mean) * (z e - mean)) (Ideal.ofBits .f32 0x44800000#32) + Ideal.ofBits .f32 0x3727C5AC#32) * g + b

/-- The two groups' outputs through the projection: each group's columns in the order of the pairs. -/
def mixed (oa ob : Fin 512 → EReal) (w : Fin 1024 → EReal) : EReal :=
  (∑ j, oa j * w (up (toHead j))) + ∑ j, ob j * w (down (toHead j))

/-- The same with the columns put in the order of the heads first. -/
theorem mixed_heads (oa ob : Fin 512 → EReal) (w : Fin 1024 → EReal) :
    (∑ i, oa (toPair i) * w (up i)) + ∑ i, ob (toPair i) * w (down i) = mixed oa ob w := by
  unfold mixed
  refine congrArg₂ (· + ·) ?_ ?_
  · refine (Fintype.sum_equiv order _ _ fun j => ?_).symm
    exact congrArg (oa · * w (up (toHead j))) (order.left_inv j).symm
  · refine (Fintype.sum_equiv order _ _ fun j => ?_).symm
    exact congrArg (ob · * w (down (toHead j))) (order.left_inv j).symm

end Cert.Oproj

end
-- ==== Proof.Oproj.Tile.lean ====
/- What one block of the output projection's kernel computes, read element by element. -/
module

public import proofs.«01_k».proof.Proof.Oproj.Spec
public import proofs.«01_k».proof.Proof.Gen.Kernel2Ideal.Frame
public import Idealize.ShloMosaic.Lib.Pipeline.ValueKit

@[expose] public section

set_option maxRecDepth 16384

noncomputable section

namespace Cert.Oproj.Tile

open Idealize.ShloMosaic Idealize.ShloMosaic.TcCoe Idealize.SL.Sem
open Cert.Kernel2Ideal Cert.Kernel2Ideal.Gen

/-- The block's normalized rows. -/
theorem norm_apply (oa ob : FVec Ideal S512x512 .bf16) (wa wb : FVec Ideal S512x1024 .bf16) (h : FVec Ideal S512x1024 .f32)
    (g b : FVec Ideal S1x1024 .f32) (r : Fin 512) (c : Fin 1024) :
    k0_pay2 (F := Ideal) oa wa ob wb h g b (ix2 r c)
      = ln (fun c => Ideal.ofBits .f32 0x3FB504F3#32 * h (ix2 r c)
          + ((∑ j, oa (ix2 r j) * wa (ix2 j c)) + ∑ j, ob (ix2 r j) * wb (ix2 j c))) (g (ix2 0 c)) (b (ix2 0 c)) c := by
  unfold ln
  pointwise [k0_pay2]

/-- The block's queries. -/
theorem query_apply (h : FVec Ideal S512x1024 .f32) (w : FVec Ideal S1024x2048 .bf16) (r : Fin 512) (j : Fin 2048) :
    k0_pay3 (F := Ideal) h w (ix2 r j) = ∑ c, h (ix2 r c) * w (ix2 c j) := by
  pointwise [k0_pay3]

/-- The first set's scores. -/
theorem score0_apply (h : FVec Ideal S512x1024 .f32) (w : FVec Ideal S1024x2048 .bf16) (key : FVec Ideal S1x128x128 .bf16) (k : Fin 128) (r : Fin 512) :
    k0_pay4 (F := Ideal) h w key (ix3 0 k r) = ∑ d, key (ix3 0 k d) * k0_pay3 (F := Ideal) h w (ix2 r (lane 0 d)) := by
  pointwise [k0_pay4, k0_pay3]
  simp only [show ∀ d, lane 0 d = ⟨d.val, by omega⟩ from fun d => Fin.ext (Nat.zero_add _)]

/-- The second set's scores. -/
theorem score1_apply (h : FVec Ideal S512x1024 .f32) (w : FVec Ideal S1024x2048 .bf16) (key : FVec Ideal S1x128x128 .bf16) (k : Fin 128) (r : Fin 512) :
    k0_pay5 (F := Ideal) h w key (ix3 0 k r) = ∑ d, key (ix3 0 k d) * k0_pay3 (F := Ideal) h w (ix2 r (lane 1 d)) := by
  pointwise [k0_pay5, k0_pay3]
  exact Finset.sum_congr rfl fun d _ => rfl

/-- The third set's scores. -/
theorem score2_apply (h : FVec Ideal S512x1024 .f32) (w : FVec Ideal S1024x2048 .bf16) (key : FVec Ideal S1x128x128 .bf16) (k : Fin 128) (r : Fin 512) :
    k0_pay6 (F := Ideal) h w key (ix3 0 k r) = ∑ d, key (ix3 0 k d) * k0_pay3 (F := Ideal) h w (ix2 r (lane 2 d)) := by
  pointwise [k0_pay6, k0_pay3]
  exact Finset.sum_congr rfl fun d _ => rfl

/-- The fourth set's scores. -/
theorem score3_apply (q : FVec Ideal S512x2048 .bf16) (key : FVec Ideal S1x128x128 .bf16) (k : Fin 128) (r : Fin 512) :
    k0_pay7 (F := Ideal) q key (ix3 0 k r) = ∑ d, key (ix3 0 k d) * q (ix2 r (lane 3 d)) := by
  pointwise [k0_pay7]
  exact Finset.sum_congr rfl fun d _ => rfl

/-- The fifth set's scores. -/
theorem score4_apply (q : FVec Ideal S512x2048 .bf16) (key : FVec Ideal S1x128x128 .bf16) (k : Fin 128) (r : Fin 512) :
    k0_pay8 (F := Ideal) q key (ix3 0 k r) = ∑ d, key (ix3 0 k d) * q (ix2 r (lane 4 d)) := by
  pointwise [k0_pay8]
  exact Finset.sum_congr rfl fun d _ => rfl

/-- The sixth set's scores. -/
theorem score5_apply (q : FVec Ideal S512x2048 .bf16) (key : FVec Ideal S1x128x128 .bf16) (k : Fin 128) (r : Fin 512) :
    k0_pay9 (F := Ideal) q key (ix3 0 k r) = ∑ d, key (ix3 0 k d) * q (ix2 r (lane 5 d)) := by
  pointwise [k0_pay9]
  exact Finset.sum_congr rfl fun d _ => rfl

/-- The seventh set's scores. -/
theorem score6_apply (q : FVec Ideal S512x2048 .bf16) (key : FVec Ideal S1x128x128 .bf16) (k : Fin 128) (r : Fin 512) :
    k0_pay10 (F := Ideal) q key (ix3 0 k r) = ∑ d, key (ix3 0 k d) * q (ix2 r (lane 6 d)) := by
  pointwise [k0_pay10]
  exact Finset.sum_congr rfl fun d _ => rfl

/-- The eighth set's scores. -/
theorem score7_apply (q : FVec Ideal S512x2048 .bf16) (key : FVec Ideal S1x128x128 .bf16) (k : Fin 128) (r : Fin 512) :
    k0_pay11 (F := Ideal) q key (ix3 0 k r) = ∑ d, key (ix3 0 k d) * q (ix2 r (lane 7 d)) := by
  pointwise [k0_pay11]
  exact Finset.sum_congr rfl fun d _ => rfl

/-- The ninth set's scores. -/
theorem score8_apply (q : FVec Ideal S512x2048 .bf16) (key : FVec Ideal S1x128x128 .bf16) (k : Fin 128) (r : Fin 512) :
    k0_pay12 (F := Ideal) q key (ix3 0 k r) = ∑ d, key (ix3 0 k d) * q (ix2 r (lane 8 d)) := by
  pointwise [k0_pay12]
  exact Finset.sum_congr rfl fun d _ => rfl

/-- The tenth set's scores. -/
theorem score9_apply (q : FVec Ideal S512x2048 .bf16) (key : FVec Ideal S1x128x128 .bf16) (k : Fin 128) (r : Fin 512) :
    k0_pay13 (F := Ideal) q key (ix3 0 k r) = ∑ d, key (ix3 0 k d) * q (ix2 r (lane 9 d)) := by
  pointwise [k0_pay13]
  exact Finset.sum_congr rfl fun d _ => rfl

/-- The eleventh set's scores. -/
theorem score10_apply (q : FVec Ideal S512x2048 .bf16) (key : FVec Ideal S1x128x128 .bf16) (k : Fin 128) (r : Fin 512) :
    k0_pay14 (F := Ideal) q key (ix3 0 k r) = ∑ d, key (ix3 0 k d) * q (ix2 r (lane 10 d)) := by
  pointwise [k0_pay14]
  exact Finset.sum_congr rfl fun d _ => rfl

/-- The twelfth set's scores. -/
theorem score11_apply (q : FVec Ideal S512x2048 .bf16) (key : FVec Ideal S1x128x128 .bf16) (k : Fin 128) (r : Fin 512) :
    k0_pay15 (F := Ideal) q key (ix3 0 k r) = ∑ d, key (ix3 0 k d) * q (ix2 r (lane 11 d)) := by
  pointwise [k0_pay15]
  exact Finset.sum_congr rfl fun d _ => rfl

/-- The thirteenth set's scores. -/
theorem score12_apply (q : FVec Ideal S512x2048 .bf16) (key : FVec Ideal S1x128x128 .bf16) (k : Fin 128) (r : Fin 512) :
    k0_pay16 (F := Ideal) q key (ix3 0 k r) = ∑ d, key (ix3 0 k d) * q (ix2 r (lane 12 d)) := by
  pointwise [k0_pay16]
  exact Finset.sum_congr rfl fun d _ => rfl

/-- The fourteenth set's scores. -/
theorem score13_apply (q : FVec Ideal S512x2048 .bf16) (key : FVec Ideal S1x128x128 .bf16) (k : Fin 128) (r : Fin 512) :
    k0_pay17 (F := Ideal) q key (ix3 0 k r) = ∑ d, key (ix3 0 k d) * q (ix2 r (lane 13 d)) := by
  pointwise [k0_pay17]
  exact Finset.sum_congr rfl fun d _ => rfl

/-- The fifteenth set's scores. -/
theorem score14_apply (q : FVec Ideal S512x2048 .bf16) (key : FVec Ideal S1x128x128 .bf16) (k : Fin 128) (r : Fin 512) :
    k0_pay18 (F := Ideal) q key (ix3 0 k r) = ∑ d, key (ix3 0 k d) * q (ix2 r (lane 14 d)) := by
  pointwise [k0_pay18]
  exact Finset.sum_congr rfl fun d _ => rfl

/-- The sixteenth set's scores. -/
theorem score15_apply (q : FVec Ideal S512x2048 .bf16) (key : FVec Ideal S1x128x128 .bf16) (k : Fin 128) (r : Fin 512) :
    k0_pay1 (F := Ideal) q key (ix3 0 k r) = ∑ d, key (ix3 0 k d) * q (ix2 r (lane 15 d)) := by
  pointwise [k0_pay1]
  exact Finset.sum_congr rfl fun d _ => rfl

/-- One set's stored scores read from its keys' part of the block. -/
theorem set_apply (x8 : FVec Ideal S16x128x128 .bf16) (q : FVec Ideal S512x2048 .bf16) (n : Fin 16) (p : FVec Ideal S1x128x512 .f32)
    (key : FVec Ideal S1x128x128 .bf16) (hp : ∀ k r, p (ix3 0 k r) = ∑ d, key (ix3 0 k d) * q (ix2 r (lane n d)))
    (hk : ∀ k d, key (ix3 0 k d) = x8 (ix3 n k d)) (x : S1x128x512.Idx) (k : Fin 128) (r : Fin 512) (h1 : (x 1).val = k.val) (h2 : (x 2).val = r.val) :
    p x = ∑ d, x8 (ix3 n k d) * q (ix2 r (lane n d)) := by
  obtain rfl : x = ix3 0 k r := funext fun a => Fin.ext (match a with
    | ⟨0, _⟩ => by have : (x 0).val < 1 := (x 0).isLt; show (x 0).val = 0; omega
    | ⟨1, _⟩ => h1
    | ⟨2, _⟩ => h2)
  rw [hp]
  simp only [hk]

section Block

variable (x0 x1 : Vec Ideal S512x512 .bf16) (x2 x3 : Vec Ideal S512x1024 .bf16) (x4 : Vec Ideal S512x1024 .f32)
  (x5 x6 : Vec Ideal S1x1024 .f32) (x7 : Vec Ideal S1024x2048 .bf16) (x8 : Vec Ideal S16x128x128 .bf16)

/-- The rows the body stores, from the whole blocks. -/
theorem rows_eq : k0_pay19 (F := Ideal) x0 x1 x2 x3 x4 x5 x6 x7 x8 = k0_pay2 x0 x2 x1 x3 x4 x5 x6 := by
  have e0 (x : Vec Ideal S512x512 .bf16) : View.ld x r0_0 = x := View.ld_unit_zero (by funext a; match a with | ⟨0, _⟩ => rfl | ⟨1, _⟩ => rfl) _ x
  have e1 (x : Vec Ideal S512x1024 .bf16) : View.ld x r0_1 = x := View.ld_unit_zero (by funext a; match a with | ⟨0, _⟩ => rfl | ⟨1, _⟩ => rfl) _ x
  have e2 (x : Vec Ideal S512x1024 .f32) : View.ld x r0_1 = x := View.ld_unit_zero (by funext a; match a with | ⟨0, _⟩ => rfl | ⟨1, _⟩ => rfl) _ x
  have e3 (x : Vec Ideal S1x1024 .f32) : View.ld x r0_2 = x := View.ld_unit_zero (by funext a; match a with | ⟨0, _⟩ => rfl | ⟨1, _⟩ => rfl) _ x
  unfold k0_pay19
  rw [e0, e0, e1, e1, e2, e3, e3]

/-- The queries' weights are read whole. -/
theorem weights_eq : View.ld x7 r0_3 = x7 :=
  View.ld_unit_zero (by funext a; match a with | ⟨0, _⟩ => rfl | ⟨1, _⟩ => rfl) _ x7

/-- What the body leaves in the first output's block. -/
theorem block_rows : out0_9 (F := Ideal) x0 x1 x2 x3 x4 x5 x6 x7 x8 = k0_pay2 x0 x2 x1 x3 x4 x5 x6 := by
  unfold out0_9
  rw [rows_eq]
  exact View.canon_unit_zero (by funext a; match a with | ⟨0, _⟩ => rfl | ⟨1, _⟩ => rfl) _ _

/-- What the body leaves in the second output's block: each set's keys against its lanes of the rows' queries. -/
theorem block_scores (n : Fin 16) (k : Fin 128) (r : Fin 512) :
    out0_10 (F := Ideal) x0 x1 x2 x3 x4 x5 x6 x7 x8 (ix3 n k r)
      = ∑ d, x8 (ix3 n k d) * k0_pay3 (k0_pay2 x0 x2 x1 x3 x4 x5 x6) x7 (ix2 r (lane n d)) := by
  canon_tiles x h
  case piece0 =>
    obtain rfl : n = 15 := by
      replace h0 : n.val = 15 + (x 0).val := h0
      replace x0_lt : (x 0).val < 1 := x0_lt
      exact Fin.ext (show n.val = 15 by omega)
    rw [k0_pay20, rows_eq, weights_eq]
    exact set_apply x8 _ 15 _ _ (score15_apply _ _) (fun k d => View.ld_unit_apply_of _ _ _ _ _ _ (fun a => match a with
      | ⟨0, _⟩ => rfl
      | ⟨1, _⟩ => (Nat.zero_add k.val).symm
      | ⟨2, _⟩ => (Nat.zero_add d.val).symm)) x k r h1.symm h2.symm
  case piece1 =>
    obtain rfl : n = 14 := by
      replace h0 : n.val = 14 + (x 0).val := h0
      replace x0_lt : (x 0).val < 1 := x0_lt
      exact Fin.ext (show n.val = 14 by omega)
    rw [k0_pay20, rows_eq, weights_eq]
    exact set_apply x8 _ 14 _ _ (score14_apply _ _) (fun k d => View.ld_unit_apply_of _ _ _ _ _ _ (fun a => match a with
      | ⟨0, _⟩ => rfl
      | ⟨1, _⟩ => (Nat.zero_add k.val).symm
      | ⟨2, _⟩ => (Nat.zero_add d.val).symm)) x k r h1.symm h2.symm
  case piece2 =>
    obtain rfl : n = 13 := by
      replace h0 : n.val = 13 + (x 0).val := h0
      replace x0_lt : (x 0).val < 1 := x0_lt
      exact Fin.ext (show n.val = 13 by omega)
    rw [k0_pay20, rows_eq, weights_eq]
    exact set_apply x8 _ 13 _ _ (score13_apply _ _) (fun k d => View.ld_unit_apply_of _ _ _ _ _ _ (fun a => match a with
      | ⟨0, _⟩ => rfl
      | ⟨1, _⟩ => (Nat.zero_add k.val).symm
      | ⟨2, _⟩ => (Nat.zero_add d.val).symm)) x k r h1.symm h2.symm
  case piece3 =>
    obtain rfl : n = 12 := by
      replace h0 : n.val = 12 + (x 0).val := h0
      replace x0_lt : (x 0).val < 1 := x0_lt
      exact Fin.ext (show n.val = 12 by omega)
    rw [k0_pay20, rows_eq, weights_eq]
    exact set_apply x8 _ 12 _ _ (score12_apply _ _) (fun k d => View.ld_unit_apply_of _ _ _ _ _ _ (fun a => match a with
      | ⟨0, _⟩ => rfl
      | ⟨1, _⟩ => (Nat.zero_add k.val).symm
      | ⟨2, _⟩ => (Nat.zero_add d.val).symm)) x k r h1.symm h2.symm
  case piece4 =>
    obtain rfl : n = 11 := by
      replace h0 : n.val = 11 + (x 0).val := h0
      replace x0_lt : (x 0).val < 1 := x0_lt
      exact Fin.ext (show n.val = 11 by omega)
    rw [k0_pay20, rows_eq, weights_eq]
    exact set_apply x8 _ 11 _ _ (score11_apply _ _) (fun k d => View.ld_unit_apply_of _ _ _ _ _ _ (fun a => match a with
      | ⟨0, _⟩ => rfl
      | ⟨1, _⟩ => (Nat.zero_add k.val).symm
      | ⟨2, _⟩ => (Nat.zero_add d.val).symm)) x k r h1.symm h2.symm
  case piece5 =>
    obtain rfl : n = 10 := by
      replace h0 : n.val = 10 + (x 0).val := h0
      replace x0_lt : (x 0).val < 1 := x0_lt
      exact Fin.ext (show n.val = 10 by omega)
    rw [k0_pay20, rows_eq, weights_eq]
    exact set_apply x8 _ 10 _ _ (score10_apply _ _) (fun k d => View.ld_unit_apply_of _ _ _ _ _ _ (fun a => match a with
      | ⟨0, _⟩ => rfl
      | ⟨1, _⟩ => (Nat.zero_add k.val).symm
      | ⟨2, _⟩ => (Nat.zero_add d.val).symm)) x k r h1.symm h2.symm
  case piece6 =>
    obtain rfl : n = 9 := by
      replace h0 : n.val = 9 + (x 0).val := h0
      replace x0_lt : (x 0).val < 1 := x0_lt
      exact Fin.ext (show n.val = 9 by omega)
    rw [k0_pay20, rows_eq, weights_eq]
    exact set_apply x8 _ 9 _ _ (score9_apply _ _) (fun k d => View.ld_unit_apply_of _ _ _ _ _ _ (fun a => match a with
      | ⟨0, _⟩ => rfl
      | ⟨1, _⟩ => (Nat.zero_add k.val).symm
      | ⟨2, _⟩ => (Nat.zero_add d.val).symm)) x k r h1.symm h2.symm
  case piece7 =>
    obtain rfl : n = 8 := by
      replace h0 : n.val = 8 + (x 0).val := h0
      replace x0_lt : (x 0).val < 1 := x0_lt
      exact Fin.ext (show n.val = 8 by omega)
    rw [k0_pay20, rows_eq, weights_eq]
    exact set_apply x8 _ 8 _ _ (score8_apply _ _) (fun k d => View.ld_unit_apply_of _ _ _ _ _ _ (fun a => match a with
      | ⟨0, _⟩ => rfl
      | ⟨1, _⟩ => (Nat.zero_add k.val).symm
      | ⟨2, _⟩ => (Nat.zero_add d.val).symm)) x k r h1.symm h2.symm
  case piece8 =>
    obtain rfl : n = 7 := by
      replace h0 : n.val = 7 + (x 0).val := h0
      replace x0_lt : (x 0).val < 1 := x0_lt
      exact Fin.ext (show n.val = 7 by omega)
    rw [k0_pay20, rows_eq, weights_eq]
    exact set_apply x8 _ 7 _ _ (score7_apply _ _) (fun k d => View.ld_unit_apply_of _ _ _ _ _ _ (fun a => match a with
      | ⟨0, _⟩ => rfl
      | ⟨1, _⟩ => (Nat.zero_add k.val).symm
      | ⟨2, _⟩ => (Nat.zero_add d.val).symm)) x k r h1.symm h2.symm
  case piece9 =>
    obtain rfl : n = 6 := by
      replace h0 : n.val = 6 + (x 0).val := h0
      replace x0_lt : (x 0).val < 1 := x0_lt
      exact Fin.ext (show n.val = 6 by omega)
    rw [k0_pay20, rows_eq, weights_eq]
    exact set_apply x8 _ 6 _ _ (score6_apply _ _) (fun k d => View.ld_unit_apply_of _ _ _ _ _ _ (fun a => match a with
      | ⟨0, _⟩ => rfl
      | ⟨1, _⟩ => (Nat.zero_add k.val).symm
      | ⟨2, _⟩ => (Nat.zero_add d.val).symm)) x k r h1.symm h2.symm
  case piece10 =>
    obtain rfl : n = 5 := by
      replace h0 : n.val = 5 + (x 0).val := h0
      replace x0_lt : (x 0).val < 1 := x0_lt
      exact Fin.ext (show n.val = 5 by omega)
    rw [k0_pay20, rows_eq, weights_eq]
    exact set_apply x8 _ 5 _ _ (score5_apply _ _) (fun k d => View.ld_unit_apply_of _ _ _ _ _ _ (fun a => match a with
      | ⟨0, _⟩ => rfl
      | ⟨1, _⟩ => (Nat.zero_add k.val).symm
      | ⟨2, _⟩ => (Nat.zero_add d.val).symm)) x k r h1.symm h2.symm
  case piece11 =>
    obtain rfl : n = 4 := by
      replace h0 : n.val = 4 + (x 0).val := h0
      replace x0_lt : (x 0).val < 1 := x0_lt
      exact Fin.ext (show n.val = 4 by omega)
    rw [k0_pay20, rows_eq, weights_eq]
    exact set_apply x8 _ 4 _ _ (score4_apply _ _) (fun k d => View.ld_unit_apply_of _ _ _ _ _ _ (fun a => match a with
      | ⟨0, _⟩ => rfl
      | ⟨1, _⟩ => (Nat.zero_add k.val).symm
      | ⟨2, _⟩ => (Nat.zero_add d.val).symm)) x k r h1.symm h2.symm
  case piece12 =>
    obtain rfl : n = 3 := by
      replace h0 : n.val = 3 + (x 0).val := h0
      replace x0_lt : (x 0).val < 1 := x0_lt
      exact Fin.ext (show n.val = 3 by omega)
    rw [k0_pay20, rows_eq, weights_eq]
    exact set_apply x8 _ 3 _ _ (score3_apply _ _) (fun k d => View.ld_unit_apply_of _ _ _ _ _ _ (fun a => match a with
      | ⟨0, _⟩ => rfl
      | ⟨1, _⟩ => (Nat.zero_add k.val).symm
      | ⟨2, _⟩ => (Nat.zero_add d.val).symm)) x k r h1.symm h2.symm
  case piece13 =>
    obtain rfl : n = 2 := by
      replace h0 : n.val = 2 + (x 0).val := h0
      replace x0_lt : (x 0).val < 1 := x0_lt
      exact Fin.ext (show n.val = 2 by omega)
    rw [rows_eq, weights_eq]
    exact set_apply x8 _ 2 _ _ (score2_apply _ _ _) (fun k d => View.ld_unit_apply_of _ _ _ _ _ _ (fun a => match a with
      | ⟨0, _⟩ => rfl
      | ⟨1, _⟩ => (Nat.zero_add k.val).symm
      | ⟨2, _⟩ => (Nat.zero_add d.val).symm)) x k r h1.symm h2.symm
  case piece14 =>
    obtain rfl : n = 1 := by
      replace h0 : n.val = 1 + (x 0).val := h0
      replace x0_lt : (x 0).val < 1 := x0_lt
      exact Fin.ext (show n.val = 1 by omega)
    rw [rows_eq, weights_eq]
    exact set_apply x8 _ 1 _ _ (score1_apply _ _ _) (fun k d => View.ld_unit_apply_of _ _ _ _ _ _ (fun a => match a with
      | ⟨0, _⟩ => rfl
      | ⟨1, _⟩ => (Nat.zero_add k.val).symm
      | ⟨2, _⟩ => (Nat.zero_add d.val).symm)) x k r h1.symm h2.symm
  case piece15 =>
    obtain rfl : n = 0 := by
      replace h0 : n.val = 0 + (x 0).val := h0.trans (Nat.zero_add _).symm
      replace x0_lt : (x 0).val < 1 := x0_lt
      exact Fin.ext (show n.val = 0 by omega)
    rw [rows_eq, weights_eq]
    exact set_apply x8 _ 0 _ _ (score0_apply _ _ _) (fun k d => View.ld_unit_apply_of _ _ _ _ _ _ (fun a => match a with
      | ⟨0, _⟩ => rfl
      | ⟨1, _⟩ => (Nat.zero_add k.val).symm
      | ⟨2, _⟩ => (Nat.zero_add d.val).symm)) x k r h1.symm h2.symm

end Block

end Cert.Oproj.Tile

end
-- ==== Proof.Oproj.Weights.lean ====
/- The operands the output projection's kernel is handed by the host. -/
module

public import proofs.«01_k».proof.Proof.Oproj.Spec
public import proofs.«01_k».proof.Proof.Gen.Kernel2Ideal.Frame
public import Idealize.ShloMosaic.Lib.Claim
public import Idealize.ShloMosaic.Lib.Pipeline.ValueKit
public import Idealize.ShloMosaic.Lib.Routing.OpsSearch

@[expose] public section

set_option maxRecDepth 16384

noncomputable section

namespace Cert.Oproj.Weights

open Idealize.ShloMosaic Idealize.ShloMosaic.TcCoe Idealize.SL.Sem
open Cert.Kernel2Ideal Cert.Kernel2Ideal.Gen

/-- The table of the gather. -/
theorem table : ∀ j : Fin 512, lit0 j = BitVec.ofNat 32 (toHead j).val := by
  decide +kernel

variable (m : (ℓ : Loc nD τ sig) → Buf (Elt Ideal) ℓ)

/-- The first group's weights: the projection's rows in the order of the pairs. -/
theorem first_apply (c : Dev nD) (j : Fin 512) (l : Fin 1024) :
    V m c main_v6 (ix2 j l) = m ((c : Thread nD τ).loc main_arg3) (ix2 (up (toHead j)) l) := by
  entry_read
  pointwise
  have e : S512.rowMajor (ix1 j) = j := Fin.ext (Shape.rowMajor_val_one (ix1 j))
  refine (Routing.gather_row gather_S512x1024_S512x1_S512x1024_1_0_n_n_0_1_11024 rfl rfl rfl rfl rfl _ _ j l (toHead j) ?_ (by decide)).trans ?_
  · pointwise
    exact (congrArg lit0 e).trans (table j)
  · pointwise

/-- The second group's weights. -/
theorem second_apply (c : Dev nD) (j : Fin 512) (l : Fin 1024) :
    V m c main_v13 (ix2 j l) = m ((c : Thread nD τ).loc main_arg3) (ix2 (down (toHead j)) l) := by
  entry_read
  pointwise
  have e : S512.rowMajor (ix1 j) = j := Fin.ext (Shape.rowMajor_val_one (ix1 j))
  refine (Routing.gather_row gather_S512x1024_S512x1_S512x1024_1_0_n_n_0_1_11024 rfl rfl rfl rfl rfl _ _ j l (toHead j) ?_ (by decide)).trans ?_
  · pointwise
    exact (congrArg lit0 e).trans (table j)
  · pointwise

/-- The normalization's gain. -/
theorem gain_apply (c : Dev nD) (l : Fin 1024) :
    V m c main_v16 (ix2 0 l) = m ((c : Thread nD τ).loc main_arg4) (ix1 l) := by
  entry_read
  pointwise

/-- The normalization's shift. -/
theorem bias_apply (c : Dev nD) (l : Fin 1024) :
    V m c main_v17 (ix2 0 l) = m ((c : Thread nD τ).loc main_arg5) (ix1 l) := by
  entry_read
  pointwise

/-- The queries' weights. -/
theorem query_apply (c : Dev nD) (i : Fin 1024) (j : Fin 2048) :
    V m c main_v18 (ix2 i j) = m ((c : Thread nD τ).loc main_arg6) (ix2 i j) := by
  entry_read
  pointwise

/-- The keys, the heads' halves one after the other. -/
theorem keys_apply (c : Dev nD) (n : Fin 16) (k d : Fin 128) :
    V m c main_v15 (ix3 n k d) = m ((c : Thread nD τ).loc main_arg7) (ix4 ⟨n.val / 2, by omega⟩ ⟨n.val % 2, by omega⟩ k d) := by
  entry_read
  pointwise

end Cert.Oproj.Weights

end
-- ==== Proof.Oproj.Ref.lean ====
/- The reference of the output projection's call, read element by element. -/
module

public import proofs.«01_k».proof.Proof.Oproj.Spec
public import proofs.«01_k».proof.Proof.Gen.Reference2Ideal.Read

@[expose] public section

set_option maxRecDepth 16384

noncomputable section

namespace Cert.Oproj.Ref

open Idealize.ShloMosaic Idealize.ShloMosaic.TcCoe Idealize.SL.Sem
open Cert.Reference2Ideal Cert.Reference2Ideal.Gen Cert.Reference2Ideal.Read

variable (x0 x1 : (⟨S65536x512, .bf16⟩ : BufTy).Contents (Elt Ideal)) (x2 : (⟨S65536x1024, .f32⟩ : BufTy).Contents (Elt Ideal))
  (x3 : (⟨S1024x1024, .f32⟩ : BufTy).Contents (Elt Ideal)) (x4 x5 : (⟨S1024, .f32⟩ : BufTy).Contents (Elt Ideal))
  (x6 : (⟨S1024x2048, .f32⟩ : BufTy).Contents (Elt Ideal)) (x7 : (⟨S8x2x128x128, .f32⟩ : BufTy).Contents (Elt Ideal))

/-- The first group's columns put in the order of the heads. -/
theorem first_apply (t : Fin 65536) (i : Fin 512) : val_main_v3 (F := Ideal) x0 (ix2 t i) = x0 (ix2 t (toPair i)) := by
  pointwise [val_main_v3, val_main_v2, val_main_v1, val_main_v0]

/-- The second group's columns put in the order of the heads. -/
theorem second_apply (t : Fin 65536) (i : Fin 512) : val_main_v7 (F := Ideal) x1 (ix2 t i) = x1 (ix2 t (toPair i)) := by
  pointwise [val_main_v7, val_main_v6, val_main_v5, val_main_v4]

/-- The two groups through the projection. -/
theorem mix_apply (t : Fin 65536) (c : Fin 1024) :
    val_main_v9 (F := Ideal) x0 x1 x3 (ix2 t c) = mixed (fun j => x0 (ix2 t j)) (fun j => x1 (ix2 t j)) (fun i => x3 (ix2 i c)) := by
  rw [← mixed_heads]
  pointwise [val_main_v9, val_main_v8]
  simp only [first_apply, second_apply]

/-- The scaled input and the projection. -/
theorem sum_apply (t : Fin 65536) (c : Fin 1024) :
    val_main_v12 (F := Ideal) x0 x1 x2 x3 (ix2 t c) = Ideal.ofBits .f32 0x3FB504F3#32 * x2 (ix2 t c)
      + mixed (fun j => x0 (ix2 t j)) (fun j => x1 (ix2 t j)) (fun i => x3 (ix2 i c)) := by
  rw [← mix_apply]
  pointwise [val_main_v12, val_main_v11, val_main_v10, val_main_cst]

/-- The normalized rows. -/
theorem hidden_apply (t : Fin 65536) (c : Fin 1024) :
    val_main_v36 (F := Ideal) x0 x1 x2 x3 x4 x5 (ix2 t c)
      = ln (fun c => val_main_v12 (F := Ideal) x0 x1 x2 x3 (ix2 t c)) (x4 (ix1 c)) (x5 (ix1 c)) c := by
  unfold ln
  pointwise [val_main_v36, val_main_v35, val_main_v34, val_main_v33, val_main_v32, val_main_v31, val_main_v30, val_main_v29, val_main_v28, val_main_v27, val_main_v26, val_main_v25, val_main_v24, val_main_v23, val_main_v22, val_main_v21, val_main_v20, val_main_v19, val_main_v18, val_main_v17, val_main_v16, val_main_v15, val_main_v14, val_main_v13, val_main_cst_0, val_main_cst_1, val_main_cst_2, val_main_cst_3, val_main_cst_4]

/-- The scores: each set's keys against its lanes of the queries. -/
theorem scores_apply (n : Fin 16) (k : Fin 128) (t : Fin 65536) :
    val_main_v42 (F := Ideal) x0 x1 x2 x3 x4 x5 x6 x7 (ix3 n k t) = ∑ d : Fin 128, x7 (ix4 ⟨n.val / 2, by omega⟩ ⟨n.val % 2, by omega⟩ k d)
      * ∑ c, val_main_v36 (F := Ideal) x0 x1 x2 x3 x4 x5 (ix2 t c) * x6 (ix2 c (lane n d)) := by
  pointwise [val_main_v42, val_main_v41, val_main_v40, val_main_v39, val_main_v38, val_main_v37]
  refine Finset.sum_congr rfl fun d _ => congrArg (_ * ·) (Finset.sum_congr rfl fun c _ => congrArg (fun l => _ * x6 (ix2 c l)) (Fin.ext ?_))
  show n.val / 2 * 256 + n.val % 2 * 128 + d.val = n.val * 128 + d.val
  omega

end Cert.Oproj.Ref

end
-- ==== Proof.Oproj.Final.lean ====
/- The output projection's two result arrays after the run: the normalized rows and the retrieval scores, as the
   reference computes them. -/
module

public import proofs.«01_k».proof.Proof.Oproj.Tile
public import proofs.«01_k».proof.Proof.Oproj.Weights
public import proofs.«01_k».proof.Proof.Oproj.Ref
public import proofs.«01_k».proof.Proof.Gen.Kernel2Ideal.Value

@[expose] public section

set_option maxRecDepth 16384

noncomputable section

namespace Cert.Oproj.Final

open Idealize.ShloMosaic Idealize.ShloMosaic.TcCoe Idealize.SL.Sem
open Cert.Kernel2Ideal Cert.Kernel2Ideal.Gen Cert.Oproj.Tile

variable (m : (ℓ : Loc nD τ sig) → Buf (Elt Ideal) ℓ)

/-- The windows' block indices. -/
theorem idx : ∀ t : Fin cfg0.N, win0_0.index t = ![t.val, 0] ∧ win0_1.index t = ![t.val, 0] ∧ win0_2.index t = ![0, 0]
    ∧ win0_3.index t = ![0, 0] ∧ win0_4.index t = ![t.val, 0] ∧ win0_5.index t = ![0, 0] ∧ win0_6.index t = ![0, 0]
    ∧ win0_7.index t = ![0, 0] ∧ win0_8.index t = ![0, 0, 0] ∧ win0_9.index t = ![t.val, 0] ∧ win0_10.index t = ![0, 0, t.val] :=
  (by decide +kernel : ∀ t : Fin grid0.N, _)

/-- A block's row as a row of the whole. -/
abbrev row (t : Fin cfg0.N) (r : Fin 512) : Fin 65536 :=
  ⟨t.val * 512 + r.val, by have := t.isLt; have hN : cfg0.N = 128 := rfl; omega⟩

/-- The normalized rows the reference computes. -/
abbrev hidden (c : Dev nD) : (⟨S65536x1024, .f32⟩ : BufTy).Contents (Elt Ideal) :=
  Cert.Reference2Ideal.Read.val_main_v36 (F := Ideal) (m ((c : Thread nD τ).loc main_arg0)) (m ((c : Thread nD τ).loc main_arg1))
    (m ((c : Thread nD τ).loc main_arg2)) (m ((c : Thread nD τ).loc main_arg3)) (m ((c : Thread nD τ).loc main_arg4)) (m ((c : Thread nD τ).loc main_arg5))

/-- The scores the reference computes. -/
abbrev scores (c : Dev nD) : (⟨S16x128x65536, .f32⟩ : BufTy).Contents (Elt Ideal) :=
  Cert.Reference2Ideal.Read.val_main_v42 (F := Ideal) (m ((c : Thread nD τ).loc main_arg0)) (m ((c : Thread nD τ).loc main_arg1))
    (m ((c : Thread nD τ).loc main_arg2)) (m ((c : Thread nD τ).loc main_arg3)) (m ((c : Thread nD τ).loc main_arg4)) (m ((c : Thread nD τ).loc main_arg5))
    (m ((c : Thread nD τ).loc main_arg6)) (m ((c : Thread nD τ).loc main_arg7))

/-- A block's normalized rows are the reference's. -/
theorem rows_point (c : Dev nD) (t : Fin cfg0.N) (r : Fin 512) (l : Fin 1024) :
    k0_pay2 (F := Ideal) (iblk m c 0 t) (iblk m c 2 t) (iblk m c 1 t) (iblk m c 3 t) (iblk m c 4 t) (iblk m c 5 t) (iblk m c 6 t) (ix2 r l)
      = hidden m c (ix2 (row t r) l) := by
  unfold hidden
  rw [norm_apply, Ref.hidden_apply]
  refine congr (congr (congrArg₂ ln ?_ ?_) ?_) rfl
  · funext l
    rw [Ref.sum_apply]
    unfold mixed
    refine congrArg₂ (· + ·) (congrArg₂ (· * ·) rfl ?_) (congrArg₂ (· + ·) ?_ ?_)
    · blk_ext [iblk, V, idx t]
    · refine Finset.sum_congr rfl fun j _ => congrArg₂ (· * ·) ?_ ?_
      · blk_ext [iblk, V, idx t]
      · refine Eq.trans ?_ (Weights.first_apply m c j l)
        blk_ext [iblk, idx t]
    · refine Finset.sum_congr rfl fun j _ => congrArg₂ (· * ·) ?_ ?_
      · blk_ext [iblk, V, idx t]
      · refine Eq.trans ?_ (Weights.second_apply m c j l)
        blk_ext [iblk, idx t]
  · refine Eq.trans ?_ (Weights.gain_apply m c l)
    blk_ext [iblk, idx t]
  · refine Eq.trans ?_ (Weights.bias_apply m c l)
    blk_ext [iblk, idx t]

/-- A block of the first result. -/
theorem point9 (c : Dev nD) (t : Fin cfg0.N) (y : S512x1024.Idx) :
    out0_9 (iblk m c 0 t) (iblk m c 1 t) (iblk m c 2 t) (iblk m c 3 t) (iblk m c 4 t) (iblk m c 5 t) (iblk m c 6 t) (iblk m c 7 t) (iblk m c 8 t) y
      = hidden m c (((cfg0.win 9).blk t).view.emb y) := by
  obtain ⟨r, l, rfl⟩ : ∃ (r : Fin 512) (l : Fin 1024), y = ix2 r l :=
    ⟨y 0, y 1, funext fun a => Fin.ext (match a with | ⟨0, _⟩ => rfl | ⟨1, _⟩ => rfl)⟩
  have e : ((cfg0.win 9).blk t).view.emb (ix2 r l) = ix2 (row t r) l := by
    blk_ext [idx t]
  rw [block_rows, e]
  exact rows_point m c t r l

/-- A block of the second result. -/
theorem point10 (c : Dev nD) (t : Fin cfg0.N) (y : S16x128x512.Idx) :
    out0_10 (iblk m c 0 t) (iblk m c 1 t) (iblk m c 2 t) (iblk m c 3 t) (iblk m c 4 t) (iblk m c 5 t) (iblk m c 6 t) (iblk m c 7 t) (iblk m c 8 t) y
      = scores m c (((cfg0.win 10).blk t).view.emb y) := by
  obtain ⟨n, k, r, rfl⟩ : ∃ (n : Fin 16) (k : Fin 128) (r : Fin 512), y = ix3 n k r :=
    ⟨y 0, y 1, y 2, funext fun a => Fin.ext (match a with | ⟨0, _⟩ => rfl | ⟨1, _⟩ => rfl | ⟨2, _⟩ => rfl)⟩
  have e : ((cfg0.win 10).blk t).view.emb (ix3 n k r) = ix3 n k (row t r) := by
    blk_ext [idx t]
  unfold scores
  rw [block_scores, e, Ref.scores_apply]
  refine Finset.sum_congr rfl fun d _ => congrArg₂ (· * ·) ?_ ?_
  · refine Eq.trans ?_ (Weights.keys_apply m c n k d)
    blk_ext [iblk, idx t]
  · rw [query_apply]
    refine Finset.sum_congr rfl fun l _ => congrArg₂ (· * ·) (rows_point m c t r l) ?_
    refine Eq.trans ?_ (Weights.query_apply m c l (lane n d))
    blk_ext [iblk, idx t]

/-- The normalized rows after the run. -/
theorem final9 (c : Dev nD) : (dats m 0 c).arrAt 9 cfg0.N = hidden m c := by
  refine (dats m 0 c).arrAt_eq_of_covers 9 _ (by decide +kernel) fun t _ y => ?_
  blk_simp
  rw [after0_9]
  exact point9 m c t y

/-- The scores after the run. -/
theorem final10 (c : Dev nD) : (dats m 0 c).arrAt 10 cfg0.N = scores m c := by
  refine (dats m 0 c).arrAt_eq_of_covers 10 _ (by decide +kernel) fun t _ y => ?_
  blk_simp
  rw [after0_10]
  exact point10 m c t y

end Cert.Oproj.Final

end
-- ==== Proof.Inproj.Spec.lean ====
/- The scalars of the input projection's call: the projection of one token, a head's normalization, the rotary turn. -/
module

public import Idealize.ShloMosaic.Lib.Pointwise
public import proofs.«01_k».proof.Proof.Attn.Spec
public import proofs.«01_k».proof.Proof.Oproj.Spec

@[expose] public section

noncomputable section

namespace Cert.Inproj

open Idealize.ShloMosaic

/-- A lane of a head: the axis it turns by, the half of the turned pair, the frequency. -/
abbrev lane (a hf : Fin 2) (f : Fin 16) : Fin 64 := ⟨a.val * 32 + hf.val * 16 + f.val, by omega⟩

/-- One token's projection. -/
def proj (x0 : (⟨2, ![65536, 1024]⟩ : Shape).Idx → EReal) (x1 : (⟨2, ![1024, 1536]⟩ : Shape).Idx → EReal) (t : Fin 65536) (j : Fin 1536) : EReal :=
  ∑ c : Fin 1024, x0 (ix2 t c) * x1 (ix2 c j)

/-- The place of a token along one axis of its sequence's grid, 64 tokens to a row. -/
def place (s : Fin 2048) (a : Fin 2) : Nat := if a = 0 then s.val / 64 else s.val % 64

/-- The rotary frequencies. -/
def freq (f : Fin 16) : EReal :=
  Ideal.pow (Ideal.ofBits .f32 0x461C4000#32) (Ideal.div (-(FloatOps.sitofp (F := Ideal) .f32 (BitVec.ofNat 32 f.val))) (Ideal.ofBits .f32 0x41800000#32))

/-- The rotary angle at a place. -/
def angle (n : Nat) (f : Fin 16) : EReal := FloatOps.sitofp (F := Ideal) .f32 (BitVec.ofNat 32 n) * freq f

/-- The root-mean-square normalization of a head's 64 lanes with its gain, at a lane. -/
def rms (x g : Fin 64 → EReal) (d : Fin 64) : EReal :=
  x d * Ideal.rsqrt (Ideal.div (∑ e, x e * x e) (Ideal.ofBits .f32 0x42800000#32) + Ideal.ofBits .f32 0x358637BD#32) * g d

/-- The first lane of a turned pair. -/
def turn0 (x : Fin 64 → EReal) (c s : EReal) (a : Fin 2) (f : Fin 16) : EReal := x (lane a 0 f) * c - x (lane a 1 f) * s

/-- The second lane of a turned pair. -/
def turn1 (x : Fin 64 → EReal) (c s : EReal) (a : Fin 2) (f : Fin 16) : EReal := x (lane a 0 f) * s + x (lane a 1 f) * c

/-- A lane of a turned pair. -/
def turn (hf : Fin 2) (x : Fin 64 → EReal) (c s : EReal) (a : Fin 2) (f : Fin 16) : EReal :=
  if hf = 0 then turn0 x c s a f else turn1 x c s a f

/-- The lane of the first group's queries before its scale: head `kv` of pair `g`, normalized and turned. -/
def query (hf : Fin 2) (y : Fin 1536 → EReal) (gain : Fin 64 → EReal) (s : Fin 2048) (g : Fin 4) (kv a : Fin 2) (f : Fin 16) : EReal :=
  turn hf (rms (fun d => y ⟨(kv.val * 4 + g.val) * 64 + d.val, by omega⟩) gain) (Ideal.cos (angle (place s a) f)) (Ideal.sin (angle (place s a) f)) a f

/-- The lane of the first group's keys: head `kv`, normalized and turned. -/
def key (hf : Fin 2) (y : Fin 1536 → EReal) (gain : Fin 64 → EReal) (s : Fin 2048) (kv a : Fin 2) (f : Fin 16) : EReal :=
  turn hf (rms (fun d => y ⟨512 + (kv.val * 64 + d.val), by omega⟩) gain) (Ideal.cos (angle (place s a) f)) (Ideal.sin (angle (place s a) f)) a f

/-- Every lane of a head is one of its turned pairs' lanes. -/
theorem exists_lane (d : Fin 64) : ∃ (a hf : Fin 2) (f : Fin 16), d = lane a hf f :=
  (by decide +kernel : ∀ d : Fin 64, d = lane ⟨d.val / 32, by omega⟩ ⟨d.val / 16 % 2, by omega⟩ ⟨d.val % 16, by omega⟩) d
    |> fun h => ⟨_, _, _, h⟩

end Cert.Inproj

end
-- ==== Proof.Inproj.Tile.lean ====
/- What the input projection's kernel body stores: one form for the four pairs of query heads and the pair of key heads,
   read at a row and a lane of either head of the pair. -/
module

public import proofs.«01_k».proof.Proof.Inproj.Spec
public import proofs.«01_k».proof.Proof.Gen.Kernel3Ideal.Frame

@[expose] public section

set_option maxRecDepth 16384

noncomputable section

namespace Cert.Inproj.Tile

open Idealize.ShloMosaic Idealize.ShloMosaic.TcCoe Idealize.SL.Sem
open Cert.Kernel3Ideal Cert.Kernel3Ideal.Gen
open Cert.Attn (kcol)

variable {F : FTy → Type} [FloatOps F]

/-- The normalizing factor of one head from the squares of its lanes. -/
def factor (sq : FVec F S1024x128 .f32) : FVec F S1024x128 .f32 :=
  broadcastTo S1024x128 (shapeCast S1024x1 (rsqrt (addf (divf (shapeCast S1024x1 (multiReduction .add [1] S1024 sq 0x00000000#32 reduces_S1024x128_S1024 (.inl rfl) rfl) shapeCasts_S1024_S1024x1) (broadcast S1024x1 (Scalar.ofBits .f32 0x42800000#32))) (broadcast S1024x1 (Scalar.ofBits .f32 0x358637BD#32)))) shapeCasts_S1024x1_S1024x1) broadcasts_S1024x1_S1024x128

/-- A pair's rows normalized head by head, with the gain. -/
def normed (t : FVec F S1024x128 .f32) (g : Vec F S1x128 .f32) : FVec F S1024x128 .f32 :=
  mulf (mulf t (select k0_pay7
      (factor (select k0_pay7 (mulf t t) (broadcast S1024x128 (Scalar.ofBits .f32 0x00000000#32))))
      (factor (select k0_pay7 (broadcast S1024x128 (Scalar.ofBits .f32 0x00000000#32)) (mulf t t)))))
    (broadcastTo S1024x128 (shapeCast S1x128 g shapeCasts_S1x128_S1x128) broadcasts_S1x128_S1024x128)

/-- A pair's rows turned: the row itself and the row rotated both ways, each times its table. -/
def turned (x c a b : FVec F S1024x128 .f32) : FVec F S1024x128 .f32 :=
  addf (addf (mulf x c) (mulf (dynamicRotate 1 112#32 none x rotates_S1024x128_d1) a)) (mulf (dynamicRotate 1 16#32 none x rotates_S1024x128_d1) b)

/-- A pair of query heads as stored. -/
def stored (t : FVec F S1024x128 .f32) (g : Vec F S1x128 .f32) (c a b : Vec F S1024x128 .f32) : FVec F S1024x128 .bf16 :=
  truncf .bf16 (mulf (turned (normed t g) (k0_pay8 c) (k0_pay9 a) (k0_pay10 b)) (broadcast S1024x128 (Scalar.ofBits .f32 0x3E000000#32))) bitsLt_bf16_f32

variable (h : Vec F S1024x1024 .f32) (w : Vec F S1024x1536 .bf16) (g : Vec F S1x128 .f32) (c a b : Vec F S1024x128 .f32)

/-- The first pair's stored rows. -/
theorem pair0 : k0_pay16 k0_pay7 (k0_pay8 c) (k0_pay9 a) (k0_pay10 b) (k0_pay11 h w) (k0_pay12 g) (k0_pay14 h w) (k0_pay15 h w)
    = stored (extractStridedSlice S1024x128 ![0, 0] (k0_pay6 h w) slices_S1024x1536_o0_0_S1024x128) g c a b := rfl

/-- The second pair's stored rows are the same form. -/
theorem pair1 : k0_pay22 k0_pay7 (k0_pay8 c) (k0_pay9 a) (k0_pay10 b) (k0_pay17 (k0_pay6 h w)) (k0_pay18 g) (k0_pay20 (k0_pay6 h w) k0_pay7) (k0_pay21 (k0_pay6 h w) k0_pay7)
    = stored (extractStridedSlice S1024x128 ![0, 128] (k0_pay6 h w) slices_S1024x1536_o0_128_S1024x128) g c a b := rfl

/-- The third pair's stored rows are the same form. -/
theorem pair2 : k0_pay25 (k0_pay8 c) (k0_pay9 a) (k0_pay10 b) (k0_pay23 (k0_pay6 h w) k0_pay7) (k0_pay24 g)
    = stored (extractStridedSlice S1024x128 ![0, 256] (k0_pay6 h w) slices_S1024x1536_o0_256_S1024x128) g c a b := rfl

/-- The fourth pair's stored rows are the same form. -/
theorem pair3 : k0_pay28 (k0_pay9 a) (k0_pay10 b) (k0_pay26 (k0_pay6 h w) k0_pay7 g) (k0_pay27 (k0_pay6 h w) k0_pay7 (k0_pay8 c) g) 112#32
    = stored (extractStridedSlice S1024x128 ![0, 384] (k0_pay6 h w) slices_S1024x1536_o0_384_S1024x128) g c a b := rfl

/-- The keys' stored rows. -/
theorem keys : k0_pay1 (k0_pay10 b) (k0_pay29 (k0_pay6 h w) k0_pay7 g) (k0_pay30 (k0_pay6 h w) k0_pay7 (k0_pay8 c) (k0_pay9 a) g)
    = truncf .bf16 (turned (normed (extractStridedSlice S1024x128 ![0, 512] (k0_pay6 h w) slices_S1024x1536_o0_512_S1024x128) g) (k0_pay8 c) (k0_pay9 a) (k0_pay10 b)) bitsLt_bf16_f32 := rfl

/-! ## Read at a row and a lane, on the extended reals -/

/-- The first head's lanes are marked. -/
theorem lower_lo (r : Fin 1024) (d : Fin 64) : k0_pay7 (ix2 r (kcol 0 d)) = 1#1 := by
  pointwise [k0_pay7]
  revert d; decide

/-- The second head's lanes are not. -/
theorem lower_hi (r : Fin 1024) (d : Fin 64) : k0_pay7 (ix2 r (kcol 1 d)) = 0#1 := by
  pointwise [k0_pay7]
  revert d; decide

/-- A sum over the pair's lanes, head by head. -/
theorem sum_lanes (f : Fin 128 → EReal) : (∑ l, f l) = (∑ d, f (kcol 0 d)) + ∑ d, f (kcol 1 d) := by
  rw [Fin.sum_univ_two_halves 64 64 rfl f]
  refine congrArg₂ (· + ·) (Finset.sum_congr rfl fun d _ => congrArg f (Fin.ext ?_)) (Finset.sum_congr rfl fun d _ => congrArg f (Fin.ext ?_))
  · show d.val = 0 * 64 + d.val; omega
  · show 64 + d.val = 1 * 64 + d.val; omega

/-- The normalizing factor of a row. -/
theorem factor_apply (sq : FVec Ideal S1024x128 .f32) (r : Fin 1024) (l : Fin 128) :
    factor (F := Ideal) sq (ix2 r l)
      = Ideal.rsqrt (Ideal.div (∑ l : Fin 128, sq (ix2 r l)) (Ideal.ofBits .f32 0x42800000#32) + Ideal.ofBits .f32 0x358637BD#32) := by
  pointwise [factor]

/-- A pair's normalized rows at a head and a lane. -/
theorem normed_apply (t : FVec Ideal S1024x128 .f32) (g : FVec Ideal S1x128 .f32) (r : Fin 1024) (kv : Fin 2) (d : Fin 64) :
    normed (F := Ideal) t g (ix2 r (kcol kv d)) = rms (fun e => t (ix2 r (kcol kv e))) (fun e => g (ix2 0 (kcol kv e))) d := by
  pointwise [normed, rms, factor_apply]
  simp only [sum_lanes]
  rcases (by omega : kv = 0 ∨ kv = 1) with rfl | rfl
  · simp only [lower_lo, lower_hi, ValueIdx.select_one, ValueIdx.select_zero, Finset.sum_const_zero, add_zero]
  · simp only [lower_lo, lower_hi, ValueIdx.select_one, ValueIdx.select_zero, Finset.sum_const_zero, zero_add]

/-- The lane 16 past a lane of the pair, round the row's end. -/
abbrev after (l : Fin 128) : Fin 128 := ⟨(l.val + 128 - 112) % 128, by omega⟩
/-- The lane 16 before it. -/
abbrev before (l : Fin 128) : Fin 128 := ⟨(l.val + 128 - 16) % 128, by omega⟩

/-- The turned rows at a lane. -/
theorem turned_apply (x c a b : FVec Ideal S1024x128 .f32) (r : Fin 1024) (l : Fin 128) :
    turned (F := Ideal) x c a b (ix2 r l) = x (ix2 r l) * c (ix2 r l) + x (ix2 r (after l)) * a (ix2 r l) + x (ix2 r (before l)) * b (ix2 r l) := by
  pointwise [turned]

/-- The turned rows at a lane of a head, against tables of one cosine and one sine. -/
theorem turned_lane (x c a b : FVec Ideal S1024x128 .f32) (r : Fin 1024) (kv ax hf : Fin 2) (f : Fin 16) (C S : EReal)
    (hc : c (ix2 r (kcol kv (lane ax hf f))) = C) (ha : a (ix2 r (kcol kv (lane ax hf f))) = if hf = 0 then -S else 0)
    (hb : b (ix2 r (kcol kv (lane ax hf f))) = if hf = 0 then 0 else S) :
    turned (F := Ideal) x c a b (ix2 r (kcol kv (lane ax hf f))) = turn hf (fun d => x (ix2 r (kcol kv d))) C S ax f := by
  rw [turned_apply, hc, ha, hb]
  unfold turn
  rcases (by omega : hf = 0 ∨ hf = 1) with rfl | rfl
  · rw [if_pos rfl, if_pos rfl, if_pos rfl, show after (kcol kv (lane ax 0 f)) = kcol kv (lane ax 1 f) from
      Fin.ext (by show (kv.val * 64 + (ax.val * 32 + 0 * 16 + f.val) + 128 - 112) % 128 = kv.val * 64 + (ax.val * 32 + 1 * 16 + f.val); omega)]
    unfold turn0
    rw [mul_zero, add_zero, mul_neg, ← sub_eq_add_neg]
  · rw [if_neg (by decide), if_neg (by decide), if_neg (by decide), show before (kcol kv (lane ax 1 f)) = kcol kv (lane ax 0 f) from
      Fin.ext (by show (kv.val * 64 + (ax.val * 32 + 1 * 16 + f.val) + 128 - 16) % 128 = kv.val * 64 + (ax.val * 32 + 0 * 16 + f.val); omega)]
    unfold turn1
    rw [mul_zero, add_zero, add_comm]

/-- The projection at a row and a column. -/
theorem proj_apply (h : FVec Ideal S1024x1024 .f32) (w : FVec Ideal S1024x1536 .bf16) (r : Fin 1024) (j : Fin 1536) :
    k0_pay6 (F := Ideal) h w (ix2 r j) = ∑ i, h (ix2 r i) * w (ix2 i j) := by
  pointwise [k0_pay6]

end Cert.Inproj.Tile

end
-- ==== Proof.Inproj.Block.lean ====
/- The blocks the input projection's kernel body leaves in its six result buffers, read at a row and a column. -/
module

public import proofs.«01_k».proof.Proof.Inproj.Tile
public import Idealize.ShloMosaic.Lib.Pipeline.ValueKit

@[expose] public section

set_option maxRecDepth 16384

noncomputable section

namespace Cert.Inproj.Block

open Idealize.ShloMosaic Idealize.ShloMosaic.TcCoe Idealize.SL.Sem
open Cert.Kernel3Ideal Cert.Kernel3Ideal.Gen Cert.Inproj.Tile
open Cert.Attn (kcol qcol)

/-- The tables at a row and a lane hold one cosine and one sine. -/
def Tables (x4 x5 x6 : FVec Ideal S1024x128 .f32) (r : Fin 1024) (kv ax hf : Fin 2) (f : Fin 16) (C S : EReal) : Prop :=
  x4 (ix2 r (kcol kv (lane ax hf f))) = C ∧ x5 (ix2 r (kcol kv (lane ax hf f))) = (if hf = 0 then -S else 0)
    ∧ x6 (ix2 r (kcol kv (lane ax hf f))) = (if hf = 0 then 0 else S)

/-- A query's column among the projection's. -/
abbrev wide (l : Fin 512) : Fin 1536 := ⟨l.val, by omega⟩

/-- The projection of a block's row at a column. -/
def bproj (x0 : FVec Ideal S1024x1024 .f32) (x1 : FVec Ideal S1024x1536 .bf16) (r : Fin 1024) (j : Fin 1536) : EReal :=
  ∑ i, x0 (ix2 r i) * x1 (ix2 i j)

/-- A pair of query heads as stored, at a lane. -/
theorem stored_lane (t : FVec Ideal S1024x128 .f32) (g : FVec Ideal S1x128 .f32) (x4 x5 x6 : FVec Ideal S1024x128 .f32)
    (r : Fin 1024) (kv ax hf : Fin 2) (f : Fin 16) (C S : EReal) (ht : Tables x4 x5 x6 r kv ax hf f C S) :
    stored (F := Ideal) t g x4 x5 x6 (ix2 r (kcol kv (lane ax hf f)))
      = turn hf (rms (fun e => t (ix2 r (kcol kv e))) (fun e => g (ix2 0 (kcol kv e)))) C S ax f * Ideal.ofBits .f32 0x3E000000#32 := by
  obtain ⟨hc, ha, hb⟩ := ht
  have e := turned_lane (normed (F := Ideal) t g) (k0_pay8 x4) (k0_pay9 x5) (k0_pay10 x6) r kv ax hf f C S
    ((by pointwise [k0_pay8] : k0_pay8 (F := Ideal) x4 (ix2 r (kcol kv (lane ax hf f))) = x4 (ix2 r (kcol kv (lane ax hf f)))).trans hc)
    ((by pointwise [k0_pay9] : k0_pay9 (F := Ideal) x5 (ix2 r (kcol kv (lane ax hf f))) = x5 (ix2 r (kcol kv (lane ax hf f)))).trans ha)
    ((by pointwise [k0_pay10] : k0_pay10 (F := Ideal) x6 (ix2 r (kcol kv (lane ax hf f))) = x6 (ix2 r (kcol kv (lane ax hf f)))).trans hb)
  simp only [normed_apply] at e
  refine Eq.trans ?_ (congrArg (· * Ideal.ofBits .f32 0x3E000000#32) e)
  pointwise [stored]

/-- The keys as stored, at a lane. -/
theorem key_lane (t : FVec Ideal S1024x128 .f32) (g : FVec Ideal S1x128 .f32) (x4 x5 x6 : FVec Ideal S1024x128 .f32)
    (r : Fin 1024) (kv ax hf : Fin 2) (f : Fin 16) (C S : EReal) (ht : Tables x4 x5 x6 r kv ax hf f C S) :
    truncf (F := Ideal) .bf16 (turned (normed t g) (k0_pay8 x4) (k0_pay9 x5) (k0_pay10 x6)) bitsLt_bf16_f32 (ix2 r (kcol kv (lane ax hf f)))
      = turn hf (rms (fun e => t (ix2 r (kcol kv e))) (fun e => g (ix2 0 (kcol kv e)))) C S ax f := by
  obtain ⟨hc, ha, hb⟩ := ht
  have e := turned_lane (normed (F := Ideal) t g) (k0_pay8 x4) (k0_pay9 x5) (k0_pay10 x6) r kv ax hf f C S
    ((by pointwise [k0_pay8] : k0_pay8 (F := Ideal) x4 (ix2 r (kcol kv (lane ax hf f))) = x4 (ix2 r (kcol kv (lane ax hf f)))).trans hc)
    ((by pointwise [k0_pay9] : k0_pay9 (F := Ideal) x5 (ix2 r (kcol kv (lane ax hf f))) = x5 (ix2 r (kcol kv (lane ax hf f)))).trans ha)
    ((by pointwise [k0_pay10] : k0_pay10 (F := Ideal) x6 (ix2 r (kcol kv (lane ax hf f))) = x6 (ix2 r (kcol kv (lane ax hf f)))).trans hb)
  simp only [normed_apply] at e
  refine Eq.trans ?_ e
  pointwise

/-! ## The loads are whole -/

/-- The rows' block. -/
theorem whole0 (x : Vec Ideal S1024x1024 .f32) : View.ld x r0_0 = x :=
  View.ld_unit_zero (by funext a; match a with | ⟨0, _⟩ => rfl | ⟨1, _⟩ => rfl) _ x
/-- The weights' block. -/
theorem whole1 (x : Vec Ideal S1024x1536 .bf16) : View.ld x r0_1 = x :=
  View.ld_unit_zero (by funext a; match a with | ⟨0, _⟩ => rfl | ⟨1, _⟩ => rfl) _ x
/-- A table's block. -/
theorem whole2 (x : Vec Ideal S1024x128 .f32) : View.ld x r0_2 = x :=
  View.ld_unit_zero (by funext a; match a with | ⟨0, _⟩ => rfl | ⟨1, _⟩ => rfl) _ x
/-- A gain's block. -/
theorem whole3 (x : Vec Ideal S1x128 .f32) : View.ld x r0_3 = x :=
  View.ld_unit_zero (by funext a; match a with | ⟨0, _⟩ => rfl | ⟨1, _⟩ => rfl) _ x

variable (x0 : FVec Ideal S1024x1024 .f32) (x1 : FVec Ideal S1024x1536 .bf16) (x2 x3 : FVec Ideal S1x128 .f32) (x4 x5 x6 : FVec Ideal S1024x128 .f32)

/-- An index of a pair's block from its coordinates. -/
theorem at_lane {r : Fin 1024} {l : Fin 128} (x : S1024x128.Idx) (h0 : (x 0).val = r.val) (h1 : (x 1).val = l.val) : x = ix2 r l :=
  funext fun a => Fin.ext (match a with | ⟨0, _⟩ => h0 | ⟨1, _⟩ => h1)

/-- The block of the first group's queries. -/
theorem block7 (r : Fin 1024) (g : Fin 4) (kv ax hf : Fin 2) (f : Fin 16) (C S : EReal) (ht : Tables x4 x5 x6 r kv ax hf f C S) :
    out0_7 (F := Ideal) x0 x1 x2 x3 x4 x5 x6 (ix2 r (qcol g kv (lane ax hf f)))
      = turn hf (rms (fun e => bproj x0 x1 r (wide (qcol g kv e))) (fun e => x2 (ix2 0 (kcol kv e)))) C S ax f * Ideal.ofBits .f32 0x3E000000#32 := by
  canon_tiles x h
  case piece0 =>
    have hk := kv.isLt; have hd := (lane ax hf f).isLt
    generalize hl : lane ax hf f = d at *
    replace h1 : g.val * 128 + kv.val * 64 + d.val = 384 + (x 1).val := h1
    replace x1_lt : (x 1).val < 128 := x1_lt
    obtain rfl : g = 3 := Fin.ext (show g.val = 3 by omega)
    obtain rfl : x = ix2 r (kcol kv d) := at_lane x h0.symm (by show (x 1).val = kv.val * 64 + d.val; have : ((3 : Fin 4) : Nat) = 3 := rfl; omega)
    subst hl
    unfold k0_pay31 k0_pay32 k0_pay33 k0_pay34 k0_pay35
    rw [whole0, whole1, whole2, whole2, whole2, whole3, pair3, stored_lane _ _ _ _ _ r kv ax hf f C S ht]
    refine congrArg (fun y => turn hf (rms y _) C S ax f * _) (funext fun e => Eq.trans ?_ (proj_apply x0 x1 r (wide (qcol 3 kv e))))
    refine congrArg (k0_pay6 (F := Ideal) x0 x1) (funext fun a => Fin.ext ?_)
    match a with
    | ⟨0, _⟩ => exact Nat.zero_add r.val
    | ⟨1, _⟩ => show 384 + (kv.val * 64 + e.val) = 3 * 128 + kv.val * 64 + e.val; omega
  case piece1 =>
    have hk := kv.isLt; have hd := (lane ax hf f).isLt
    generalize hl : lane ax hf f = d at *
    replace h1 : g.val * 128 + kv.val * 64 + d.val = 256 + (x 1).val := h1
    replace x1_lt : (x 1).val < 128 := x1_lt
    obtain rfl : g = 2 := Fin.ext (show g.val = 2 by omega)
    obtain rfl : x = ix2 r (kcol kv d) := at_lane x h0.symm (by show (x 1).val = kv.val * 64 + d.val; have : ((2 : Fin 4) : Nat) = 2 := rfl; omega)
    subst hl
    unfold k0_pay31 k0_pay32 k0_pay33 k0_pay34 k0_pay35
    rw [whole0, whole1, whole2, whole2, whole2, whole3, pair2, stored_lane _ _ _ _ _ r kv ax hf f C S ht]
    refine congrArg (fun y => turn hf (rms y _) C S ax f * _) (funext fun e => Eq.trans ?_ (proj_apply x0 x1 r (wide (qcol 2 kv e))))
    refine congrArg (k0_pay6 (F := Ideal) x0 x1) (funext fun a => Fin.ext ?_)
    match a with
    | ⟨0, _⟩ => exact Nat.zero_add r.val
    | ⟨1, _⟩ => show 256 + (kv.val * 64 + e.val) = 2 * 128 + kv.val * 64 + e.val; omega
  case piece2 =>
    have hk := kv.isLt; have hd := (lane ax hf f).isLt
    generalize hl : lane ax hf f = d at *
    replace h1 : g.val * 128 + kv.val * 64 + d.val = 128 + (x 1).val := h1
    replace x1_lt : (x 1).val < 128 := x1_lt
    obtain rfl : g = 1 := Fin.ext (show g.val = 1 by omega)
    obtain rfl : x = ix2 r (kcol kv d) := at_lane x h0.symm (by show (x 1).val = kv.val * 64 + d.val; have : ((1 : Fin 4) : Nat) = 1 := rfl; omega)
    subst hl
    unfold k0_pay31 k0_pay32 k0_pay33 k0_pay34 k0_pay35
    rw [whole0, whole1, whole2, whole2, whole2, whole3, pair1, stored_lane _ _ _ _ _ r kv ax hf f C S ht]
    refine congrArg (fun y => turn hf (rms y _) C S ax f * _) (funext fun e => Eq.trans ?_ (proj_apply x0 x1 r (wide (qcol 1 kv e))))
    refine congrArg (k0_pay6 (F := Ideal) x0 x1) (funext fun a => Fin.ext ?_)
    match a with
    | ⟨0, _⟩ => exact Nat.zero_add r.val
    | ⟨1, _⟩ => show 128 + (kv.val * 64 + e.val) = 1 * 128 + kv.val * 64 + e.val; omega
  case piece3 =>
    have hk := kv.isLt; have hd := (lane ax hf f).isLt
    generalize hl : lane ax hf f = d at *
    replace h1 : g.val * 128 + kv.val * 64 + d.val = 0 + (x 1).val := h1.trans (Nat.zero_add _).symm
    replace x1_lt : (x 1).val < 128 := x1_lt
    obtain rfl : g = 0 := Fin.ext (show g.val = 0 by omega)
    obtain rfl : x = ix2 r (kcol kv d) := at_lane x h0.symm (by show (x 1).val = kv.val * 64 + d.val; have : ((0 : Fin 4) : Nat) = 0 := rfl; omega)
    subst hl
    unfold k0_pay32 k0_pay33 k0_pay34 k0_pay35
    rw [whole0, whole1, whole2, whole2, whole2, whole3, pair0, stored_lane _ _ _ _ _ r kv ax hf f C S ht]
    refine congrArg (fun y => turn hf (rms y _) C S ax f * _) (funext fun e => Eq.trans ?_ (proj_apply x0 x1 r (wide (qcol 0 kv e))))
    refine congrArg (k0_pay6 (F := Ideal) x0 x1) (funext fun a => Fin.ext ?_)
    match a with
    | ⟨0, _⟩ => exact Nat.zero_add r.val
    | ⟨1, _⟩ => show 0 + (kv.val * 64 + e.val) = 0 * 128 + kv.val * 64 + e.val; omega

/-- The block of the first group's keys. -/
theorem block8 (r : Fin 1024) (kv ax hf : Fin 2) (f : Fin 16) (C S : EReal) (ht : Tables x4 x5 x6 r kv ax hf f C S) :
    out0_8 (F := Ideal) x0 x1 x2 x3 x4 x5 x6 (ix2 r (kcol kv (lane ax hf f)))
      = turn hf (rms (fun e => bproj x0 x1 r ⟨512 + (kv.val * 64 + e.val), by omega⟩) (fun e => x3 (ix2 0 (kcol kv e)))) C S ax f := by
  unfold out0_8 k0_pay31 k0_pay32 k0_pay33 k0_pay34 k0_pay35
  rw [View.canon_unit_zero (by funext a; match a with | ⟨0, _⟩ => rfl | ⟨1, _⟩ => rfl) _ _]
  rw [whole0, whole1, whole2, whole2, whole2, whole3, keys, key_lane _ _ _ _ _ r kv ax hf f C S ht]
  refine congrArg (fun y => turn hf (rms y _) C S ax f) (funext fun e => Eq.trans ?_ (proj_apply x0 x1 r ⟨512 + (kv.val * 64 + e.val), by omega⟩))
  refine congrArg (k0_pay6 (F := Ideal) x0 x1) (funext fun a => Fin.ext ?_)
  match a with
  | ⟨0, _⟩ => exact Nat.zero_add r.val
  | ⟨1, _⟩ => rfl

/-- The block of the first group's values. -/
theorem block9 (r : Fin 1024) (l : Fin 128) :
    out0_9 (F := Ideal) x0 x1 x2 x3 x4 x5 x6 (ix2 r l) = bproj x0 x1 r ⟨640 + l.val, by omega⟩ := by
  unfold out0_9 k0_pay31
  rw [View.canon_unit_zero (by funext a; match a with | ⟨0, _⟩ => rfl | ⟨1, _⟩ => rfl) _ _]
  rw [whole0, whole1]
  unfold bproj
  rw [← proj_apply]
  pointwise [k0_pay2]

/-- The block of the second group's queries. -/
theorem block10 (r : Fin 1024) (l : Fin 512) :
    out0_10 (F := Ideal) x0 x1 x2 x3 x4 x5 x6 (ix2 r l) = bproj x0 x1 r ⟨768 + l.val, by omega⟩ * Ideal.ofBits .f32 0x3E000000#32 := by
  unfold out0_10 k0_pay31
  rw [View.canon_unit_zero (by funext a; match a with | ⟨0, _⟩ => rfl | ⟨1, _⟩ => rfl) _ _]
  rw [whole0, whole1]
  unfold bproj
  rw [← proj_apply]
  pointwise [k0_pay3]

/-- The block of the second group's keys. -/
theorem block11 (r : Fin 1024) (l : Fin 128) :
    out0_11 (F := Ideal) x0 x1 x2 x3 x4 x5 x6 (ix2 r l) = bproj x0 x1 r ⟨1280 + l.val, by omega⟩ := by
  unfold out0_11 k0_pay31
  rw [View.canon_unit_zero (by funext a; match a with | ⟨0, _⟩ => rfl | ⟨1, _⟩ => rfl) _ _]
  rw [whole0, whole1]
  unfold bproj
  rw [← proj_apply]
  pointwise [k0_pay4]

/-- The block of the second group's values. -/
theorem block12 (r : Fin 1024) (l : Fin 128) :
    out0_12 (F := Ideal) x0 x1 x2 x3 x4 x5 x6 (ix2 r l) = bproj x0 x1 r ⟨1408 + l.val, by omega⟩ := by
  unfold out0_12 k0_pay31
  rw [View.canon_unit_zero (by funext a; match a with | ⟨0, _⟩ => rfl | ⟨1, _⟩ => rfl) _ _]
  rw [whole0, whole1]
  unfold bproj
  rw [← proj_apply]
  pointwise [k0_pay5]

end Cert.Inproj.Block

end
-- ==== Proof.Inproj.Weights.lean ====
/- The operands the input projection's kernel is handed by the host. -/
module

public import proofs.«01_k».proof.Proof.Inproj.Spec
public import proofs.«01_k».proof.Proof.Gen.Kernel3Ideal.Frame
public import Idealize.ShloMosaic.Lib.Claim
public import Idealize.ShloMosaic.Lib.StableHlo.RunRead
public import Idealize.ShloMosaic.Lib.Pipeline.ValueKit
public import Idealize.ShloMosaic.Lib.Routing.OpsSearch

@[expose] public section

set_option maxRecDepth 16384

noncomputable section

namespace Cert.Inproj.Weights

open Idealize.ShloMosaic Idealize.ShloMosaic.TcCoe Idealize.SL.Sem
open Cert.Kernel3Ideal Cert.Kernel3Ideal.Gen

/-- A column of the projection as the kernel orders them: the two groups' query heads in pairs. -/
def column (j : Fin 1536) : Fin 1536 :=
  if j.val < 512 then ⟨(j.val / 64 % 2 * 4 + j.val / 128) * 64 % 512 + j.val % 64, by omega⟩
  else if j.val < 768 then j
  else if j.val < 1280 then ⟨768 + ((j.val - 768) / 64 % 2 * 4 + (j.val - 768) / 128) * 64 % 512 + j.val % 64, by omega⟩
  else j

/-- The table of the columns. -/
theorem table : ∀ j : Fin 1536, lit2 j = BitVec.ofNat 32 (column j).val := by
  decide +kernel

/-- A gather of columns at a row and a column. -/
theorem gather_column {α : Type} (x : S1024x1536.Idx → α) (idx : IVec S1536x1 32) (i : Fin 1024) (j k : Fin 1536)
    (h : idx (ix2 j 0) = BitVec.ofNat 32 k.val) :
    Host.gather gather_S1024x1536_S1536x1_S1024x1536_0_1_n_n_1_1_10241 x idx (ix2 i j) = x (ix2 i k) := by
  unfold Host.gather
  refine congrArg x (funext fun a => Fin.ext ?_)
  have e : ∀ p, gather_S1024x1536_S1536x1_S1024x1536_0_1_n_n_1_1_10241.siIdx (ix2 i j) p = ix2 j 0 := fun p => by
    funext b
    match b with
    | ⟨0, _⟩ => rfl
    | ⟨1, _⟩ => exact Fin.ext (by have := p.isLt; show p.val = 0; exact Nat.lt_one_iff.1 this)
  match a with
  | ⟨0, _⟩ => show 0 + 0 + i.val = i.val; omega
  | ⟨1, _⟩ =>
    show min (idx (gather_S1024x1536_S1536x1_S1024x1536_0_1_n_n_1_1_10241.siIdx (ix2 i j) _)).toInt.toNat (1536 - 1) + 0 + 0 = k.val
    rw [e, h, StableHlo.Predicate.toInt_ofNat_small _ (by omega)]
    show min ((k.val : Int)).toNat (1536 - 1) + 0 + 0 = k.val
    omega

variable (m : (ℓ : Loc nD τ sig) → Buf (Elt Ideal) ℓ)

/-- The projection's weights, the columns in the kernel's order. -/
theorem weight_apply (c : Dev nD) (i : Fin 1024) (j : Fin 1536) :
    V m c main_v34 (ix2 i j) = m ((c : Thread nD τ).loc main_arg1) (ix2 i (column j)) := by
  entry_read
  pointwise
  have e : S1536.rowMajor (ix1 j) = j := Fin.ext (Shape.rowMajor_val_one (ix1 j))
  refine gather_column _ _ i j (column j) ?_
  pointwise
  exact (congrArg lit2 e).trans (table j)

/-- The query gain of a pair's lane. -/
theorem qgain_apply (c : Dev nD) (kv : Fin 2) (d : Fin 64) :
    V m c main_v36 (ix2 0 (Attn.kcol kv d)) = m ((c : Thread nD τ).loc main_arg2) (ix1 d) := by
  rcases (by omega : kv = 0 ∨ kv = 1) with rfl | rfl
  · entry_read
    pointwise
  · entry_read
    pointwise

/-- The key gain of a pair's lane. -/
theorem kgain_apply (c : Dev nD) (kv : Fin 2) (d : Fin 64) :
    V m c main_v38 (ix2 0 (Attn.kcol kv d)) = m ((c : Thread nD τ).loc main_arg3) (ix1 d) := by
  rcases (by omega : kv = 0 ∨ kv = 1) with rfl | rfl
  · entry_read
    pointwise
  · entry_read
    pointwise

end Cert.Inproj.Weights

end
-- ==== Proof.Inproj.Tables.lean ====
/- The rotary tables the input projection's kernel is handed by the host. -/
module

public import proofs.«01_k».proof.Proof.Inproj.Spec
public import proofs.«01_k».proof.Proof.Gen.Kernel3Ideal.Frame
public import Idealize.ShloMosaic.Lib.Claim
public import Idealize.ShloMosaic.Lib.StableHlo.RunRead
public import Idealize.ShloMosaic.Lib.Pipeline.ValueKit
public import Idealize.ShloMosaic.Lib.StableHlo.Predicate

@[expose] public section

set_option maxRecDepth 16384

noncomputable section

namespace Cert.Inproj.Tables

open Idealize.ShloMosaic Idealize.ShloMosaic.TcCoe Idealize.SL.Sem
open Cert.Kernel3Ideal Cert.Kernel3Ideal.Gen

/-- The words that hold a small whole number: zero, or a normal number whose significand is that number shifted. -/
def Holds (b : BitVec 32) (n : Nat) : Prop :=
  (b = 0 ∧ n = 0) ∨ ((b.extractLsb' 31 1 == 1#1) = false ∧ (b.extractLsb' 23 8).toNat ≠ 0 ∧ (b.extractLsb' 23 8).toNat ≤ 150
    ∧ 2 ^ 23 + (b.extractLsb' 0 23).toNat = n * 2 ^ (150 - (b.extractLsb' 23 8).toNat))

instance (b : BitVec 32) (n : Nat) : Decidable (Holds b n) := by unfold Holds; infer_instance

/-- Such a word's number. -/
theorem ofBits_holds (b : BitVec 32) (n : Nat) (h : Holds b n) : Ideal.ofBits .f32 b = ((n : ℝ) : EReal) := by
  rcases h with ⟨rfl, rfl⟩ | ⟨hs, h0, h1, hf⟩
  · simp [Ideal.ofBits, Ideal.ieee]
  · unfold Ideal.ofBits Ideal.ieee
    simp only [Nat.reduceAdd, hs]
    rw [if_neg (by omega), if_neg h0]
    refine congrArg ((↑) : ℝ → EReal) ?_
    generalize (b.extractLsb' 23 8).toNat = ex at h0 h1 hf
    rw [hf]
    have e : (2 : ℝ) ^ (150 - ex) * (2 : ℝ) ^ ((ex : Int) - 127 - 23) = 1 := by
      rw [← zpow_natCast, ← zpow_add₀ two_ne_zero, show ((150 - ex : Nat) : Int) + ((ex : Int) - 127 - 23) = 0 by omega, zpow_zero]
    have e' : ((n * 2 ^ (150 - ex) : Nat) : ℝ) * (2 : ℝ) ^ ((ex : Int) - 127 - 23) = n := by
      rw [Nat.cast_mul, Nat.cast_pow, Nat.cast_ofNat, mul_assoc, e, mul_one]
    simpa using e'

/-- The table of the rows. -/
theorem rows_table : ∀ s : Fin 2048, Holds (lit0 s) (s.val / 64) := by
  decide +kernel

/-- The table of the columns. -/
theorem cols_table : ∀ s : Fin 2048, Holds (lit1 s) (s.val % 64) := by
  decide +kernel

/-- A whole number below 64 as a float. -/
theorem small (b : BitVec 32) (n : Nat) (hn : n < 64) (h : Holds b n) :
    Ideal.ofBits .f32 b = FloatOps.sitofp (F := Ideal) .f32 (BitVec.ofNat 32 n) := by
  rw [ofBits_holds b n h]
  show _ = (((BitVec.ofNat 32 n).toInt : ℝ) : EReal)
  rw [StableHlo.Predicate.toInt_ofNat_small _ (by omega)]
  norm_cast

/-- Four arrays of 16 lanes side by side, twice, at a lane. -/
theorem quarters_apply (A B C D : FVec Ideal S2048x16 .f32) (s : Fin 2048) (kv a hf : Fin 2) (f : Fin 16) :
    (concatenate S2048x128 1 [⟨S2048x64, concatenate S2048x64 1 [⟨S2048x16, A⟩, ⟨S2048x16, B⟩, ⟨S2048x16, C⟩, ⟨S2048x16, D⟩] concatenates_S2048x16_S2048x16_S2048x16_S2048x16_S2048x64_d1⟩,
        ⟨S2048x64, concatenate S2048x64 1 [⟨S2048x16, A⟩, ⟨S2048x16, B⟩, ⟨S2048x16, C⟩, ⟨S2048x16, D⟩] concatenates_S2048x16_S2048x16_S2048x16_S2048x16_S2048x64_d1⟩]
      concatenates_S2048x64_S2048x64_S2048x128_d1 (ix2 s (Attn.kcol kv (lane a hf f))) : EReal)
      = if a = 0 then (if hf = 0 then A (ix2 s f) else B (ix2 s f)) else (if hf = 0 then C (ix2 s f) else D (ix2 s f)) := by
  have h16 := f.isLt
  rcases (by omega : kv = 0 ∨ kv = 1) with rfl | rfl <;> rcases (by omega : a = 0 ∨ a = 1) with rfl | rfl <;> rcases (by omega : hf = 0 ∨ hf = 1) with rfl | rfl <;>
    pointwise
  all_goals
    repeat first | rw [dif_pos (by omega)] | rw [dif_neg (by omega)]
  all_goals first | rfl | exact congrArg (fun l => C (ix2 s l)) (Fin.ext (by show _ - _ - _ = f.val; omega)) | exact congrArg (fun l => D (ix2 s l)) (Fin.ext (by show _ - _ - _ - _ = f.val; omega))

variable (m : (ℓ : Loc nD τ sig) → Buf (Elt Ideal) ℓ)

/-- The angles by the rows. -/
theorem rows_apply (c : Dev nD) (s : Fin 2048) (f : Fin 16) : V m c main_v10 (ix2 s f) = angle (place s 0) f := by
  unfold V
  after_reads_simp
  have e : S2048.rowMajor (ix1 s) = s := Fin.ext (Shape.rowMajor_val_one (ix1 s))
  have h := (congrArg (fun i => Ideal.ofBits .f32 (lit0 i)) e).trans (small _ _ (by have := s.isLt; exact Nat.div_lt_of_lt_mul (by omega)) (rows_table s))
  generalize hX : (fun i => FloatOps.ofBits (F := Ideal) .f32 (lit0 (S2048.rowMajor i))) = X
  replace h : X (ix1 s) = _ := (congrFun hX _).symm.trans h
  clear hX
  rw [show place s 0 = s.val / 64 from rfl]
  unfold angle freq
  rw [← h]
  pointwise

/-- The angles by the columns. -/
theorem cols_apply (c : Dev nD) (s : Fin 2048) (f : Fin 16) : V m c main_v15 (ix2 s f) = angle (place s 1) f := by
  unfold V
  after_reads_simp
  have e : S2048.rowMajor (ix1 s) = s := Fin.ext (Shape.rowMajor_val_one (ix1 s))
  have h := (congrArg (fun i => Ideal.ofBits .f32 (lit1 i)) e).trans (small _ _ (by omega) (cols_table s))
  generalize hX : (fun i => FloatOps.ofBits (F := Ideal) .f32 (lit1 (S2048.rowMajor i))) = X
  replace h : X (ix1 s) = _ := (congrFun hX _).symm.trans h
  clear hX
  rw [show place s 1 = s.val % 64 from rfl]
  unfold angle freq
  rw [← h]
  pointwise

/-- The cosines. -/
theorem cos_apply (c : Dev nD) (s : Fin 2048) (kv a hf : Fin 2) (f : Fin 16) :
    V m c main_v26 (ix2 s (Attn.kcol kv (lane a hf f))) = Ideal.cos (angle (place s a) f) := by
  unfold V
  after_reads_simp
  refine (quarters_apply _ _ _ _ s kv a hf f).trans ?_
  have e0 : StableHlo.upto hostOps0 (fun b => m (c, b)) 28 (Proc.tc.devRef main_v16) (ix2 s f) = Ideal.cos (angle (place s 0) f) := by
    rw [← rows_apply m c s f]
    unfold V
    after_reads_simp
    rfl
  have e1 : StableHlo.upto hostOps0 (fun b => m (c, b)) 28 (Proc.tc.devRef main_v18) (ix2 s f) = Ideal.cos (angle (place s 1) f) := by
    rw [← cols_apply m c s f]
    unfold V
    after_reads_simp
    rfl
  rcases (by omega : a = 0 ∨ a = 1) with rfl | rfl
  · rw [if_pos rfl]
    rcases (by omega : hf = 0 ∨ hf = 1) with rfl | rfl
    · exact e0
    · exact e0
  · rw [if_neg (by decide)]
    rcases (by omega : hf = 0 ∨ hf = 1) with rfl | rfl
    · exact e1
    · exact e1

/-- The sines taken off, on the first lanes of the turned pairs. -/
theorem off_apply (c : Dev nD) (s : Fin 2048) (kv a hf : Fin 2) (f : Fin 16) :
    V m c main_v27 (ix2 s (Attn.kcol kv (lane a hf f))) = if hf = 0 then -Ideal.sin (angle (place s a) f) else 0 := by
  unfold V
  after_reads_simp
  refine (quarters_apply _ _ _ _ s kv a hf f).trans ?_
  have z : StableHlo.upto hostOps0 (fun b => m (c, b)) 31 (Proc.tc.devRef main_v20) (ix2 s f) = (0 : EReal) := by
    after_reads_simp
    pointwise
  have e0 : StableHlo.upto hostOps0 (fun b => m (c, b)) 31 (Proc.tc.devRef main_v22) (ix2 s f) = -Ideal.sin (angle (place s 0) f) := by
    rw [← rows_apply m c s f]
    unfold V
    after_reads_simp
    rfl
  have e1 : StableHlo.upto hostOps0 (fun b => m (c, b)) 31 (Proc.tc.devRef main_v23) (ix2 s f) = -Ideal.sin (angle (place s 1) f) := by
    rw [← cols_apply m c s f]
    unfold V
    after_reads_simp
    rfl
  rcases (by omega : a = 0 ∨ a = 1) with rfl | rfl
  · rcases (by omega : hf = 0 ∨ hf = 1) with rfl | rfl
    · exact e0
    · exact z
  · rcases (by omega : hf = 0 ∨ hf = 1) with rfl | rfl
    · exact e1
    · exact z

/-- The sines put on, on the second lanes of the turned pairs. -/
theorem on_apply (c : Dev nD) (s : Fin 2048) (kv a hf : Fin 2) (f : Fin 16) :
    V m c main_v28 (ix2 s (Attn.kcol kv (lane a hf f))) = if hf = 0 then 0 else Ideal.sin (angle (place s a) f) := by
  unfold V
  after_reads_simp
  refine (quarters_apply _ _ _ _ s kv a hf f).trans ?_
  have z : StableHlo.upto hostOps0 (fun b => m (c, b)) 32 (Proc.tc.devRef main_v20) (ix2 s f) = (0 : EReal) := by
    after_reads_simp
    pointwise
  have e0 : StableHlo.upto hostOps0 (fun b => m (c, b)) 32 (Proc.tc.devRef main_v17) (ix2 s f) = Ideal.sin (angle (place s 0) f) := by
    rw [← rows_apply m c s f]
    unfold V
    after_reads_simp
    rfl
  have e1 : StableHlo.upto hostOps0 (fun b => m (c, b)) 32 (Proc.tc.devRef main_v19) (ix2 s f) = Ideal.sin (angle (place s 1) f) := by
    rw [← cols_apply m c s f]
    unfold V
    after_reads_simp
    rfl
  rcases (by omega : a = 0 ∨ a = 1) with rfl | rfl
  · rcases (by omega : hf = 0 ∨ hf = 1) with rfl | rfl
    · exact z
    · exact e0
  · rcases (by omega : hf = 0 ∨ hf = 1) with rfl | rfl
    · exact z
    · exact e1

end Cert.Inproj.Tables

end
-- ==== Proof.Inproj.Ref.lean ====
/- The reference of the input projection's call, read element by element. -/
module

public import proofs.«01_k».proof.Proof.Inproj.Spec
public import proofs.«01_k».proof.Proof.Gen.Reference3Ideal.Read

@[expose] public section

set_option maxRecDepth 16384

noncomputable section

namespace Cert.Inproj.Ref

open Idealize.ShloMosaic Idealize.ShloMosaic.TcCoe Idealize.SL.Sem
open Cert.Reference3Ideal Cert.Reference3Ideal.Gen Cert.Reference3Ideal.Read

variable (x0 : (⟨S65536x1024, .f32⟩ : BufTy).Contents (Elt Ideal)) (x1 : (⟨S1024x1536, .f32⟩ : BufTy).Contents (Elt Ideal))
  (x2 x3 : (⟨S64, .f32⟩ : BufTy).Contents (Elt Ideal))

/-- Two indices of equal coordinates. -/
theorem ix4_of {n0 n1 n2 n3 : Nat} {a a' : Fin n0} {b b' : Fin n1} {c c' : Fin n2} {d d' : Fin n3} (ha : a.val = a'.val)
    (hb : b.val = b'.val) (hc : c.val = c'.val) (hd : d.val = d'.val) : ix4 a b c d = ix4 a' b' c' d' := by
  rw [Fin.ext ha, Fin.ext hb, Fin.ext hc, Fin.ext hd]

/-- The projection. -/
theorem proj_apply (t : Fin 65536) (j : Fin 1536) : val_main_v24 (F := Ideal) x0 x1 (ix2 t j) = proj x0 x1 t j := by
  unfold proj
  pointwise [val_main_v24]

/-- A query head's lane of the projection. -/
theorem qhead_apply (b : Fin 32) (s : Fin 2048) (h : Fin 8) (d : Fin 64) :
    val_main_v32 (F := Ideal) x0 x1 (ix4 b s h d) = val_main_v24 (F := Ideal) x0 x1 (ix2 (Attn.row b s) ⟨h.val * 64 + d.val, by omega⟩) := by
  pointwise [val_main_v32, val_main_v26, val_main_v25]

/-- A key head's lane of the projection. -/
theorem khead_apply (b : Fin 32) (s : Fin 2048) (h : Fin 2) (d : Fin 64) :
    val_main_v33 (F := Ideal) x0 x1 (ix4 b s h d) = val_main_v24 (F := Ideal) x0 x1 (ix2 (Attn.row b s) ⟨512 + (h.val * 64 + d.val), by omega⟩) := by
  pointwise [val_main_v33, val_main_v27, val_main_v25]

/-- The query heads normalized. -/
theorem qnorm_apply (b : Fin 32) (s : Fin 2048) (h : Fin 8) (d : Fin 64) :
    val_main_v46 (F := Ideal) x0 x1 x2 (ix4 b s h d) = rms (fun d => val_main_v32 (F := Ideal) x0 x1 (ix4 b s h d)) (fun d => x2 (ix1 d)) d := by
  unfold rms
  pointwise [val_main_v46, val_main_v45, val_main_v44, val_main_v43, val_main_v42, val_main_v41, val_main_v40, val_main_v39, val_main_v38, val_main_v37, val_main_v36, val_main_v35, val_main_v34, val_main_cst_1, val_main_cst_2, val_main_cst_3]

/-- The key heads normalized. -/
theorem knorm_apply (b : Fin 32) (s : Fin 2048) (h : Fin 2) (d : Fin 64) :
    val_main_v82 (F := Ideal) x0 x1 x3 (ix4 b s h d) = rms (fun d => val_main_v33 (F := Ideal) x0 x1 (ix4 b s h d)) (fun d => x3 (ix1 d)) d := by
  unfold rms
  pointwise [val_main_v82, val_main_v81, val_main_v80, val_main_v79, val_main_v78, val_main_v77, val_main_v76, val_main_v75, val_main_v74, val_main_v73, val_main_v72, val_main_v71, val_main_v70, val_main_cst_5, val_main_cst_6, val_main_cst_7]

/-- The first lanes of a query head's turned pairs. -/
theorem qturn0_apply (b : Fin 32) (s : Fin 2048) (h : Fin 8) (a : Fin 2) (f : Fin 16) :
    val_main_v67 (F := Ideal) x0 x1 x2 (ix4 b s h (lane a 0 f)) = turn0 (fun d => val_main_v46 (F := Ideal) x0 x1 x2 (ix4 b s h d)) (val_main_v22 (F := Ideal) (ix3 s a f)) (val_main_v23 (F := Ideal) (ix3 s a f)) a f := by
  unfold turn0
  rw [show lane a 0 f = ⟨a.val * 32 + f.val, by omega⟩ from Fin.ext (by show a.val * 32 + 0 * 16 + f.val = a.val * 32 + f.val; omega),
    show lane a 1 f = ⟨a.val * 32 + 16 + f.val, by omega⟩ from Fin.ext (by show a.val * 32 + 1 * 16 + f.val = a.val * 32 + 16 + f.val; omega)]
  have e : val_main_v67 (F := Ideal) x0 x1 x2 (ix4 b s h ⟨a.val * 32 + 0 + f.val, by omega⟩) = val_main_v66 (F := Ideal) x0 x1 x2 (ix6 b s h a 0 f) := by
    unfold val_main_v67
    refine shapeCast_apply _ _ _ _ ?_
    rw [Shape.rowMajor_val_six, Shape.rowMajor_val_four]
    simp only [ix6_0, ix6_1, ix6_2, ix6_3, ix6_4, ix6_5, ix4_0, ix4_1, ix4_2, ix4_3, Matrix.cons_val]
    omega
  refine (show _ = _ from e).trans ?_
  pointwise [val_main_v66, val_main_v65, val_main_v64, val_main_v63, val_main_v62, val_main_v61, val_main_v60, val_main_v59, val_main_v58, val_main_v57, val_main_v56, val_main_v55, val_main_v54, val_main_v53, val_main_v52, val_main_v51, val_main_v50, val_main_v49, val_main_v48, val_main_v47]

/-- The second lanes of a query head's turned pairs. -/
theorem qturn1_apply (b : Fin 32) (s : Fin 2048) (h : Fin 8) (a : Fin 2) (f : Fin 16) :
    val_main_v67 (F := Ideal) x0 x1 x2 (ix4 b s h (lane a 1 f)) = turn1 (fun d => val_main_v46 (F := Ideal) x0 x1 x2 (ix4 b s h d)) (val_main_v22 (F := Ideal) (ix3 s a f)) (val_main_v23 (F := Ideal) (ix3 s a f)) a f := by
  unfold turn1
  rw [show lane a 0 f = ⟨a.val * 32 + f.val, by omega⟩ from Fin.ext (by show a.val * 32 + 0 * 16 + f.val = a.val * 32 + f.val; omega),
    show lane a 1 f = ⟨a.val * 32 + 16 + f.val, by omega⟩ from Fin.ext (by show a.val * 32 + 1 * 16 + f.val = a.val * 32 + 16 + f.val; omega)]
  have e : val_main_v67 (F := Ideal) x0 x1 x2 (ix4 b s h ⟨a.val * 32 + 16 + f.val, by omega⟩) = val_main_v66 (F := Ideal) x0 x1 x2 (ix6 b s h a 1 f) := by
    unfold val_main_v67
    refine shapeCast_apply _ _ _ _ ?_
    rw [Shape.rowMajor_val_six, Shape.rowMajor_val_four]
    simp only [ix6_0, ix6_1, ix6_2, ix6_3, ix6_4, ix6_5, ix4_0, ix4_1, ix4_2, ix4_3, Matrix.cons_val]
    omega
  refine (show _ = _ from e).trans ?_
  pointwise [val_main_v66, val_main_v65, val_main_v64, val_main_v63, val_main_v62, val_main_v61, val_main_v60, val_main_v59, val_main_v58, val_main_v57, val_main_v56, val_main_v55, val_main_v54, val_main_v53, val_main_v52, val_main_v51, val_main_v50, val_main_v49, val_main_v48, val_main_v47]

/-- The first lanes of a key head's turned pairs. -/
theorem kturn0_apply (b : Fin 32) (s : Fin 2048) (h : Fin 2) (a : Fin 2) (f : Fin 16) :
    val_main_v103 (F := Ideal) x0 x1 x3 (ix4 b s h (lane a 0 f)) = turn0 (fun d => val_main_v82 (F := Ideal) x0 x1 x3 (ix4 b s h d)) (val_main_v22 (F := Ideal) (ix3 s a f)) (val_main_v23 (F := Ideal) (ix3 s a f)) a f := by
  unfold turn0
  rw [show lane a 0 f = ⟨a.val * 32 + f.val, by omega⟩ from Fin.ext (by show a.val * 32 + 0 * 16 + f.val = a.val * 32 + f.val; omega),
    show lane a 1 f = ⟨a.val * 32 + 16 + f.val, by omega⟩ from Fin.ext (by show a.val * 32 + 1 * 16 + f.val = a.val * 32 + 16 + f.val; omega)]
  have e : val_main_v103 (F := Ideal) x0 x1 x3 (ix4 b s h ⟨a.val * 32 + 0 + f.val, by omega⟩) = val_main_v102 (F := Ideal) x0 x1 x3 (ix6 b s h a 0 f) := by
    unfold val_main_v103
    refine shapeCast_apply _ _ _ _ ?_
    rw [Shape.rowMajor_val_six, Shape.rowMajor_val_four]
    simp only [ix6_0, ix6_1, ix6_2, ix6_3, ix6_4, ix6_5, ix4_0, ix4_1, ix4_2, ix4_3, Matrix.cons_val]
    omega
  refine (show _ = _ from e).trans ?_
  pointwise [val_main_v102, val_main_v101, val_main_v100, val_main_v99, val_main_v98, val_main_v97, val_main_v96, val_main_v95, val_main_v94, val_main_v93, val_main_v92, val_main_v91, val_main_v90, val_main_v89, val_main_v88, val_main_v87, val_main_v86, val_main_v85, val_main_v84, val_main_v83]

/-- The second lanes of a key head's turned pairs. -/
theorem kturn1_apply (b : Fin 32) (s : Fin 2048) (h : Fin 2) (a : Fin 2) (f : Fin 16) :
    val_main_v103 (F := Ideal) x0 x1 x3 (ix4 b s h (lane a 1 f)) = turn1 (fun d => val_main_v82 (F := Ideal) x0 x1 x3 (ix4 b s h d)) (val_main_v22 (F := Ideal) (ix3 s a f)) (val_main_v23 (F := Ideal) (ix3 s a f)) a f := by
  unfold turn1
  rw [show lane a 0 f = ⟨a.val * 32 + f.val, by omega⟩ from Fin.ext (by show a.val * 32 + 0 * 16 + f.val = a.val * 32 + f.val; omega),
    show lane a 1 f = ⟨a.val * 32 + 16 + f.val, by omega⟩ from Fin.ext (by show a.val * 32 + 1 * 16 + f.val = a.val * 32 + 16 + f.val; omega)]
  have e : val_main_v103 (F := Ideal) x0 x1 x3 (ix4 b s h ⟨a.val * 32 + 16 + f.val, by omega⟩) = val_main_v102 (F := Ideal) x0 x1 x3 (ix6 b s h a 1 f) := by
    unfold val_main_v103
    refine shapeCast_apply _ _ _ _ ?_
    rw [Shape.rowMajor_val_six, Shape.rowMajor_val_four]
    simp only [ix6_0, ix6_1, ix6_2, ix6_3, ix6_4, ix6_5, ix4_0, ix4_1, ix4_2, ix4_3, Matrix.cons_val]
    omega
  refine (show _ = _ from e).trans ?_
  pointwise [val_main_v102, val_main_v101, val_main_v100, val_main_v99, val_main_v98, val_main_v97, val_main_v96, val_main_v95, val_main_v94, val_main_v93, val_main_v92, val_main_v91, val_main_v90, val_main_v89, val_main_v88, val_main_v87, val_main_v86, val_main_v85, val_main_v84, val_main_v83]

/-- The rotary angle. -/
theorem angle_apply (s : Fin 2048) (a : Fin 2) (f : Fin 16) : val_main_v21 (F := Ideal) (ix3 s a f) = angle (place s a) f := by
  rcases (by omega : a = 0 ∨ a = 1) with rfl | rfl
  · rw [show place s 0 = s.val / 64 from rfl]
    unfold angle freq
    pointwise [val_main_v21, val_main_v20, val_main_v19, val_main_v18, val_main_v17, val_main_v16, val_main_v15, val_main_v14, val_main_v13, val_main_v12, val_main_v11, val_main_v10, val_main_v9, val_main_v8, val_main_v7, val_main_v6, val_main_v5, val_main_v4, val_main_v3, val_main_v2, val_main_v1, val_main_v0, val_main_cst_0, val_main_cst]
  · rw [show place s 1 = s.val % 64 from rfl]
    unfold angle freq
    pointwise [val_main_v21, val_main_v20, val_main_v19, val_main_v18, val_main_v17, val_main_v16, val_main_v15, val_main_v14, val_main_v13, val_main_v12, val_main_v11, val_main_v10, val_main_v9, val_main_v8, val_main_v7, val_main_v6, val_main_v5, val_main_v4, val_main_v3, val_main_v2, val_main_v1, val_main_v0, val_main_cst_0, val_main_cst]

/-- Its cosine. -/
theorem cos_apply (s : Fin 2048) (a : Fin 2) (f : Fin 16) : val_main_v22 (F := Ideal) (ix3 s a f) = Ideal.cos (angle (place s a) f) := by
  rw [← angle_apply]
  pointwise [val_main_v22]

/-- Its sine. -/
theorem sin_apply (s : Fin 2048) (a : Fin 2) (f : Fin 16) : val_main_v23 (F := Ideal) (ix3 s a f) = Ideal.sin (angle (place s a) f) := by
  rw [← angle_apply]
  pointwise [val_main_v23]

/-- The first group's queries are the turned heads, the heads in pairs. -/
theorem qa_heads (b : Fin 32) (s : Fin 2048) (g : Fin 4) (kv : Fin 2) (d : Fin 64) :
    val_main_v109 (F := Ideal) x0 x1 x2 (ix2 (Attn.row b s) (Attn.qcol g kv d)) = val_main_v69 (F := Ideal) x0 x1 x2 (ix4 b s ⟨kv.val * 4 + g.val, by omega⟩ d) := by
  pointwise [val_main_v109, val_main_v108, val_main_v107, val_main_v106]
  refine congrArg (val_main_v69 (F := Ideal) x0 x1 x2) (ix4_of ?_ ?_ ?_ ?_) <;> (try rfl) <;> simp only [] <;> omega

/-- The first group's keys are the turned heads. -/
theorem ka_heads (b : Fin 32) (s : Fin 2048) (kv : Fin 2) (d : Fin 64) :
    val_main_v111 (F := Ideal) x0 x1 x3 (ix2 (Attn.row b s) (Attn.kcol kv d)) = val_main_v103 (F := Ideal) x0 x1 x3 (ix4 b s kv d) := by
  pointwise [val_main_v111, val_main_v110]
  refine congrArg (val_main_v103 (F := Ideal) x0 x1 x3) (ix4_of ?_ ?_ ?_ ?_) <;> (try rfl) <;> simp only [] <;> omega

/-- The first group's values. -/
theorem va_apply (t : Fin 65536) (j : Fin 128) :
    val_main_v113 (F := Ideal) x0 x1 (ix2 t j) = proj x0 x1 t ⟨640 + j.val, by omega⟩ := by
  rw [← proj_apply]
  pointwise [val_main_v113, val_main_v112, val_main_v28, val_main_v25]

/-- The second group's queries. -/
theorem qb_apply (t : Fin 65536) (j : Fin 512) :
    val_main_v117 (F := Ideal) x0 x1 (ix2 t j) = proj x0 x1 t ⟨768 + (Oproj.toHead j).val, by omega⟩ * Ideal.ofBits .f32 0x3E000000#32 := by
  rw [show (⟨768 + (Oproj.toHead j).val, by omega⟩ : Fin 1536) = ⟨768 + (j.val / 64 % 2 * 256 + j.val / 128 * 64 + j.val % 64), by omega⟩ from
    Fin.ext (by show 768 + ((j.val / 64 % 2 * 4 + j.val / 128) * 64 + j.val % 64) = 768 + (j.val / 64 % 2 * 256 + j.val / 128 * 64 + j.val % 64); omega)]
  rw [← proj_apply]
  pointwise [val_main_v117, val_main_v116, val_main_v115, val_main_v114, val_main_v105, val_main_v104, val_main_v29, val_main_v25, val_main_cst_8]

/-- The second group's keys. -/
theorem kb_apply (t : Fin 65536) (j : Fin 128) : val_main_v119 (F := Ideal) x0 x1 (ix2 t j) = proj x0 x1 t ⟨1280 + j.val, by omega⟩ := by
  rw [← proj_apply]
  pointwise [val_main_v119, val_main_v118, val_main_v30, val_main_v25]

/-- The second group's values. -/
theorem vb_apply (t : Fin 65536) (j : Fin 128) : val_main_v121 (F := Ideal) x0 x1 (ix2 t j) = proj x0 x1 t ⟨1408 + j.val, by omega⟩ := by
  rw [← proj_apply]
  pointwise [val_main_v121, val_main_v120, val_main_v31, val_main_v25]

/-- The first group's queries. -/
theorem qa_apply (b : Fin 32) (s : Fin 2048) (g : Fin 4) (kv a hf : Fin 2) (f : Fin 16) :
    val_main_v109 (F := Ideal) x0 x1 x2 (ix2 (Attn.row b s) (Attn.qcol g kv (lane a hf f)))
      = query hf (proj x0 x1 (Attn.row b s)) (fun d => x2 (ix1 d)) s g kv a f * Ideal.ofBits .f32 0x3E000000#32 := by
  rw [qa_heads]
  pointwise [val_main_v69, val_main_v68, val_main_cst_4]
  refine congrArg (· * _) ?_
  unfold query turn
  have e : (fun d => val_main_v46 (F := Ideal) x0 x1 x2 (ix4 b s ⟨kv.val * 4 + g.val, by omega⟩ d))
      = rms (fun d => proj x0 x1 (Attn.row b s) ⟨(kv.val * 4 + g.val) * 64 + d.val, by omega⟩) (fun d => x2 (ix1 d)) := by
    funext d
    rw [qnorm_apply]
    simp only [qhead_apply, proj_apply]
  rcases (by omega : hf = 0 ∨ hf = 1) with rfl | rfl
  · rw [if_pos rfl, qturn0_apply, e, cos_apply, sin_apply]
  · rw [if_neg (by decide), qturn1_apply, e, cos_apply, sin_apply]

/-- The first group's keys. -/
theorem ka_apply (b : Fin 32) (s : Fin 2048) (kv a hf : Fin 2) (f : Fin 16) :
    val_main_v111 (F := Ideal) x0 x1 x3 (ix2 (Attn.row b s) (Attn.kcol kv (lane a hf f)))
      = key hf (proj x0 x1 (Attn.row b s)) (fun d => x3 (ix1 d)) s kv a f := by
  rw [ka_heads]
  unfold key turn
  have e : (fun d => val_main_v82 (F := Ideal) x0 x1 x3 (ix4 b s kv d))
      = rms (fun d => proj x0 x1 (Attn.row b s) ⟨512 + (kv.val * 64 + d.val), by omega⟩) (fun d => x3 (ix1 d)) := by
    funext d
    rw [knorm_apply]
    simp only [khead_apply, proj_apply]
  rcases (by omega : hf = 0 ∨ hf = 1) with rfl | rfl
  · rw [if_pos rfl, kturn0_apply, e, cos_apply, sin_apply]
  · rw [if_neg (by decide), kturn1_apply, e, cos_apply, sin_apply]

end Cert.Inproj.Ref

end
-- ==== Proof.Inproj.Final.lean ====
/- The input projection's six result arrays after the run: queries, keys and values of both groups of heads, as the
   reference computes them. -/
module

public import proofs.«01_k».proof.Proof.Inproj.Block
public import proofs.«01_k».proof.Proof.Inproj.Weights
public import proofs.«01_k».proof.Proof.Inproj.Tables
public import proofs.«01_k».proof.Proof.Inproj.Ref
public import proofs.«01_k».proof.Proof.Gen.Kernel3Ideal.Value

@[expose] public section

set_option maxRecDepth 16384

noncomputable section

namespace Cert.Inproj.Final

open Idealize.ShloMosaic Idealize.ShloMosaic.TcCoe Idealize.SL.Sem
open Cert.Kernel3Ideal Cert.Kernel3Ideal.Gen Cert.Inproj.Block
open Cert.Attn (kcol qcol)

variable (m : (ℓ : Loc nD τ sig) → Buf (Elt Ideal) ℓ)

/-- The windows' block indices. -/
theorem idx : ∀ t : Fin cfg0.N, win0_0.index t = ![t.val, 0] ∧ win0_1.index t = ![0, 0] ∧ win0_2.index t = ![0, 0]
    ∧ win0_3.index t = ![0, 0] ∧ win0_4.index t = ![t.val % 2, 0] ∧ win0_5.index t = ![t.val % 2, 0] ∧ win0_6.index t = ![t.val % 2, 0]
    ∧ win0_7.index t = ![t.val, 0] ∧ win0_8.index t = ![t.val, 0] ∧ win0_9.index t = ![t.val, 0] ∧ win0_10.index t = ![t.val, 0]
    ∧ win0_11.index t = ![t.val, 0] ∧ win0_12.index t = ![t.val, 0] :=
  (by decide +kernel : ∀ t : Fin grid0.N, _)

/-- The batch of a block's rows. -/
abbrev batch (t : Fin cfg0.N) : Fin 32 := ⟨t.val / 2, by have := t.isLt; have hN : cfg0.N = 64 := rfl; omega⟩
/-- A block's row as a token of its batch. -/
abbrev token (t : Fin cfg0.N) (r : Fin 1024) : Fin 2048 := ⟨t.val % 2 * 1024 + r.val, by omega⟩
/-- A block's row as a row of the whole. -/
abbrev row (t : Fin cfg0.N) (r : Fin 1024) : Fin 65536 := Attn.row (batch t) (token t r)

/-- The projection's array at a row, from the arguments. -/
abbrev whole (c : Dev nD) (t : Fin 65536) (j : Fin 1536) : EReal := proj (m ((c : Thread nD τ).loc main_arg0)) (m ((c : Thread nD τ).loc main_arg1)) t j

/-- A block's projection is the whole's, at the column its weight came from. -/
theorem bproj_eq (c : Dev nD) (t : Fin cfg0.N) (r : Fin 1024) (j k : Fin 1536) (h : Weights.column j = k) :
    bproj (iblk m c 0 t) (iblk m c 1 t) r j = whole m c (row t r) k := by
  subst h
  have ht := t.isLt
  have hr := r.isLt
  have hN : cfg0.N = 64 := rfl
  unfold bproj whole proj
  refine Finset.sum_congr rfl fun i _ => congrArg₂ (· * ·) ?_ ?_
  · blk_ext [iblk, V, idx t]
  · refine Eq.trans ?_ (Weights.weight_apply m c i j)
    blk_ext [iblk, idx t]

/-- A block's tables hold the cosine and the sine of the row's angle. -/
theorem tables (c : Dev nD) (t : Fin cfg0.N) (r : Fin 1024) (kv a hf : Fin 2) (f : Fin 16) :
    Tables (iblk m c 4 t) (iblk m c 5 t) (iblk m c 6 t) r kv a hf f
      (Ideal.cos (angle (place (token t r) a) f)) (Ideal.sin (angle (place (token t r) a) f)) := by
  have ht := t.isLt
  have hr := r.isLt
  have hN : cfg0.N = 64 := rfl
  refine ⟨?_, ?_, ?_⟩
  · refine Eq.trans ?_ (Tables.cos_apply m c (token t r) kv a hf f)
    blk_ext [iblk, idx t]
  · refine Eq.trans ?_ (Tables.off_apply m c (token t r) kv a hf f)
    blk_ext [iblk, idx t]
  · refine Eq.trans ?_ (Tables.on_apply m c (token t r) kv a hf f)
    blk_ext [iblk, idx t]

/-- A query column of the first group comes from its head's column. -/
theorem column_query : ∀ (g : Fin 4) (kv : Fin 2) (e : Fin 64), Weights.column (wide (qcol g kv e)) = ⟨(kv.val * 4 + g.val) * 64 + e.val, by omega⟩ := by
  decide +kernel
/-- A key column of the first group is in place. -/
theorem column_key : ∀ (kv : Fin 2) (e : Fin 64), Weights.column ⟨512 + (kv.val * 64 + e.val), by omega⟩ = ⟨512 + (kv.val * 64 + e.val), by omega⟩ := by
  decide +kernel
/-- A query column of the second group comes from its head's column. -/
theorem column_second : ∀ j : Fin 512, Weights.column ⟨768 + j.val, by omega⟩ = ⟨768 + (Oproj.toHead j).val, by omega⟩ := by
  decide +kernel
/-- The first group's value columns are in place. -/
theorem column_640 : ∀ j : Fin 128, Weights.column ⟨640 + j.val, by omega⟩ = ⟨640 + j.val, by omega⟩ := by
  decide +kernel
/-- The second group's key columns are in place. -/
theorem column_1280 : ∀ j : Fin 128, Weights.column ⟨1280 + j.val, by omega⟩ = ⟨1280 + j.val, by omega⟩ := by
  decide +kernel
/-- The second group's value columns are in place. -/
theorem column_1408 : ∀ j : Fin 128, Weights.column ⟨1408 + j.val, by omega⟩ = ⟨1408 + j.val, by omega⟩ := by
  decide +kernel

/-- A key column is one of a head and a lane of it. -/
theorem kcol_cases (l : Fin 128) : ∃ (kv a hf : Fin 2) (f : Fin 16), l = kcol kv (lane a hf f) := by
  obtain ⟨a, hf, f, h⟩ := exists_lane ⟨l.val % 64, by omega⟩
  exact ⟨⟨l.val / 64, by omega⟩, a, hf, f, by rw [← h]; exact Fin.ext (by show l.val = l.val / 64 * 64 + l.val % 64; omega)⟩

/-- A query column is one of a pair, a head and a lane of it. -/
theorem qcol_cases (l : Fin 512) : ∃ (g : Fin 4) (kv a hf : Fin 2) (f : Fin 16), l = qcol g kv (lane a hf f) := by
  obtain ⟨a, hf, f, h⟩ := exists_lane ⟨l.val % 64, by omega⟩
  exact ⟨⟨l.val / 128, by omega⟩, ⟨l.val / 64 % 2, by omega⟩, a, hf, f, by
    rw [← h]; exact Fin.ext (by show l.val = l.val / 128 * 128 + l.val / 64 % 2 * 64 + l.val % 64; omega)⟩

/-- The first group's queries the reference computes. -/
abbrev queries (c : Dev nD) : (⟨S65536x512, .bf16⟩ : BufTy).Contents (Elt Ideal) :=
  Cert.Reference3Ideal.Read.val_main_v109 (F := Ideal) (m ((c : Thread nD τ).loc main_arg0)) (m ((c : Thread nD τ).loc main_arg1)) (m ((c : Thread nD τ).loc main_arg2))

/-- A block of the first group's queries. -/
theorem point7 (c : Dev nD) (t : Fin cfg0.N) (y : S1024x512.Idx) :
    out0_7 (iblk m c 0 t) (iblk m c 1 t) (iblk m c 2 t) (iblk m c 3 t) (iblk m c 4 t) (iblk m c 5 t) (iblk m c 6 t) y = queries m c (((cfg0.win 7).blk t).view.emb y) := by
  obtain ⟨r, l, rfl⟩ : ∃ (r : Fin 1024) (l : Fin 512), y = ix2 r l :=
    ⟨y 0, y 1, funext fun a => Fin.ext (match a with | ⟨0, _⟩ => rfl | ⟨1, _⟩ => rfl)⟩
  have ht := t.isLt
  have hr := r.isLt
  have hN : cfg0.N = 64 := rfl
  have e : ((cfg0.win 7).blk t).view.emb (ix2 r l) = ix2 (row t r) l := by
    blk_ext [idx t]
  unfold queries
  obtain ⟨g, kv, a, hf, f, rfl⟩ := qcol_cases l
  rw [block7 _ _ _ _ _ _ _ r g kv a hf f _ _ (tables m c t r kv a hf f), e, Ref.qa_apply]
  unfold query
  refine congrArg₂ (fun y g => turn hf (rms y g) _ _ a f * _) (funext fun d => ?_) (funext fun d => ?_)
  · exact bproj_eq m c t r _ _ (column_query g kv d)
  · refine Eq.trans ?_ (Weights.qgain_apply m c kv d)
    blk_ext [iblk, idx t]

/-- The first group's queries after the run. -/
theorem final7 (c : Dev nD) : (dats m 0 c).arrAt 7 cfg0.N = queries m c := by
  refine (dats m 0 c).arrAt_eq_of_covers 7 _ (by decide +kernel) fun t _ y => ?_
  blk_simp
  rw [after0_7]
  exact point7 m c t y

/-- The first group's keys the reference computes. -/
abbrev keys (c : Dev nD) : (⟨S65536x128, .bf16⟩ : BufTy).Contents (Elt Ideal) :=
  Cert.Reference3Ideal.Read.val_main_v111 (F := Ideal) (m ((c : Thread nD τ).loc main_arg0)) (m ((c : Thread nD τ).loc main_arg1)) (m ((c : Thread nD τ).loc main_arg3))

/-- A block of the first group's keys. -/
theorem point8 (c : Dev nD) (t : Fin cfg0.N) (y : S1024x128.Idx) :
    out0_8 (iblk m c 0 t) (iblk m c 1 t) (iblk m c 2 t) (iblk m c 3 t) (iblk m c 4 t) (iblk m c 5 t) (iblk m c 6 t) y = keys m c (((cfg0.win 8).blk t).view.emb y) := by
  obtain ⟨r, l, rfl⟩ : ∃ (r : Fin 1024) (l : Fin 128), y = ix2 r l :=
    ⟨y 0, y 1, funext fun a => Fin.ext (match a with | ⟨0, _⟩ => rfl | ⟨1, _⟩ => rfl)⟩
  have ht := t.isLt
  have hr := r.isLt
  have hN : cfg0.N = 64 := rfl
  have e : ((cfg0.win 8).blk t).view.emb (ix2 r l) = ix2 (row t r) l := by
    blk_ext [idx t]
  unfold keys
  obtain ⟨kv, a, hf, f, rfl⟩ := kcol_cases l
  rw [block8 _ _ _ _ _ _ _ r kv a hf f _ _ (tables m c t r kv a hf f), e, Ref.ka_apply]
  unfold key
  refine congrArg₂ (fun y g => turn hf (rms y g) _ _ a f) (funext fun d => ?_) (funext fun d => ?_)
  · exact bproj_eq m c t r _ _ (column_key kv d)
  · refine Eq.trans ?_ (Weights.kgain_apply m c kv d)
    blk_ext [iblk, idx t]

/-- The first group's keys after the run. -/
theorem final8 (c : Dev nD) : (dats m 0 c).arrAt 8 cfg0.N = keys m c := by
  refine (dats m 0 c).arrAt_eq_of_covers 8 _ (by decide +kernel) fun t _ y => ?_
  blk_simp
  rw [after0_8]
  exact point8 m c t y

/-- The first group's values the reference computes. -/
abbrev values (c : Dev nD) : (⟨S65536x128, .bf16⟩ : BufTy).Contents (Elt Ideal) :=
  Cert.Reference3Ideal.Read.val_main_v113 (F := Ideal) (m ((c : Thread nD τ).loc main_arg0)) (m ((c : Thread nD τ).loc main_arg1))

/-- A block of the first group's values. -/
theorem point9 (c : Dev nD) (t : Fin cfg0.N) (y : S1024x128.Idx) :
    out0_9 (iblk m c 0 t) (iblk m c 1 t) (iblk m c 2 t) (iblk m c 3 t) (iblk m c 4 t) (iblk m c 5 t) (iblk m c 6 t) y = values m c (((cfg0.win 9).blk t).view.emb y) := by
  obtain ⟨r, l, rfl⟩ : ∃ (r : Fin 1024) (l : Fin 128), y = ix2 r l :=
    ⟨y 0, y 1, funext fun a => Fin.ext (match a with | ⟨0, _⟩ => rfl | ⟨1, _⟩ => rfl)⟩
  have ht := t.isLt
  have hr := r.isLt
  have hN : cfg0.N = 64 := rfl
  have e : ((cfg0.win 9).blk t).view.emb (ix2 r l) = ix2 (row t r) l := by
    blk_ext [idx t]
  unfold values
  rw [block9, e, Ref.va_apply, bproj_eq m c t r _ _ (column_640 l)]

/-- The first group's values after the run. -/
theorem final9 (c : Dev nD) : (dats m 0 c).arrAt 9 cfg0.N = values m c := by
  refine (dats m 0 c).arrAt_eq_of_covers 9 _ (by decide +kernel) fun t _ y => ?_
  blk_simp
  rw [after0_9]
  exact point9 m c t y

/-- The second group's queries the reference computes. -/
abbrev queries2 (c : Dev nD) : (⟨S65536x512, .bf16⟩ : BufTy).Contents (Elt Ideal) :=
  Cert.Reference3Ideal.Read.val_main_v117 (F := Ideal) (m ((c : Thread nD τ).loc main_arg0)) (m ((c : Thread nD τ).loc main_arg1))

/-- A block of the second group's queries. -/
theorem point10 (c : Dev nD) (t : Fin cfg0.N) (y : S1024x512.Idx) :
    out0_10 (iblk m c 0 t) (iblk m c 1 t) (iblk m c 2 t) (iblk m c 3 t) (iblk m c 4 t) (iblk m c 5 t) (iblk m c 6 t) y = queries2 m c (((cfg0.win 10).blk t).view.emb y) := by
  obtain ⟨r, l, rfl⟩ : ∃ (r : Fin 1024) (l : Fin 512), y = ix2 r l :=
    ⟨y 0, y 1, funext fun a => Fin.ext (match a with | ⟨0, _⟩ => rfl | ⟨1, _⟩ => rfl)⟩
  have ht := t.isLt
  have hr := r.isLt
  have hN : cfg0.N = 64 := rfl
  have e : ((cfg0.win 10).blk t).view.emb (ix2 r l) = ix2 (row t r) l := by
    blk_ext [idx t]
  unfold queries2
  rw [block10, e, Ref.qb_apply, bproj_eq m c t r _ _ (column_second l)]

/-- The second group's queries after the run. -/
theorem final10 (c : Dev nD) : (dats m 0 c).arrAt 10 cfg0.N = queries2 m c := by
  refine (dats m 0 c).arrAt_eq_of_covers 10 _ (by decide +kernel) fun t _ y => ?_
  blk_simp
  rw [after0_10]
  exact point10 m c t y

/-- The second group's keys the reference computes. -/
abbrev keys2 (c : Dev nD) : (⟨S65536x128, .bf16⟩ : BufTy).Contents (Elt Ideal) :=
  Cert.Reference3Ideal.Read.val_main_v119 (F := Ideal) (m ((c : Thread nD τ).loc main_arg0)) (m ((c : Thread nD τ).loc main_arg1))

/-- A block of the second group's keys. -/
theorem point11 (c : Dev nD) (t : Fin cfg0.N) (y : S1024x128.Idx) :
    out0_11 (iblk m c 0 t) (iblk m c 1 t) (iblk m c 2 t) (iblk m c 3 t) (iblk m c 4 t) (iblk m c 5 t) (iblk m c 6 t) y = keys2 m c (((cfg0.win 11).blk t).view.emb y) := by
  obtain ⟨r, l, rfl⟩ : ∃ (r : Fin 1024) (l : Fin 128), y = ix2 r l :=
    ⟨y 0, y 1, funext fun a => Fin.ext (match a with | ⟨0, _⟩ => rfl | ⟨1, _⟩ => rfl)⟩
  have ht := t.isLt
  have hr := r.isLt
  have hN : cfg0.N = 64 := rfl
  have e : ((cfg0.win 11).blk t).view.emb (ix2 r l) = ix2 (row t r) l := by
    blk_ext [idx t]
  unfold keys2
  rw [block11, e, Ref.kb_apply, bproj_eq m c t r _ _ (column_1280 l)]

/-- The second group's keys after the run. -/
theorem final11 (c : Dev nD) : (dats m 0 c).arrAt 11 cfg0.N = keys2 m c := by
  refine (dats m 0 c).arrAt_eq_of_covers 11 _ (by decide +kernel) fun t _ y => ?_
  blk_simp
  rw [after0_11]
  exact point11 m c t y

/-- The second group's values the reference computes. -/
abbrev values2 (c : Dev nD) : (⟨S65536x128, .bf16⟩ : BufTy).Contents (Elt Ideal) :=
  Cert.Reference3Ideal.Read.val_main_v121 (F := Ideal) (m ((c : Thread nD τ).loc main_arg0)) (m ((c : Thread nD τ).loc main_arg1))

/-- A block of the second group's values. -/
theorem point12 (c : Dev nD) (t : Fin cfg0.N) (y : S1024x128.Idx) :
    out0_12 (iblk m c 0 t) (iblk m c 1 t) (iblk m c 2 t) (iblk m c 3 t) (iblk m c 4 t) (iblk m c 5 t) (iblk m c 6 t) y = values2 m c (((cfg0.win 12).blk t).view.emb y) := by
  obtain ⟨r, l, rfl⟩ : ∃ (r : Fin 1024) (l : Fin 128), y = ix2 r l :=
    ⟨y 0, y 1, funext fun a => Fin.ext (match a with | ⟨0, _⟩ => rfl | ⟨1, _⟩ => rfl)⟩
  have ht := t.isLt
  have hr := r.isLt
  have hN : cfg0.N = 64 := rfl
  have e : ((cfg0.win 12).blk t).view.emb (ix2 r l) = ix2 (row t r) l := by
    blk_ext [idx t]
  unfold values2
  rw [block12, e, Ref.vb_apply, bproj_eq m c t r _ _ (column_1408 l)]

/-- The second group's values after the run. -/
theorem final12 (c : Dev nD) : (dats m 0 c).arrAt 12 cfg0.N = values2 m c := by
  refine (dats m 0 c).arrAt_eq_of_covers 12 _ (by decide +kernel) fun t _ y => ?_
  blk_simp
  rw [after0_12]
  exact point12 m c t y

end Cert.Inproj.Final

end
-- ==== Proof.Win.Tile.lean ====
/- What the windowed attention kernel's body stores for one block of 128 query rows and one pair of heads, in one form
   for all blocks and pairs. -/
module

public import proofs.«01_k».proof.Proof.Gen.Kernel4Ideal.Frame

@[expose] public section

set_option maxRecDepth 16384

noncomputable section

namespace Cert.Win.Tile

open Idealize.ShloMosaic Idealize.ShloMosaic.TcCoe Idealize.SL.Sem
open Cert.Kernel4Ideal Cert.Kernel4Ideal.Gen

variable {F : FTy → Type} [FloatOps F] [Named F]

/-- The lanes of the pair's first head. -/
def lower : IVec S128x128 1 := cmpi .slt (iota .tc S128x128 32 [1] iota_S128x128_d1_w32) (broadcast S128x128 64#32)

/-- The lanes of the pair's second head. -/
def upper : IVec S128x128 1 := xori lower (constantI S128x128 1 1#1)

/-- A pair's query rows, the other head's lanes taken as zero. -/
def half (mask : IVec S128x128 1) (q : Vec F S128x128 .bf16) : FVec F S128x128 .bf16 :=
  select mask q (broadcast S128x128 (Scalar.ofBits .bf16 0x0000#16))

/-- Three blocks of 128 rows one under the other. -/
def slab (a b c : Vec F S128x128 .bf16) : FVec F S384x128 .bf16 :=
  concatenate S384x128 0 [⟨S128x128, a⟩, ⟨S128x128, b⟩, ⟨S128x128, c⟩] concatenates_S128x128_S128x128_S128x128_S384x128_d0

/-- The distance of a query row and a key of the three blocks, as a word. -/
def gap : IVec S128x384 32 :=
  absi (subi (addi (iota .tc S128x384 32 [0] iota_S128x384_d0_w32) (broadcast S128x384 128#32)) (iota .tc S128x384 32 [1] iota_S128x384_d1_w32))

/-- The place of a key of the three blocks in its sequence, as a word, for the block of that number. -/
def place (w : BitVec 32) : IVec S128x384 32 :=
  addi (broadcast S128x384 (Scalar.muli (Scalar.subi w 1#32) 128#32)) (iota .tc S128x384 32 [1] iota_S128x384_d1_w32)

/-- The keys a query row attends to: within the window and inside the sequence. -/
def valid (w : BitVec 32) : IVec S128x384 1 :=
  andi (cmpi .sle gap (broadcast S128x384 128#32))
    (andi (cmpi .sge (place w) (broadcast S128x384 0#32)) (cmpi .slt (place w) (broadcast S128x384 2048#32)))

/-- The products of all eight heads' query rows with the keys. -/
def scores (q0 q1 q2 q3 : Vec F S128x128 .bf16) (ks : FVec F S384x128 .bf16) : FVec F S1024x384 .f32 :=
  matmul dot_S1024x128_S384x128_S1024x384_1_1_0_0_n_n none
    (concatenate S1024x128 0 [⟨S128x128, half lower q0⟩, ⟨S128x128, half lower q1⟩, ⟨S128x128, half lower q2⟩, ⟨S128x128, half lower q3⟩,
      ⟨S128x128, half upper q0⟩, ⟨S128x128, half upper q1⟩, ⟨S128x128, half upper q2⟩, ⟨S128x128, half upper q3⟩]
      concatenates_S128x128_S128x128_S128x128_S128x128_S128x128_S128x128_S128x128_S128x128_S1024x128_d0)
    ks (constant S1024x384 .f32 0x00000000#32)

/-- One head's scores: less its slope times the distance, and masked. -/
def masked (w : BitVec 32) (slope : BitVec 32) (s : FVec F S128x384 .f32) : FVec F S128x384 .f32 :=
  select (valid w) (subf s (mulf (broadcast S128x384 (Scalar.ofBits .f32 slope)) (sitofp .f32 gap)))
    (broadcast S128x384 (Named.named κ "mask" 0xF149F2CA#32))

/-- The largest of a row's scores and the sink. -/
def tops (s : FVec F S128x384 .f32) (n : Elt F .f32) : FVec F S128x1 .f32 :=
  maximumf (shapeCast S128x1 (multiReduction .maximumf [1] S128 s 0xFF800000#32 reduces_S128x384_S128 (.inl rfl) rfl) shapeCasts_S128_S128x1)
    (broadcast S128x1 n)

/-- The weights of a block of scores. -/
def weights (s : FVec F S128x384 .f32) (n : Elt F .f32) : FVec F S128x384 .f32 :=
  exp (subf s (broadcastTo S128x384 (tops s n) broadcasts_S128x1_S128x384))

/-- The inverse of a row's sum of weights, the sink's among them. -/
def inverse (s : FVec F S128x384 .f32) (n : Elt F .f32) : FVec F S128x1 .f32 :=
  divf (broadcast S128x1 (Scalar.ofBits .f32 0x3F800000#32))
    (addf (shapeCast S128x1 (multiReduction .add [1] S128 (weights s n) 0x00000000#32 reduces_S128x384_S128 (.inl rfl) rfl) shapeCasts_S128_S128x1)
      (exp (subf (broadcast S128x1 n) (tops s n))))

/-- The weights as the product with the values takes them. -/
def packed (s : FVec F S128x384 .f32) (n : Elt F .f32) : FVec F S128x384 .bf16 := truncf .bf16 (weights s n) bitsLt_bf16_f32

/-- The weighted sums of the values for all eight heads. -/
def sums (p0 p1 p2 p3 p4 p5 p6 p7 : FVec F S128x384 .bf16) (vs : FVec F S384x128 .bf16) : FVec F S1024x128 .f32 :=
  matmul dot_S1024x384_S384x128_S1024x128_1_0_0_1_n_n none
    (concatenate S1024x384 0 [⟨S128x384, p0⟩, ⟨S128x384, p1⟩, ⟨S128x384, p2⟩, ⟨S128x384, p3⟩, ⟨S128x384, p4⟩, ⟨S128x384, p5⟩, ⟨S128x384, p6⟩, ⟨S128x384, p7⟩]
      concatenates_S128x384_S128x384_S128x384_S128x384_S128x384_S128x384_S128x384_S128x384_S1024x384_d0)
    vs (constant S1024x128 .f32 0x00000000#32)

/-- A pair's rows: each head's weighted sums by its own inverse. -/
def both (a b : FVec F S128x128 .f32) (i j : FVec F S128x1 .f32) : FVec F S128x128 .f32 :=
  select lower (mulf a (broadcastTo S128x128 i broadcasts_S128x1_S128x128)) (mulf b (broadcastTo S128x128 j broadcasts_S128x1_S128x128))

/-- The normalizing factor of one head from the squares of its lanes. -/
def factor (sq : FVec F S128x128 .f32) : FVec F S128x128 .f32 :=
  broadcastTo S128x128 (shapeCast S128x1 (rsqrt (addf (divf (shapeCast S128x1 (multiReduction .add [1] S128 sq 0x00000000#32 reduces_S128x128_S128 (.inl rfl) rfl) shapeCasts_S128_S128x1) (broadcast S128x1 (Scalar.ofBits .f32 0x42800000#32))) (broadcast S128x1 (Scalar.ofBits .f32 0x358637BD#32)))) shapeCasts_S128x1_S128x1) broadcasts_S128x1_S128x128

/-- The pair's rows normalized head by head and scaled by the gain. -/
def scale (o : FVec F S128x128 .f32) (g : Vec F S1x128 .f32) : FVec F S128x128 .bf16 :=
  truncf .bf16 (mulf (mulf o (select lower
      (factor (select lower (mulf o o) (broadcast S128x128 (Scalar.ofBits .f32 0x00000000#32))))
      (factor (select lower (broadcast S128x128 (Scalar.ofBits .f32 0x00000000#32)) (mulf o o)))))
    (broadcastTo S128x128 (shapeCast S1x128 g shapeCasts_S1x128_S1x128) broadcasts_S1x128_S128x128)) bitsLt_bf16_f32

section heads
variable (w : BitVec 32) (s : FVec F S1024x384 .f32)
/-- The eight heads' masked scores, each its own 128 rows of the products. -/
def head0 : FVec F S128x384 .f32 := masked w 0x3F000000#32 (extractStridedSlice S128x384 ![0, 0] s slices_S1024x384_o0_0_S128x384)
/-- The second head's. -/
def head1 : FVec F S128x384 .f32 := masked w 0x3E800000#32 (extractStridedSlice S128x384 ![128, 0] s slices_S1024x384_o128_0_S128x384)
/-- The third head's. -/
def head2 : FVec F S128x384 .f32 := masked w 0x3E000000#32 (extractStridedSlice S128x384 ![256, 0] s slices_S1024x384_o256_0_S128x384)
/-- The fourth head's. -/
def head3 : FVec F S128x384 .f32 := masked w 0x3D800000#32 (extractStridedSlice S128x384 ![384, 0] s slices_S1024x384_o384_0_S128x384)
/-- The fifth head's. -/
def head4 : FVec F S128x384 .f32 := masked w 0x3D000000#32 (extractStridedSlice S128x384 ![512, 0] s slices_S1024x384_o512_0_S128x384)
/-- The sixth head's. -/
def head5 : FVec F S128x384 .f32 := masked w 0x3C800000#32 (extractStridedSlice S128x384 ![640, 0] s slices_S1024x384_o640_0_S128x384)
/-- The seventh head's. -/
def head6 : FVec F S128x384 .f32 := masked w 0x3C000000#32 (extractStridedSlice S128x384 ![768, 0] s slices_S1024x384_o768_0_S128x384)
/-- The eighth head's. -/
def head7 : FVec F S128x384 .f32 := masked w 0x3B800000#32 (extractStridedSlice S128x384 ![896, 0] s slices_S1024x384_o896_0_S128x384)

variable (n0 n1 n2 n3 n4 n5 n6 n7 : Elt F .f32) (vs : FVec F S384x128 .bf16)

/-- The weighted sums of the values for all eight heads, from their scores and sinks. -/
def mixed : FVec F S1024x128 .f32 :=
  sums (packed (head0 w s) n0) (packed (head1 w s) n1) (packed (head2 w s) n2) (packed (head3 w s) n3)
    (packed (head4 w s) n4) (packed (head5 w s) n5) (packed (head6 w s) n6) (packed (head7 w s) n7) vs

/-- The first pair's rows. -/
def pair0 : FVec F S128x128 .f32 :=
  both (extractStridedSlice S128x128 ![0, 0] (mixed w s n0 n1 n2 n3 n4 n5 n6 n7 vs) slices_S1024x128_o0_0_S128x128)
    (extractStridedSlice S128x128 ![512, 0] (mixed w s n0 n1 n2 n3 n4 n5 n6 n7 vs) slices_S1024x128_o512_0_S128x128)
    (inverse (head0 w s) n0) (inverse (head4 w s) n4)
/-- The second pair's. -/
def pair1 : FVec F S128x128 .f32 :=
  both (extractStridedSlice S128x128 ![128, 0] (mixed w s n0 n1 n2 n3 n4 n5 n6 n7 vs) slices_S1024x128_o128_0_S128x128)
    (extractStridedSlice S128x128 ![640, 0] (mixed w s n0 n1 n2 n3 n4 n5 n6 n7 vs) slices_S1024x128_o640_0_S128x128)
    (inverse (head1 w s) n1) (inverse (head5 w s) n5)
/-- The third pair's. -/
def pair2 : FVec F S128x128 .f32 :=
  both (extractStridedSlice S128x128 ![256, 0] (mixed w s n0 n1 n2 n3 n4 n5 n6 n7 vs) slices_S1024x128_o256_0_S128x128)
    (extractStridedSlice S128x128 ![768, 0] (mixed w s n0 n1 n2 n3 n4 n5 n6 n7 vs) slices_S1024x128_o768_0_S128x128)
    (inverse (head2 w s) n2) (inverse (head6 w s) n6)
/-- The fourth pair's. -/
def pair3 : FVec F S128x128 .f32 :=
  both (extractStridedSlice S128x128 ![384, 0] (mixed w s n0 n1 n2 n3 n4 n5 n6 n7 vs) slices_S1024x128_o384_0_S128x128)
    (extractStridedSlice S128x128 ![896, 0] (mixed w s n0 n1 n2 n3 n4 n5 n6 n7 vs) slices_S1024x128_o896_0_S128x128)
    (inverse (head3 w s) n3) (inverse (head7 w s) n7)
end heads

end Cert.Win.Tile

end
-- ==== Proof.Win.Spec.lean ====
/- The arithmetic of one row of attention over 384 keys with a sink, followed by the RMS normalization, on the extended
   reals; the words that say which key is attended to; and where the operands lie in the arrays. No program is
   mentioned here. -/
module

public import proofs.«01_k».proof.Proof.Attn.Spec

@[expose] public section

set_option maxRecDepth 16384

noncomputable section

namespace Cert.Win

open Idealize.ShloMosaic
open Cert.Attn (normed normed_extreme sum_mul_of_nonneg div_zero_extreme sum_extreme exp_nonneg row qcol kcol)

/-- The largest of a row's scores, folded from the pattern of minus infinity, and the sink. -/
def top (s : Fin 384 → EReal) (n : EReal) : EReal := max (Finset.univ.fold max (Ideal.ofBits .f32 0xFF800000#32) s) n

/-- A key's weight. -/
def wt (s : Fin 384 → EReal) (n : EReal) (k : Fin 384) : EReal := Ideal.exp (s k - top s n)

/-- The sum of the weights, the sink's among them. -/
def total (s : Fin 384 → EReal) (n : EReal) : EReal := (∑ k, wt s n k) + Ideal.exp (n - top s n)

/-- The row's output at a lane: the weighted sum of the values times the inverse of the total. -/
def outLate (s : Fin 384 → EReal) (n : EReal) (v : Fin 384 → Fin 64 → EReal) (d : Fin 64) : EReal :=
  (∑ k, wt s n k * v k d) * Ideal.div 1 (total s n)

/-- The same with each weight divided by the total first. -/
def outEarly (s : Fin 384 → EReal) (n : EReal) (v : Fin 384 → Fin 64 → EReal) (d : Fin 64) : EReal :=
  ∑ k, v k d * Ideal.div (wt s n k) (total s n)

/-- A weight is not negative. -/
theorem wt_nonneg (s : Fin 384 → EReal) (n : EReal) (k : Fin 384) : 0 ≤ wt s n k := exp_nonneg _

/-- Nor is the total. -/
theorem total_nonneg (s : Fin 384 → EReal) (n : EReal) : 0 ≤ total s n :=
  add_nonneg (Finset.sum_nonneg fun k _ => wt_nonneg s n k) (exp_nonneg _)

/-- A masked key has no weight. -/
theorem wt_bot (s : Fin 384 → EReal) (n : EReal) (k : Fin 384) (h : s k = ⊥) : wt s n k = 0 := by
  unfold wt
  rw [h, sub_eq_add_neg, EReal.bot_add]
  rfl

/-- Where the total is zero every weight is. -/
theorem wt_zero (s : Fin 384 → EReal) (n : EReal) (h : total s n = 0) (k : Fin 384) : wt s n k = 0 := by
  refine le_antisymm ?_ (wt_nonneg s n k)
  rw [← h]
  exact (Finset.single_le_sum (f := wt s n) (fun k _ => wt_nonneg s n k) (Finset.mem_univ k)).trans
    (le_add_of_nonneg_right (exp_nonneg _))

/-- After the normalization the two orders of dividing agree, also where the values of masked keys differ. -/
theorem normed_late_eq_early (s : Fin 384 → EReal) (n : EReal) (v v' : Fin 384 → Fin 64 → EReal)
    (hv : ∀ k e, s k = ⊥ ∨ v k e = v' k e) (d : Fin 64) :
    normed (outLate s n v) d = normed (outEarly s n v') d := by
  by_cases hl : total s n = 0
  · rw [normed_extreme, normed_extreme]
    · intro e
      unfold outEarly
      rw [hl]
      refine sum_extreme _ fun k => ?_
      have hv : v' k e = 0 ∨ 0 < v' k e ∨ v' k e < 0 := by
        rcases lt_trichotomy (v' k e) 0 with h | h | h
        · exact Or.inr (Or.inr h)
        · exact Or.inl h
        · exact Or.inr (Or.inl h)
      rcases div_zero_extreme (wt s n k) with h | h | h <;> rw [h]
      · rcases hv with h | h | h
        · rw [h, zero_mul]; exact Or.inr (Or.inl rfl)
        · rw [EReal.mul_bot_of_pos h]; exact Or.inl rfl
        · rw [EReal.mul_bot_of_neg h]; exact Or.inr (Or.inr rfl)
      · rw [mul_zero]; exact Or.inr (Or.inl rfl)
      · rcases hv with h | h | h
        · rw [h, zero_mul]; exact Or.inr (Or.inl rfl)
        · rw [EReal.mul_top_of_pos h]; exact Or.inr (Or.inr rfl)
        · rw [EReal.mul_top_of_neg h]; exact Or.inl rfl
    · intro e
      refine Or.inr (Or.inl ?_)
      unfold outLate
      simp only [wt_zero s n hl, zero_mul, Finset.sum_const_zero]
  · refine congrArg (fun o => normed o d) (funext fun e => ?_)
    unfold outLate outEarly Ideal.div
    simp only [if_neg hl, one_mul]
    rw [sum_mul_of_nonneg _ _ (EReal.inv_nonneg_of_nonneg (total_nonneg s n)) (EReal.inv_lt_top _).ne]
    refine Finset.sum_congr rfl fun k _ => ?_
    rcases hv k e with h | h
    · rw [wt_bot s n k h, zero_mul, zero_mul, mul_zero]
    · rw [h]; ac_rfl

/-! ## The words -/

/-- The distance of a query row and a key of the three blocks. -/
def gap (q : Fin 128) (s : Fin 384) : BitVec 32 :=
  IntOp.absi (IntOp.subi (IntOp.addi (BitVec.ofNat 32 q.val) 128#32) (BitVec.ofNat 32 s.val))

/-- The place of a key of the three blocks in its sequence, for the block of that number. -/
def place (w : BitVec 32) (s : Fin 384) : BitVec 32 :=
  IntOp.addi (Scalar.muli (Scalar.subi w 1#32) 128#32) (BitVec.ofNat 32 s.val)

/-- Whether a key's place is inside the sequence. -/
def inside (w : BitVec 32) (s : Fin 384) : BitVec 1 :=
  IntOp.andi (IntOp.cmpi CmpIPredicate.sge (place w s) 0#32) (IntOp.cmpi CmpIPredicate.slt (place w s) 2048#32)

/-- Whether a query row attends to a key. -/
def valid (w : BitVec 32) (q : Fin 128) (s : Fin 384) : BitVec 1 :=
  IntOp.andi (IntOp.cmpi CmpIPredicate.sle (gap q s) 128#32) (inside w s)

/-- A key inside the sequence lies in the padded sequence's middle. -/
theorem inside_bounds : ∀ (j : Fin 16) (s : Fin 384), inside (BitVec.ofNat 32 j.val) s = 1#1 →
    128 ≤ j.val * 128 + s.val ∧ j.val * 128 + s.val < 2176 := by
  decide +kernel

/-- A key that is attended to is inside the sequence. -/
theorem valid_inside (w : BitVec 32) (q : Fin 128) (s : Fin 384) (h : valid w q s = 1#1) : inside w s = 1#1 := by
  revert h
  unfold valid
  generalize IntOp.cmpi CmpIPredicate.sle (gap q s) 128#32 = a
  generalize inside w s = b
  revert a b
  decide

/-- The row of the sequence that stands for a key of the three blocks: the block before the first is the first, the
    block after the last is the last. -/
abbrev near (j : Fin 16) (s : Fin 384) : Fin 2048 :=
  ⟨(max 1 (min 16 (j.val + s.val / 128)) - 1) * 128 + s.val % 128, by omega⟩

/-- The row of a block's query. -/
abbrev qrow (b : Fin 32) (j : Fin 16) (q : Fin 128) : Fin 65536 := ⟨b.val * 2048 + j.val * 128 + q.val, by omega⟩

/-- The slope of a head's distances. -/
def slope (h : Fin 8) : BitVec 32 :=
  ![0x3F000000#32, 0x3E800000#32, 0x3E000000#32, 0x3D800000#32, 0x3D000000#32, 0x3C800000#32, 0x3C000000#32, 0x3B800000#32] h

/-- The heads in the layer's order: the key and value head first, then the pair. -/
abbrev head (g : Fin 4) (kv : Fin 2) : Fin 8 := ⟨kv.val * 4 + g.val, by omega⟩

/-- A query row's masked score of a key, from their product. -/
def masked (w : BitVec 32) (h : Fin 8) (q : Fin 128) (s : Fin 384) (x : EReal) : EReal :=
  Scalar.select (valid w q s) (x - Ideal.ofBits .f32 (slope h) * FloatOps.sitofp (F := Ideal) .f32 (gap q s)) ⊥

/-- The scores of one query row of one head against the keys of its three blocks. -/
def score (x0 : (⟨2, ![65536, 512]⟩ : Shape).Idx → EReal) (x1 : (⟨2, ![65536, 128]⟩ : Shape).Idx → EReal)
    (b : Fin 32) (j : Fin 16) (q : Fin 128) (g : Fin 4) (kv : Fin 2) (s : Fin 384) : EReal :=
  masked (BitVec.ofNat 32 j.val) (head g kv) q s
    (∑ d : Fin 64, x0 (ix2 (qrow b j q) (qcol g kv d)) * x1 (ix2 (row b (near j s)) (kcol kv d)))

/-- The values of one head over the three blocks. -/
def value (x2 : (⟨2, ![65536, 128]⟩ : Shape).Idx → EReal) (b : Fin 32) (j : Fin 16) (kv : Fin 2) (s : Fin 384) (d : Fin 64) : EReal :=
  x2 (ix2 (row b (near j s)) (kcol kv d))

end Cert.Win

end
-- ==== Proof.Win.Rows.lean ====
/- The stored form of the windowed attention's body read at a row and a lane of either head of the pair, on the extended
   reals. -/
module

public import proofs.«01_k».proof.Proof.Win.Tile
public import proofs.«01_k».proof.Proof.Win.Spec
public import Idealize.ShloMosaic.Lib.Pointwise

@[expose] public section

set_option maxRecDepth 16384

noncomputable section

namespace Cert.Win.Rows

open Idealize.ShloMosaic Idealize.ShloMosaic.TcCoe Idealize.SL.Sem
open Cert.Kernel4Ideal Cert.Kernel4Ideal.Gen Cert.Win.Tile
open Cert.Attn (normed kcol qcol)

/-- The first head's lanes are marked. -/
theorem lower_lo (r : Fin 128) (d : Fin 64) : lower (ix2 r (kcol 0 d)) = 1#1 := by
  pointwise [lower]
  revert d; decide

/-- The second head's lanes are not. -/
theorem lower_hi (r : Fin 128) (d : Fin 64) : lower (ix2 r (kcol 1 d)) = 0#1 := by
  pointwise [lower]
  revert d; decide

/-- The other mark leaves out the first head's lanes. -/
theorem upper_lo (r : Fin 128) (d : Fin 64) : upper (ix2 r (kcol 0 d)) = 0#1 := by
  have h := lower_lo r d
  pointwise [upper]
  rw [h]; rfl

/-- The other mark holds the second head's lanes. -/
theorem upper_hi (r : Fin 128) (d : Fin 64) : upper (ix2 r (kcol 1 d)) = 1#1 := by
  have h := lower_hi r d
  pointwise [upper]
  rw [h]; rfl

/-- A sum over the pair's lanes, head by head. -/
theorem sum_lanes (f : Fin 128 → EReal) : (∑ l, f l) = (∑ d, f (kcol 0 d)) + ∑ d, f (kcol 1 d) := by
  rw [Fin.sum_univ_two_halves 64 64 rfl f]
  refine congrArg₂ (· + ·) (Finset.sum_congr rfl fun d _ => congrArg f (Fin.ext ?_)) (Finset.sum_congr rfl fun d _ => congrArg f (Fin.ext ?_))
  · show d.val = 0 * 64 + d.val; omega
  · show 64 + d.val = 1 * 64 + d.val; omega

/-- A pair's row outside the mark is zero. -/
theorem half_apply (mask : IVec S128x128 1) (q : FVec Ideal S128x128 .bf16) (r l : Fin 128) :
    half (F := Ideal) mask q (ix2 r l) = Scalar.select (mask (ix2 r l)) (q (ix2 r l)) 0 := by
  pointwise [half]

/-- The first head's products: the other head's lanes add nothing. -/
theorem half_lo (q : FVec Ideal S128x128 .bf16) (ks : FVec Ideal S384x128 .bf16) (r : Fin 128) (k : Fin 384) :
    (∑ l : Fin 128, half (F := Ideal) lower q (ix2 r l) * ks (ix2 k l)) = ∑ d : Fin 64, q (ix2 r (kcol 0 d)) * ks (ix2 k (kcol 0 d)) := by
  rw [sum_lanes]
  simp only [half_apply, lower_lo, lower_hi, ValueIdx.select_one, ValueIdx.select_zero, zero_mul, Finset.sum_const_zero, add_zero]

/-- The second head's products. -/
theorem half_hi (q : FVec Ideal S128x128 .bf16) (ks : FVec Ideal S384x128 .bf16) (r : Fin 128) (k : Fin 384) :
    (∑ l : Fin 128, half (F := Ideal) upper q (ix2 r l) * ks (ix2 k l)) = ∑ d : Fin 64, q (ix2 r (kcol 1 d)) * ks (ix2 k (kcol 1 d)) := by
  rw [sum_lanes]
  simp only [half_apply, upper_lo, upper_hi, ValueIdx.select_one, ValueIdx.select_zero, zero_mul, Finset.sum_const_zero, zero_add]

/-- The distances' words. -/
theorem gap_apply (q : Fin 128) (s : Fin 384) : Tile.gap (ix2 q s) = Win.gap q s := by
  unfold Win.gap
  pointwise [Tile.gap]

/-- The marks of the keys attended to. -/
theorem valid_apply (w : BitVec 32) (q : Fin 128) (s : Fin 384) : Tile.valid w (ix2 q s) = Win.valid w q s := by
  unfold Win.valid Win.inside Win.place
  rw [← gap_apply]
  pointwise [Tile.valid, Tile.place]

/-- The named mask is minus infinity. -/
theorem mask_bot : Named.named (F := Ideal) κ "mask" (φ := .f32) 0xF149F2CA#32 = ⊥ :=
  IdealRules.named_const.ideal_named_scalar κ "mask" (φ := .f32) 0xF149F2CA#32 ⊥ (by unfold κ; rfl)

/-- One head's masked scores. -/
theorem masked_apply (w : BitVec 32) (h : Fin 8) (x : FVec Ideal S128x384 .f32) (q : Fin 128) (s : Fin 384) :
    Tile.masked (F := Ideal) w (slope h) x (ix2 q s) = Win.masked w h q s (x (ix2 q s)) := by
  unfold Win.masked
  rw [← gap_apply, ← valid_apply, ← mask_bot]
  pointwise [Tile.masked]

/-- The largest of a row's scores and the sink. -/
theorem tops_apply (s : FVec Ideal S128x384 .f32) (n : Ideal .f32) (q : Fin 128) :
    tops (F := Ideal) s n (ix2 q 0) = top (fun k => s (ix2 q k)) n := by
  unfold top
  pointwise [tops]

/-- A weight. -/
theorem weights_apply (s : FVec Ideal S128x384 .f32) (n : Ideal .f32) (q : Fin 128) (k : Fin 384) :
    weights (F := Ideal) s n (ix2 q k) = wt (fun k => s (ix2 q k)) n k := by
  unfold wt
  rw [← tops_apply]
  pointwise [weights]

/-- The inverse of the total. -/
theorem inverse_apply (s : FVec Ideal S128x384 .f32) (n : Ideal .f32) (q : Fin 128) :
    inverse (F := Ideal) s n (ix2 q 0) = Ideal.div 1 (total (fun k => s (ix2 q k)) n) := by
  unfold total
  simp only [← weights_apply]
  rw [← tops_apply]
  pointwise [inverse]

/-- The weights as the product takes them. -/
theorem packed_apply (s : FVec Ideal S128x384 .f32) (n : Ideal .f32) (q : Fin 128) (k : Fin 384) :
    packed (F := Ideal) s n (ix2 q k) = wt (fun k => s (ix2 q k)) n k := by
  rw [← weights_apply]
  pointwise [packed]

/-- The normalizing factor of a row. -/
theorem factor_apply (sq : FVec Ideal S128x128 .f32) (r : Fin 128) (l : Fin 128) :
    factor (F := Ideal) sq (ix2 r l)
      = Ideal.rsqrt (Ideal.div (∑ l : Fin 128, sq (ix2 r l)) (Ideal.ofBits .f32 0x42800000#32) + Ideal.ofBits .f32 0x358637BD#32) := by
  pointwise [factor]

/-- The pair's rows normalized and scaled, at a head and a lane. -/
theorem scale_apply (o : FVec Ideal S128x128 .f32) (g : FVec Ideal S1x128 .f32) (r : Fin 128) (kv : Fin 2) (d : Fin 64) :
    scale (F := Ideal) o g (ix2 r (kcol kv d)) = normed (fun e => o (ix2 r (kcol kv e))) d * g (ix2 0 (kcol kv d)) := by
  pointwise [scale, normed, factor_apply]
  simp only [sum_lanes]
  rcases (by omega : kv = 0 ∨ kv = 1) with rfl | rfl
  · simp only [lower_lo, lower_hi, ValueIdx.select_one, ValueIdx.select_zero, Finset.sum_const_zero, add_zero]
  · simp only [lower_lo, lower_hi, ValueIdx.select_one, ValueIdx.select_zero, Finset.sum_const_zero, zero_add]

/-! ## The eight heads' scores -/

section scores
variable (w : BitVec 32) (q0 q1 q2 q3 : FVec Ideal S128x128 .bf16) (ks : FVec Ideal S384x128 .bf16) (q : Fin 128) (k : Fin 384)

/-- The first head's. -/
theorem head0_apply : head0 (F := Ideal) w (scores q0 q1 q2 q3 ks) (ix2 q k)
    = Win.masked w 0 q k (∑ d : Fin 64, q0 (ix2 q (kcol 0 d)) * ks (ix2 k (kcol 0 d))) := by
  refine (masked_apply w 0 _ q k).trans (congrArg (Win.masked w 0 q k) ?_)
  rw [← half_lo]
  pointwise [scores]

/-- The second head's. -/
theorem head1_apply : head1 (F := Ideal) w (scores q0 q1 q2 q3 ks) (ix2 q k)
    = Win.masked w 1 q k (∑ d : Fin 64, q1 (ix2 q (kcol 0 d)) * ks (ix2 k (kcol 0 d))) := by
  refine (masked_apply w 1 _ q k).trans (congrArg (Win.masked w 1 q k) ?_)
  rw [← half_lo]
  pointwise [scores]

/-- The third head's. -/
theorem head2_apply : head2 (F := Ideal) w (scores q0 q1 q2 q3 ks) (ix2 q k)
    = Win.masked w 2 q k (∑ d : Fin 64, q2 (ix2 q (kcol 0 d)) * ks (ix2 k (kcol 0 d))) := by
  refine (masked_apply w 2 _ q k).trans (congrArg (Win.masked w 2 q k) ?_)
  rw [← half_lo]
  pointwise [scores]
  refine Finset.sum_congr rfl fun x _ => congrArg (· * _) ?_
  simp (disch := omega) only [dif_pos, dif_neg]
  exact congrArg (fun i => half (F := Ideal) lower q2 (ix2 i x)) (Fin.ext (by dsimp only; omega))

/-- The fourth head's. -/
theorem head3_apply : head3 (F := Ideal) w (scores q0 q1 q2 q3 ks) (ix2 q k)
    = Win.masked w 3 q k (∑ d : Fin 64, q3 (ix2 q (kcol 0 d)) * ks (ix2 k (kcol 0 d))) := by
  refine (masked_apply w 3 _ q k).trans (congrArg (Win.masked w 3 q k) ?_)
  rw [← half_lo]
  pointwise [scores]
  refine Finset.sum_congr rfl fun x _ => congrArg (· * _) ?_
  simp (disch := omega) only [dif_pos, dif_neg]
  exact congrArg (fun i => half (F := Ideal) lower q3 (ix2 i x)) (Fin.ext (by dsimp only; omega))

/-- The fifth head's. -/
theorem head4_apply : head4 (F := Ideal) w (scores q0 q1 q2 q3 ks) (ix2 q k)
    = Win.masked w 4 q k (∑ d : Fin 64, q0 (ix2 q (kcol 1 d)) * ks (ix2 k (kcol 1 d))) := by
  refine (masked_apply w 4 _ q k).trans (congrArg (Win.masked w 4 q k) ?_)
  rw [← half_hi]
  pointwise [scores]
  refine Finset.sum_congr rfl fun x _ => congrArg (· * _) ?_
  simp (disch := omega) only [dif_pos, dif_neg]
  exact congrArg (fun i => half (F := Ideal) upper q0 (ix2 i x)) (Fin.ext (by dsimp only; omega))

/-- The sixth head's. -/
theorem head5_apply : head5 (F := Ideal) w (scores q0 q1 q2 q3 ks) (ix2 q k)
    = Win.masked w 5 q k (∑ d : Fin 64, q1 (ix2 q (kcol 1 d)) * ks (ix2 k (kcol 1 d))) := by
  refine (masked_apply w 5 _ q k).trans (congrArg (Win.masked w 5 q k) ?_)
  rw [← half_hi]
  pointwise [scores]
  refine Finset.sum_congr rfl fun x _ => congrArg (· * _) ?_
  simp (disch := omega) only [dif_pos, dif_neg]
  exact congrArg (fun i => half (F := Ideal) upper q1 (ix2 i x)) (Fin.ext (by dsimp only; omega))

/-- The seventh head's. -/
theorem head6_apply : head6 (F := Ideal) w (scores q0 q1 q2 q3 ks) (ix2 q k)
    = Win.masked w 6 q k (∑ d : Fin 64, q2 (ix2 q (kcol 1 d)) * ks (ix2 k (kcol 1 d))) := by
  refine (masked_apply w 6 _ q k).trans (congrArg (Win.masked w 6 q k) ?_)
  rw [← half_hi]
  pointwise [scores]
  refine Finset.sum_congr rfl fun x _ => congrArg (· * _) ?_
  simp (disch := omega) only [dif_pos, dif_neg]
  exact congrArg (fun i => half (F := Ideal) upper q2 (ix2 i x)) (Fin.ext (by dsimp only; omega))

/-- The eighth head's. -/
theorem head7_apply : head7 (F := Ideal) w (scores q0 q1 q2 q3 ks) (ix2 q k)
    = Win.masked w 7 q k (∑ d : Fin 64, q3 (ix2 q (kcol 1 d)) * ks (ix2 k (kcol 1 d))) := by
  refine (masked_apply w 7 _ q k).trans (congrArg (Win.masked w 7 q k) ?_)
  rw [← half_hi]
  pointwise [scores]
  refine Finset.sum_congr rfl fun x _ => congrArg (· * _) ?_
  simp (disch := omega) only [dif_pos, dif_neg]
  exact congrArg (fun i => half (F := Ideal) upper q3 (ix2 i x)) (Fin.ext (by dsimp only; omega))

end scores

/-! ## The pairs' rows -/

section pairs
variable (w : BitVec 32) (s : FVec Ideal S1024x384 .f32) (n0 n1 n2 n3 n4 n5 n6 n7 : Ideal .f32) (vs : FVec Ideal S384x128 .bf16) (r : Fin 128)

/-- The first head's weighted sums. -/
theorem mixed0_apply (l : Fin 128) :
    extractStridedSlice S128x128 ![0, 0] (mixed (F := Ideal) w s n0 n1 n2 n3 n4 n5 n6 n7 vs) slices_S1024x128_o0_0_S128x128 (ix2 r l)
      = ∑ k, wt (fun k => head0 (F := Ideal) w s (ix2 r k)) n0 k * vs (ix2 k l) := by
  simp only [← packed_apply]
  pointwise [mixed, sums]

/-- The second head's weighted sums. -/
theorem mixed1_apply (l : Fin 128) :
    extractStridedSlice S128x128 ![128, 0] (mixed (F := Ideal) w s n0 n1 n2 n3 n4 n5 n6 n7 vs) slices_S1024x128_o128_0_S128x128 (ix2 r l)
      = ∑ k, wt (fun k => head1 (F := Ideal) w s (ix2 r k)) n1 k * vs (ix2 k l) := by
  simp only [← packed_apply]
  pointwise [mixed, sums]

/-- The third head's weighted sums. -/
theorem mixed2_apply (l : Fin 128) :
    extractStridedSlice S128x128 ![256, 0] (mixed (F := Ideal) w s n0 n1 n2 n3 n4 n5 n6 n7 vs) slices_S1024x128_o256_0_S128x128 (ix2 r l)
      = ∑ k, wt (fun k => head2 (F := Ideal) w s (ix2 r k)) n2 k * vs (ix2 k l) := by
  simp only [← packed_apply]
  pointwise [mixed, sums]
  refine Finset.sum_congr rfl fun x _ => congrArg (· * _) ?_
  simp (disch := omega) only [dif_pos, dif_neg]
  exact congrArg (fun i => packed (F := Ideal) (head2 w s) n2 (ix2 i x)) (Fin.ext (by dsimp only; omega))

/-- The fourth head's weighted sums. -/
theorem mixed3_apply (l : Fin 128) :
    extractStridedSlice S128x128 ![384, 0] (mixed (F := Ideal) w s n0 n1 n2 n3 n4 n5 n6 n7 vs) slices_S1024x128_o384_0_S128x128 (ix2 r l)
      = ∑ k, wt (fun k => head3 (F := Ideal) w s (ix2 r k)) n3 k * vs (ix2 k l) := by
  simp only [← packed_apply]
  pointwise [mixed, sums]
  refine Finset.sum_congr rfl fun x _ => congrArg (· * _) ?_
  simp (disch := omega) only [dif_pos, dif_neg]
  exact congrArg (fun i => packed (F := Ideal) (head3 w s) n3 (ix2 i x)) (Fin.ext (by dsimp only; omega))

/-- The fifth head's weighted sums. -/
theorem mixed4_apply (l : Fin 128) :
    extractStridedSlice S128x128 ![512, 0] (mixed (F := Ideal) w s n0 n1 n2 n3 n4 n5 n6 n7 vs) slices_S1024x128_o512_0_S128x128 (ix2 r l)
      = ∑ k, wt (fun k => head4 (F := Ideal) w s (ix2 r k)) n4 k * vs (ix2 k l) := by
  simp only [← packed_apply]
  pointwise [mixed, sums]
  refine Finset.sum_congr rfl fun x _ => congrArg (· * _) ?_
  simp (disch := omega) only [dif_pos, dif_neg]
  exact congrArg (fun i => packed (F := Ideal) (head4 w s) n4 (ix2 i x)) (Fin.ext (by dsimp only; omega))

/-- The sixth head's weighted sums. -/
theorem mixed5_apply (l : Fin 128) :
    extractStridedSlice S128x128 ![640, 0] (mixed (F := Ideal) w s n0 n1 n2 n3 n4 n5 n6 n7 vs) slices_S1024x128_o640_0_S128x128 (ix2 r l)
      = ∑ k, wt (fun k => head5 (F := Ideal) w s (ix2 r k)) n5 k * vs (ix2 k l) := by
  simp only [← packed_apply]
  pointwise [mixed, sums]
  refine Finset.sum_congr rfl fun x _ => congrArg (· * _) ?_
  simp (disch := omega) only [dif_pos, dif_neg]
  exact congrArg (fun i => packed (F := Ideal) (head5 w s) n5 (ix2 i x)) (Fin.ext (by dsimp only; omega))

/-- The seventh head's weighted sums. -/
theorem mixed6_apply (l : Fin 128) :
    extractStridedSlice S128x128 ![768, 0] (mixed (F := Ideal) w s n0 n1 n2 n3 n4 n5 n6 n7 vs) slices_S1024x128_o768_0_S128x128 (ix2 r l)
      = ∑ k, wt (fun k => head6 (F := Ideal) w s (ix2 r k)) n6 k * vs (ix2 k l) := by
  simp only [← packed_apply]
  pointwise [mixed, sums]
  refine Finset.sum_congr rfl fun x _ => congrArg (· * _) ?_
  simp (disch := omega) only [dif_pos, dif_neg]
  exact congrArg (fun i => packed (F := Ideal) (head6 w s) n6 (ix2 i x)) (Fin.ext (by dsimp only; omega))

/-- The eighth head's weighted sums. -/
theorem mixed7_apply (l : Fin 128) :
    extractStridedSlice S128x128 ![896, 0] (mixed (F := Ideal) w s n0 n1 n2 n3 n4 n5 n6 n7 vs) slices_S1024x128_o896_0_S128x128 (ix2 r l)
      = ∑ k, wt (fun k => head7 (F := Ideal) w s (ix2 r k)) n7 k * vs (ix2 k l) := by
  simp only [← packed_apply]
  pointwise [mixed, sums]
  refine Finset.sum_congr rfl fun x _ => congrArg (· * _) ?_
  simp (disch := omega) only [dif_pos, dif_neg]
  exact congrArg (fun i => packed (F := Ideal) (head7 w s) n7 (ix2 i x)) (Fin.ext (by dsimp only; omega))

/-- The first pair's rows, in its first head's lanes. -/
theorem pair0_lo (d : Fin 64) : pair0 (F := Ideal) w s n0 n1 n2 n3 n4 n5 n6 n7 vs (ix2 r (kcol 0 d))
    = outLate (fun k => head0 (F := Ideal) w s (ix2 r k)) n0 (fun k e => vs (ix2 k (kcol 0 e))) d := by
  unfold outLate
  rw [← inverse_apply, ← mixed0_apply w s n0 n1 n2 n3 n4 n5 n6 n7 vs r (kcol 0 d)]
  have h := lower_lo r d
  unfold pair0
  generalize mixed (F := Ideal) w s n0 n1 n2 n3 n4 n5 n6 n7 vs = y
  pointwise [both]
  rw [h, ValueIdx.select_one]

/-- The same in its second head's lanes. -/
theorem pair0_hi (d : Fin 64) : pair0 (F := Ideal) w s n0 n1 n2 n3 n4 n5 n6 n7 vs (ix2 r (kcol 1 d))
    = outLate (fun k => head4 (F := Ideal) w s (ix2 r k)) n4 (fun k e => vs (ix2 k (kcol 1 e))) d := by
  unfold outLate
  rw [← inverse_apply, ← mixed4_apply w s n0 n1 n2 n3 n4 n5 n6 n7 vs r (kcol 1 d)]
  have h := lower_hi r d
  unfold pair0
  generalize mixed (F := Ideal) w s n0 n1 n2 n3 n4 n5 n6 n7 vs = y
  pointwise [both]
  rw [h, ValueIdx.select_zero]

/-- The second pair's rows, in its first head's lanes. -/
theorem pair1_lo (d : Fin 64) : pair1 (F := Ideal) w s n0 n1 n2 n3 n4 n5 n6 n7 vs (ix2 r (kcol 0 d))
    = outLate (fun k => head1 (F := Ideal) w s (ix2 r k)) n1 (fun k e => vs (ix2 k (kcol 0 e))) d := by
  unfold outLate
  rw [← inverse_apply, ← mixed1_apply w s n0 n1 n2 n3 n4 n5 n6 n7 vs r (kcol 0 d)]
  have h := lower_lo r d
  unfold pair1
  generalize mixed (F := Ideal) w s n0 n1 n2 n3 n4 n5 n6 n7 vs = y
  pointwise [both]
  rw [h, ValueIdx.select_one]

/-- The same in its second head's lanes. -/
theorem pair1_hi (d : Fin 64) : pair1 (F := Ideal) w s n0 n1 n2 n3 n4 n5 n6 n7 vs (ix2 r (kcol 1 d))
    = outLate (fun k => head5 (F := Ideal) w s (ix2 r k)) n5 (fun k e => vs (ix2 k (kcol 1 e))) d := by
  unfold outLate
  rw [← inverse_apply, ← mixed5_apply w s n0 n1 n2 n3 n4 n5 n6 n7 vs r (kcol 1 d)]
  have h := lower_hi r d
  unfold pair1
  generalize mixed (F := Ideal) w s n0 n1 n2 n3 n4 n5 n6 n7 vs = y
  pointwise [both]
  rw [h, ValueIdx.select_zero]

/-- The third pair's rows, in its first head's lanes. -/
theorem pair2_lo (d : Fin 64) : pair2 (F := Ideal) w s n0 n1 n2 n3 n4 n5 n6 n7 vs (ix2 r (kcol 0 d))
    = outLate (fun k => head2 (F := Ideal) w s (ix2 r k)) n2 (fun k e => vs (ix2 k (kcol 0 e))) d := by
  unfold outLate
  rw [← inverse_apply, ← mixed2_apply w s n0 n1 n2 n3 n4 n5 n6 n7 vs r (kcol 0 d)]
  have h := lower_lo r d
  unfold pair2
  generalize mixed (F := Ideal) w s n0 n1 n2 n3 n4 n5 n6 n7 vs = y
  pointwise [both]
  rw [h, ValueIdx.select_one]

/-- The same in its second head's lanes. -/
theorem pair2_hi (d : Fin 64) : pair2 (F := Ideal) w s n0 n1 n2 n3 n4 n5 n6 n7 vs (ix2 r (kcol 1 d))
    = outLate (fun k => head6 (F := Ideal) w s (ix2 r k)) n6 (fun k e => vs (ix2 k (kcol 1 e))) d := by
  unfold outLate
  rw [← inverse_apply, ← mixed6_apply w s n0 n1 n2 n3 n4 n5 n6 n7 vs r (kcol 1 d)]
  have h := lower_hi r d
  unfold pair2
  generalize mixed (F := Ideal) w s n0 n1 n2 n3 n4 n5 n6 n7 vs = y
  pointwise [both]
  rw [h, ValueIdx.select_zero]

/-- The fourth pair's rows, in its first head's lanes. -/
theorem pair3_lo (d : Fin 64) : pair3 (F := Ideal) w s n0 n1 n2 n3 n4 n5 n6 n7 vs (ix2 r (kcol 0 d))
    = outLate (fun k => head3 (F := Ideal) w s (ix2 r k)) n3 (fun k e => vs (ix2 k (kcol 0 e))) d := by
  unfold outLate
  rw [← inverse_apply, ← mixed3_apply w s n0 n1 n2 n3 n4 n5 n6 n7 vs r (kcol 0 d)]
  have h := lower_lo r d
  unfold pair3
  generalize mixed (F := Ideal) w s n0 n1 n2 n3 n4 n5 n6 n7 vs = y
  pointwise [both]
  rw [h, ValueIdx.select_one]

/-- The same in its second head's lanes. -/
theorem pair3_hi (d : Fin 64) : pair3 (F := Ideal) w s n0 n1 n2 n3 n4 n5 n6 n7 vs (ix2 r (kcol 1 d))
    = outLate (fun k => head7 (F := Ideal) w s (ix2 r k)) n7 (fun k e => vs (ix2 k (kcol 1 e))) d := by
  unfold outLate
  rw [← inverse_apply, ← mixed7_apply w s n0 n1 n2 n3 n4 n5 n6 n7 vs r (kcol 1 d)]
  have h := lower_hi r d
  unfold pair3
  generalize mixed (F := Ideal) w s n0 n1 n2 n3 n4 n5 n6 n7 vs = y
  pointwise [both]
  rw [h, ValueIdx.select_zero]

end pairs

/-! ## The stored rows -/

section stored
variable (w : BitVec 32) (q0 q1 q2 q3 : FVec Ideal S128x128 .bf16) (ks vs : FVec Ideal S384x128 .bf16) (n : Fin 8 → EReal) (g : FVec Ideal S1x128 .f32)
  (r : Fin 128) (kv : Fin 2) (d : Fin 64)

/-- A row of one head as stored, from its pair's query rows. -/
def stored (i : Fin 4) (q : FVec Ideal S128x128 .bf16) : EReal :=
  normed (outLate (fun k => Win.masked w (Win.head i kv) r k (∑ d : Fin 64, q (ix2 r (kcol kv d)) * ks (ix2 k (kcol kv d))))
    (n (Win.head i kv)) (fun k e => vs (ix2 k (kcol kv e)))) d * g (ix2 0 (kcol kv d))

/-- The first pair's rows as stored. -/
theorem stored0 : scale (F := Ideal) (pair0 w (scores q0 q1 q2 q3 ks) (n 0) (n 1) (n 2) (n 3) (n 4) (n 5) (n 6) (n 7) vs) g (ix2 r (kcol kv d))
    = stored w ks vs n g r kv d 0 q0 := by
  rw [scale_apply]
  unfold stored
  rcases (by omega : kv = 0 ∨ kv = 1) with rfl | rfl
  · simp only [pair0_lo, head0_apply]
    rfl
  · simp only [pair0_hi, head4_apply]
    rfl

/-- The second pair's rows as stored. -/
theorem stored1 : scale (F := Ideal) (pair1 w (scores q0 q1 q2 q3 ks) (n 0) (n 1) (n 2) (n 3) (n 4) (n 5) (n 6) (n 7) vs) g (ix2 r (kcol kv d))
    = stored w ks vs n g r kv d 1 q1 := by
  rw [scale_apply]
  unfold stored
  rcases (by omega : kv = 0 ∨ kv = 1) with rfl | rfl
  · simp only [pair1_lo, head1_apply]
    rfl
  · simp only [pair1_hi, head5_apply]
    rfl

/-- The third pair's rows as stored. -/
theorem stored2 : scale (F := Ideal) (pair2 w (scores q0 q1 q2 q3 ks) (n 0) (n 1) (n 2) (n 3) (n 4) (n 5) (n 6) (n 7) vs) g (ix2 r (kcol kv d))
    = stored w ks vs n g r kv d 2 q2 := by
  rw [scale_apply]
  unfold stored
  rcases (by omega : kv = 0 ∨ kv = 1) with rfl | rfl
  · simp only [pair2_lo, head2_apply]
    rfl
  · simp only [pair2_hi, head6_apply]
    rfl

/-- The fourth pair's rows as stored. -/
theorem stored3 : scale (F := Ideal) (pair3 w (scores q0 q1 q2 q3 ks) (n 0) (n 1) (n 2) (n 3) (n 4) (n 5) (n 6) (n 7) vs) g (ix2 r (kcol kv d))
    = stored w ks vs n g r kv d 3 q3 := by
  rw [scale_apply]
  unfold stored
  rcases (by omega : kv = 0 ∨ kv = 1) with rfl | rfl
  · simp only [pair3_lo, head3_apply]
    rfl
  · simp only [pair3_hi, head7_apply]
    rfl

end stored

end Cert.Win.Rows

end
-- ==== Proof.Win.Block.lean ====
/- What the windowed attention kernel's body leaves in a block, row by row and head by head. -/
module

public import proofs.«01_k».proof.Proof.Win.Rows
public import Idealize.ShloMosaic.Lib.Pipeline.ValueKit

@[expose] public section

set_option maxRecDepth 16384

noncomputable section

namespace Cert.Win.Block

open Idealize.ShloMosaic Idealize.ShloMosaic.TcCoe Idealize.SL.Sem
open Cert.Kernel4Ideal Cert.Kernel4Ideal.Gen Cert.Win.Tile Cert.Win.Rows
open Cert.Attn (normed kcol qcol)

/-- The number of a grid step's block of rows in its sequence. -/
theorem number : ∀ (t : Fin grid0.N) (u : Fin 4),
    Scalar.addi (Scalar.muli (BitVec.ofNat 32 (grid0.coords t 1).val) 4#32) (BitVec.ofNat 32 u.val) = BitVec.ofNat 32 (t.val % 4 * 4 + u.val) := by
  decide +kernel

/-- Where the block of keys before a block of rows lies. -/
theorem before : ∀ (t : Fin grid0.N) (u : Fin 4),
    k0_off1 (grid0.coords t) (BitVec.ofNat 32 u.val) 4294967295#32 = ![(max 1 (min 16 (t.val % 4 * 4 + u.val)) - 1) * 128, 0] := by
  decide +kernel

/-- Where the block of keys beside it lies. -/
theorem beside : ∀ (t : Fin grid0.N) (u : Fin 4),
    k0_off1 (grid0.coords t) (BitVec.ofNat 32 u.val) 0#32 = ![(max 1 (min 16 (t.val % 4 * 4 + u.val + 1)) - 1) * 128, 0] := by
  decide +kernel

/-- Where the block of keys after it lies. -/
theorem after : ∀ (t : Fin grid0.N) (u : Fin 4),
    k0_off1 (grid0.coords t) (BitVec.ofNat 32 u.val) 1#32 = ![(max 1 (min 16 (t.val % 4 * 4 + u.val + 2)) - 1) * 128, 0] := by
  decide +kernel

/-- Three blocks one under the other, read by block and row. -/
theorem slab_apply (a b c : FVec Ideal S128x128 .bf16) (s : Fin 384) (l : Fin 128) (y : Ideal .bf16)
    (ha : s.val / 128 = 0 → a (ix2 ⟨s.val % 128, by omega⟩ l) = y) (hb : s.val / 128 = 1 → b (ix2 ⟨s.val % 128, by omega⟩ l) = y)
    (hc : s.val / 128 = 2 → c (ix2 ⟨s.val % 128, by omega⟩ l) = y) : slab (F := Ideal) a b c (ix2 s l) = y := by
  pointwise [slab]
  have hs := s.isLt
  rcases (by omega : s.val / 128 = 0 ∨ s.val / 128 = 1 ∨ s.val / 128 = 2) with e | e | e
  · rw [dif_pos (by omega)]
    exact (congrArg (fun i => a (ix2 i l)) (Fin.ext (by dsimp only; omega))).trans (ha e)
  · rw [dif_neg (by omega), dif_pos (by omega)]
    exact (congrArg (fun i => b (ix2 i l)) (Fin.ext (by dsimp only; omega))).trans (hb e)
  · rw [dif_neg (by omega), dif_neg (by omega)]
    exact (congrArg (fun i => c (ix2 i l)) (Fin.ext (by dsimp only; omega))).trans (hc e)

variable (m : (ℓ : Loc nD τ sig) → Buf (Elt Ideal) ℓ)

/-- The block number of a step's rows. -/
abbrev blockOf (t : Fin cfg0.N) (u : Fin 4) : Fin 16 := ⟨t.val % 4 * 4 + u.val, by omega⟩

/-- A block of keys or values as the three loads bring it, at a key and a lane. -/
theorem loaded (t : Fin cfg0.N) (u : Fin 4) (k : Vec Ideal S2048x128 .bf16) (w : BitVec 32) (hw : w = BitVec.ofNat 32 u.val) (h0 h1 h2) (s : Fin 384) (l : Fin 128) :
    slab (F := Ideal) (View.ld k (Rect.unit (k0_off1 (grid0.coords t) w 4294967295#32) ![128, 128] h0))
      (View.ld k (Rect.unit (k0_off1 (grid0.coords t) w 0#32) ![128, 128] h1))
      (View.ld k (Rect.unit (k0_off1 (grid0.coords t) w 1#32) ![128, 128] h2)) (ix2 s l)
      = k (ix2 (near (blockOf t u) s) l) := by
  subst hw
  refine slab_apply _ _ _ s l _ (fun e => ?_) (fun e => ?_) (fun e => ?_)
  · refine View.ld_unit_apply_of _ _ _ _ _ _ (fun a => ?_)
    refine Eq.trans ?_ (congrArg (· + _) (congrFun (before t u) a).symm)
    match a with
    | ⟨0, _⟩ => show (max 1 (min 16 (t.val % 4 * 4 + u.val + s.val / 128)) - 1) * 128 + s.val % 128 = (max 1 (min 16 (t.val % 4 * 4 + u.val)) - 1) * 128 + s.val % 128; rw [e, Nat.add_zero]
    | ⟨1, _⟩ => exact (Nat.zero_add _).symm
  · refine View.ld_unit_apply_of _ _ _ _ _ _ (fun a => ?_)
    refine Eq.trans ?_ (congrArg (· + _) (congrFun (beside t u) a).symm)
    match a with
    | ⟨0, _⟩ => show (max 1 (min 16 (t.val % 4 * 4 + u.val + s.val / 128)) - 1) * 128 + s.val % 128 = (max 1 (min 16 (t.val % 4 * 4 + u.val + 1)) - 1) * 128 + s.val % 128; rw [e]
    | ⟨1, _⟩ => exact (Nat.zero_add _).symm
  · refine View.ld_unit_apply_of _ _ _ _ _ _ (fun a => ?_)
    refine Eq.trans ?_ (congrArg (· + _) (congrFun (after t u) a).symm)
    match a with
    | ⟨0, _⟩ => show (max 1 (min 16 (t.val % 4 * 4 + u.val + s.val / 128)) - 1) * 128 + s.val % 128 = (max 1 (min 16 (t.val % 4 * 4 + u.val + 2)) - 1) * 128 + s.val % 128; rw [e]
    | ⟨1, _⟩ => exact (Nat.zero_add _).symm

/-- A row of a block: of the four blocks of 128 it holds, the row's. -/
abbrev sub (u : Fin 4) (q : Fin 128) : Fin 512 := ⟨u.val * 128 + q.val, by omega⟩

/-- A row of one head of the output block, from the operands' blocks. -/
def rowOut (x0 : FVec Ideal S8 .f32) (x1 : FVec Ideal S512x512 .bf16) (x2 x3 : FVec Ideal S2048x128 .bf16) (x4 : FVec Ideal S1x512 .f32)
    (j : Fin 16) (u : Fin 4) (q : Fin 128) (g : Fin 4) (kv : Fin 2) (d : Fin 64) : EReal :=
  normed (outLate
      (fun s => Win.masked (BitVec.ofNat 32 j.val) (head g kv) q s
        (∑ d : Fin 64, x1 (ix2 (sub u q) (qcol g kv d)) * x2 (ix2 (near j s) (kcol kv d))))
      (x0 (ix1 (head g kv))) (fun s e => x3 (ix2 (near j s) (kcol kv e)))) d
    * x4 (ix2 0 (qcol g kv d))

/-- The stored form of a pair's rows is that row. -/
theorem stored_eq (x0 : FVec Ideal S8 .f32) (x1 : FVec Ideal S512x512 .bf16) (x2 x3 : FVec Ideal S2048x128 .bf16) (x4 : FVec Ideal S1x512 .f32)
    (j : Fin 16) (u : Fin 4) (q : Fin 128) (g : Fin 4) (kv : Fin 2) (d : Fin 64)
    (w : BitVec 32) (ks vs : FVec Ideal S384x128 .bf16) (n : Fin 8 → EReal) (gt : FVec Ideal S1x128 .f32) (qt : FVec Ideal S128x128 .bf16)
    (hw : w = BitVec.ofNat 32 j.val) (hk : ∀ s l, ks (ix2 s l) = x2 (ix2 (near j s) l)) (hv : ∀ s l, vs (ix2 s l) = x3 (ix2 (near j s) l))
    (hn : ∀ h, n h = x0 (ix1 h))
    (hg : ∀ l : Fin 128, gt (ix2 0 l) = x4 (ix2 0 ⟨g.val * 128 + l.val, by omega⟩))
    (hq : ∀ l : Fin 128, qt (ix2 q l) = x1 (ix2 (sub u q) ⟨g.val * 128 + l.val, by omega⟩)) :
    stored w ks vs n gt q kv d g qt = rowOut x0 x1 x2 x3 x4 j u q g kv d := by
  have e : ∀ d : Fin 64, (⟨g.val * 128 + (kcol kv d).val, by have := (kcol kv d).isLt; omega⟩ : Fin 512) = qcol g kv d := fun d =>
    Fin.ext (by show g.val * 128 + (kv.val * 64 + d.val) = g.val * 128 + kv.val * 64 + d.val; omega)
  unfold stored rowOut
  simp only [hk, hv, hn, hg, hq, hw, e]

/-- An index of a stored piece from its coordinates. -/
theorem at_lane {r l : Fin 128} (x : S128x128.Idx) (h0 : (x 0).val = r.val) (h1 : (x 1).val = l.val) : x = ix2 r l :=
  funext fun a => Fin.ext (match a with | ⟨0, _⟩ => h0 | ⟨1, _⟩ => h1)

/-- The sinks, as the eight loads read them. -/
def sinks (y : Vec Ideal S8 .f32) : Fin 8 → EReal := ![View.ld y (Rect.unit ![0] ![1] inb_S8_S1_0) (Shape.Idx.first (by decide)), View.ld y (Rect.unit ![1] ![1] inb_S8_S1_1) (Shape.Idx.first (by decide)), View.ld y (Rect.unit ![2] ![1] inb_S8_S1_2) (Shape.Idx.first (by decide)), View.ld y (Rect.unit ![3] ![1] inb_S8_S1_3) (Shape.Idx.first (by decide)), View.ld y (Rect.unit ![4] ![1] inb_S8_S1_4) (Shape.Idx.first (by decide)), View.ld y (Rect.unit ![5] ![1] inb_S8_S1_5) (Shape.Idx.first (by decide)), View.ld y (Rect.unit ![6] ![1] inb_S8_S1_6) (Shape.Idx.first (by decide)), View.ld y (Rect.unit ![7] ![1] inb_S8_S1_7) (Shape.Idx.first (by decide))]

/-- Each is its element of the block. -/
theorem sinks_apply (y : Vec Ideal S8 .f32) (h : Fin 8) : sinks y h = y (ix1 h) := by
  unfold sinks
  fin_cases h <;> exact View.ld_unit_apply_of _ _ _ _ _ _ (fun a => match a with | ⟨0, _⟩ => rfl)

set_option maxHeartbeats 8000000 in
/-- What the body leaves in the output block. -/
theorem out_apply (c : Dev nD) (t : Fin cfg0.N) (u : Fin 4) (q : Fin 128) (g : Fin 4) (kv : Fin 2) (d : Fin 64) :
    outsAt0 (F := Ideal) m c t (ix2 (sub u q) (qcol g kv d)) = rowOut (iblk m c 0 t) (iblk m c 1 t) (iblk m c 2 t) (iblk m c 3 t) (iblk m c 4 t) (blockOf t u) u q g kv d := by
  have hu := u.isLt; have hq := q.isLt; have hg := g.isLt; have hk := kv.isLt; have hd := d.isLt
  unfold outsAt0
  frame_out
  canon_tiles x h
  case piece0 =>
    replace h0 : u.val * 128 + q.val = 384 + (x 0).val := h0
    replace h1 : g.val * 128 + kv.val * 64 + d.val = 384 + (x 1).val := h1
    replace x0_lt : (x 0).val < 128 := x0_lt
    replace x1_lt : (x 1).val < 128 := x1_lt
    obtain rfl : u = 3 := Fin.ext (show u.val = 3 by omega)
    obtain rfl : g = 3 := Fin.ext (show g.val = 3 by omega)
    obtain rfl : x = ix2 q (kcol kv d) := at_lane x (by have : (((3 : Fin 4) : Nat)) = 3 := rfl; omega)
      (by show (x 1).val = kv.val * 64 + d.val; have : (((3 : Fin 4) : Nat)) = 3 := rfl; omega)
    show scale (pair3 (Scalar.addi (Scalar.muli (BitVec.ofNat 32 (grid0.coords t 1).val) 4#32) 3#32)
      (scores (View.ld (iblk m c 1 t) (Rect.unit ![384, 0] ![128, 128] inb_S512x512_S128x128_384_0))
        (View.ld (iblk m c 1 t) (Rect.unit ![384, 128] ![128, 128] inb_S512x512_S128x128_384_128))
        (View.ld (iblk m c 1 t) (Rect.unit ![384, 256] ![128, 128] inb_S512x512_S128x128_384_256))
        (View.ld (iblk m c 1 t) (Rect.unit ![384, 384] ![128, 128] inb_S512x512_S128x128_384_384))
        (slab (View.ld (iblk m c 2 t) (Rect.unit (k0_off1 (grid0.coords t) 3#32 4294967295#32) ![128, 128] _)) (View.ld (iblk m c 2 t) (Rect.unit (k0_off1 (grid0.coords t) 3#32 0#32) ![128, 128] _)) (View.ld (iblk m c 2 t) (Rect.unit (k0_off1 (grid0.coords t) 3#32 1#32) ![128, 128] _))))
      (sinks (iblk m c 0 t) 0) (sinks (iblk m c 0 t) 1) (sinks (iblk m c 0 t) 2) (sinks (iblk m c 0 t) 3) (sinks (iblk m c 0 t) 4) (sinks (iblk m c 0 t) 5) (sinks (iblk m c 0 t) 6) (sinks (iblk m c 0 t) 7)
      (slab (View.ld (iblk m c 3 t) (Rect.unit (k0_off1 (grid0.coords t) 3#32 4294967295#32) ![128, 128] _)) (View.ld (iblk m c 3 t) (Rect.unit (k0_off1 (grid0.coords t) 3#32 0#32) ![128, 128] _)) (View.ld (iblk m c 3 t) (Rect.unit (k0_off1 (grid0.coords t) 3#32 1#32) ![128, 128] _))))
      (View.ld (iblk m c 4 t) (Rect.unit ![0, 384] ![1, 128] inb_S1x512_S1x128_0_384)) (ix2 q (kcol kv d)) = _
    refine (stored3 _ _ _ _ _ _ _ (sinks (iblk m c 0 t)) _ q kv d).trans (stored_eq _ _ _ _ _ (blockOf t 3) 3 q 3 kv d _ _ _ _ _ _ (number t 3) (loaded t 3 _ _ rfl _ _ _) (loaded t 3 _ _ rfl _ _ _)
      (sinks_apply _) (fun l => View.ld_unit_apply_of _ _ _ _ _ _ (fun a => match a with
        | ⟨0, _⟩ => rfl
        | ⟨1, _⟩ => rfl)) (fun l => View.ld_unit_apply_of _ _ _ _ _ _ (fun a => match a with
        | ⟨0, _⟩ => rfl
        | ⟨1, _⟩ => rfl)))
  case piece1 =>
    replace h0 : u.val * 128 + q.val = 384 + (x 0).val := h0
    replace h1 : g.val * 128 + kv.val * 64 + d.val = 256 + (x 1).val := h1
    replace x0_lt : (x 0).val < 128 := x0_lt
    replace x1_lt : (x 1).val < 128 := x1_lt
    obtain rfl : u = 3 := Fin.ext (show u.val = 3 by omega)
    obtain rfl : g = 2 := Fin.ext (show g.val = 2 by omega)
    obtain rfl : x = ix2 q (kcol kv d) := at_lane x (by have : (((3 : Fin 4) : Nat)) = 3 := rfl; omega)
      (by show (x 1).val = kv.val * 64 + d.val; have : (((2 : Fin 4) : Nat)) = 2 := rfl; omega)
    show scale (pair2 (Scalar.addi (Scalar.muli (BitVec.ofNat 32 (grid0.coords t 1).val) 4#32) 3#32)
      (scores (View.ld (iblk m c 1 t) (Rect.unit ![384, 0] ![128, 128] inb_S512x512_S128x128_384_0))
        (View.ld (iblk m c 1 t) (Rect.unit ![384, 128] ![128, 128] inb_S512x512_S128x128_384_128))
        (View.ld (iblk m c 1 t) (Rect.unit ![384, 256] ![128, 128] inb_S512x512_S128x128_384_256))
        (View.ld (iblk m c 1 t) (Rect.unit ![384, 384] ![128, 128] inb_S512x512_S128x128_384_384))
        (slab (View.ld (iblk m c 2 t) (Rect.unit (k0_off1 (grid0.coords t) 3#32 4294967295#32) ![128, 128] _)) (View.ld (iblk m c 2 t) (Rect.unit (k0_off1 (grid0.coords t) 3#32 0#32) ![128, 128] _)) (View.ld (iblk m c 2 t) (Rect.unit (k0_off1 (grid0.coords t) 3#32 1#32) ![128, 128] _))))
      (sinks (iblk m c 0 t) 0) (sinks (iblk m c 0 t) 1) (sinks (iblk m c 0 t) 2) (sinks (iblk m c 0 t) 3) (sinks (iblk m c 0 t) 4) (sinks (iblk m c 0 t) 5) (sinks (iblk m c 0 t) 6) (sinks (iblk m c 0 t) 7)
      (slab (View.ld (iblk m c 3 t) (Rect.unit (k0_off1 (grid0.coords t) 3#32 4294967295#32) ![128, 128] _)) (View.ld (iblk m c 3 t) (Rect.unit (k0_off1 (grid0.coords t) 3#32 0#32) ![128, 128] _)) (View.ld (iblk m c 3 t) (Rect.unit (k0_off1 (grid0.coords t) 3#32 1#32) ![128, 128] _))))
      (View.ld (iblk m c 4 t) (Rect.unit ![0, 256] ![1, 128] inb_S1x512_S1x128_0_256)) (ix2 q (kcol kv d)) = _
    refine (stored2 _ _ _ _ _ _ _ (sinks (iblk m c 0 t)) _ q kv d).trans (stored_eq _ _ _ _ _ (blockOf t 3) 3 q 2 kv d _ _ _ _ _ _ (number t 3) (loaded t 3 _ _ rfl _ _ _) (loaded t 3 _ _ rfl _ _ _)
      (sinks_apply _) (fun l => View.ld_unit_apply_of _ _ _ _ _ _ (fun a => match a with
        | ⟨0, _⟩ => rfl
        | ⟨1, _⟩ => rfl)) (fun l => View.ld_unit_apply_of _ _ _ _ _ _ (fun a => match a with
        | ⟨0, _⟩ => rfl
        | ⟨1, _⟩ => rfl)))
  case piece2 =>
    replace h0 : u.val * 128 + q.val = 384 + (x 0).val := h0
    replace h1 : g.val * 128 + kv.val * 64 + d.val = 128 + (x 1).val := h1
    replace x0_lt : (x 0).val < 128 := x0_lt
    replace x1_lt : (x 1).val < 128 := x1_lt
    obtain rfl : u = 3 := Fin.ext (show u.val = 3 by omega)
    obtain rfl : g = 1 := Fin.ext (show g.val = 1 by omega)
    obtain rfl : x = ix2 q (kcol kv d) := at_lane x (by have : (((3 : Fin 4) : Nat)) = 3 := rfl; omega)
      (by show (x 1).val = kv.val * 64 + d.val; have : (((1 : Fin 4) : Nat)) = 1 := rfl; omega)
    show scale (pair1 (Scalar.addi (Scalar.muli (BitVec.ofNat 32 (grid0.coords t 1).val) 4#32) 3#32)
      (scores (View.ld (iblk m c 1 t) (Rect.unit ![384, 0] ![128, 128] inb_S512x512_S128x128_384_0))
        (View.ld (iblk m c 1 t) (Rect.unit ![384, 128] ![128, 128] inb_S512x512_S128x128_384_128))
        (View.ld (iblk m c 1 t) (Rect.unit ![384, 256] ![128, 128] inb_S512x512_S128x128_384_256))
        (View.ld (iblk m c 1 t) (Rect.unit ![384, 384] ![128, 128] inb_S512x512_S128x128_384_384))
        (slab (View.ld (iblk m c 2 t) (Rect.unit (k0_off1 (grid0.coords t) 3#32 4294967295#32) ![128, 128] _)) (View.ld (iblk m c 2 t) (Rect.unit (k0_off1 (grid0.coords t) 3#32 0#32) ![128, 128] _)) (View.ld (iblk m c 2 t) (Rect.unit (k0_off1 (grid0.coords t) 3#32 1#32) ![128, 128] _))))
      (sinks (iblk m c 0 t) 0) (sinks (iblk m c 0 t) 1) (sinks (iblk m c 0 t) 2) (sinks (iblk m c 0 t) 3) (sinks (iblk m c 0 t) 4) (sinks (iblk m c 0 t) 5) (sinks (iblk m c 0 t) 6) (sinks (iblk m c 0 t) 7)
      (slab (View.ld (iblk m c 3 t) (Rect.unit (k0_off1 (grid0.coords t) 3#32 4294967295#32) ![128, 128] _)) (View.ld (iblk m c 3 t) (Rect.unit (k0_off1 (grid0.coords t) 3#32 0#32) ![128, 128] _)) (View.ld (iblk m c 3 t) (Rect.unit (k0_off1 (grid0.coords t) 3#32 1#32) ![128, 128] _))))
      (View.ld (iblk m c 4 t) (Rect.unit ![0, 128] ![1, 128] inb_S1x512_S1x128_0_128)) (ix2 q (kcol kv d)) = _
    refine (stored1 _ _ _ _ _ _ _ (sinks (iblk m c 0 t)) _ q kv d).trans (stored_eq _ _ _ _ _ (blockOf t 3) 3 q 1 kv d _ _ _ _ _ _ (number t 3) (loaded t 3 _ _ rfl _ _ _) (loaded t 3 _ _ rfl _ _ _)
      (sinks_apply _) (fun l => View.ld_unit_apply_of _ _ _ _ _ _ (fun a => match a with
        | ⟨0, _⟩ => rfl
        | ⟨1, _⟩ => rfl)) (fun l => View.ld_unit_apply_of _ _ _ _ _ _ (fun a => match a with
        | ⟨0, _⟩ => rfl
        | ⟨1, _⟩ => rfl)))
  case piece3 =>
    replace h0 : u.val * 128 + q.val = 384 + (x 0).val := h0
    replace h1 : g.val * 128 + kv.val * 64 + d.val = 0 + (x 1).val := h1.trans (Nat.zero_add _).symm
    replace x0_lt : (x 0).val < 128 := x0_lt
    replace x1_lt : (x 1).val < 128 := x1_lt
    obtain rfl : u = 3 := Fin.ext (show u.val = 3 by omega)
    obtain rfl : g = 0 := Fin.ext (show g.val = 0 by omega)
    obtain rfl : x = ix2 q (kcol kv d) := at_lane x (by have : (((3 : Fin 4) : Nat)) = 3 := rfl; omega)
      (by show (x 1).val = kv.val * 64 + d.val; have : (((0 : Fin 4) : Nat)) = 0 := rfl; omega)
    show scale (pair0 (Scalar.addi (Scalar.muli (BitVec.ofNat 32 (grid0.coords t 1).val) 4#32) 3#32)
      (scores (View.ld (iblk m c 1 t) (Rect.unit ![384, 0] ![128, 128] inb_S512x512_S128x128_384_0))
        (View.ld (iblk m c 1 t) (Rect.unit ![384, 128] ![128, 128] inb_S512x512_S128x128_384_128))
        (View.ld (iblk m c 1 t) (Rect.unit ![384, 256] ![128, 128] inb_S512x512_S128x128_384_256))
        (View.ld (iblk m c 1 t) (Rect.unit ![384, 384] ![128, 128] inb_S512x512_S128x128_384_384))
        (slab (View.ld (iblk m c 2 t) (Rect.unit (k0_off1 (grid0.coords t) 3#32 4294967295#32) ![128, 128] _)) (View.ld (iblk m c 2 t) (Rect.unit (k0_off1 (grid0.coords t) 3#32 0#32) ![128, 128] _)) (View.ld (iblk m c 2 t) (Rect.unit (k0_off1 (grid0.coords t) 3#32 1#32) ![128, 128] _))))
      (sinks (iblk m c 0 t) 0) (sinks (iblk m c 0 t) 1) (sinks (iblk m c 0 t) 2) (sinks (iblk m c 0 t) 3) (sinks (iblk m c 0 t) 4) (sinks (iblk m c 0 t) 5) (sinks (iblk m c 0 t) 6) (sinks (iblk m c 0 t) 7)
      (slab (View.ld (iblk m c 3 t) (Rect.unit (k0_off1 (grid0.coords t) 3#32 4294967295#32) ![128, 128] _)) (View.ld (iblk m c 3 t) (Rect.unit (k0_off1 (grid0.coords t) 3#32 0#32) ![128, 128] _)) (View.ld (iblk m c 3 t) (Rect.unit (k0_off1 (grid0.coords t) 3#32 1#32) ![128, 128] _))))
      (View.ld (iblk m c 4 t) (Rect.unit ![0, 0] ![1, 128] inb_S1x512_S1x128_0_0)) (ix2 q (kcol kv d)) = _
    refine (stored0 _ _ _ _ _ _ _ (sinks (iblk m c 0 t)) _ q kv d).trans (stored_eq _ _ _ _ _ (blockOf t 3) 3 q 0 kv d _ _ _ _ _ _ (number t 3) (loaded t 3 _ _ rfl _ _ _) (loaded t 3 _ _ rfl _ _ _)
      (sinks_apply _) (fun l => View.ld_unit_apply_of _ _ _ _ _ _ (fun a => match a with
        | ⟨0, _⟩ => rfl
        | ⟨1, _⟩ => rfl)) (fun l => View.ld_unit_apply_of _ _ _ _ _ _ (fun a => match a with
        | ⟨0, _⟩ => rfl
        | ⟨1, _⟩ => rfl)))
  case piece4 =>
    replace h0 : u.val * 128 + q.val = 256 + (x 0).val := h0
    replace h1 : g.val * 128 + kv.val * 64 + d.val = 384 + (x 1).val := h1
    replace x0_lt : (x 0).val < 128 := x0_lt
    replace x1_lt : (x 1).val < 128 := x1_lt
    obtain rfl : u = 2 := Fin.ext (show u.val = 2 by omega)
    obtain rfl : g = 3 := Fin.ext (show g.val = 3 by omega)
    obtain rfl : x = ix2 q (kcol kv d) := at_lane x (by have : (((2 : Fin 4) : Nat)) = 2 := rfl; omega)
      (by show (x 1).val = kv.val * 64 + d.val; have : (((3 : Fin 4) : Nat)) = 3 := rfl; omega)
    show scale (pair3 (Scalar.addi (Scalar.muli (BitVec.ofNat 32 (grid0.coords t 1).val) 4#32) 2#32)
      (scores (View.ld (iblk m c 1 t) (Rect.unit ![256, 0] ![128, 128] inb_S512x512_S128x128_256_0))
        (View.ld (iblk m c 1 t) (Rect.unit ![256, 128] ![128, 128] inb_S512x512_S128x128_256_128))
        (View.ld (iblk m c 1 t) (Rect.unit ![256, 256] ![128, 128] inb_S512x512_S128x128_256_256))
        (View.ld (iblk m c 1 t) (Rect.unit ![256, 384] ![128, 128] inb_S512x512_S128x128_256_384))
        (slab (View.ld (iblk m c 2 t) (Rect.unit (k0_off1 (grid0.coords t) 2#32 4294967295#32) ![128, 128] _)) (View.ld (iblk m c 2 t) (Rect.unit (k0_off1 (grid0.coords t) 2#32 0#32) ![128, 128] _)) (View.ld (iblk m c 2 t) (Rect.unit (k0_off1 (grid0.coords t) 2#32 1#32) ![128, 128] _))))
      (sinks (iblk m c 0 t) 0) (sinks (iblk m c 0 t) 1) (sinks (iblk m c 0 t) 2) (sinks (iblk m c 0 t) 3) (sinks (iblk m c 0 t) 4) (sinks (iblk m c 0 t) 5) (sinks (iblk m c 0 t) 6) (sinks (iblk m c 0 t) 7)
      (slab (View.ld (iblk m c 3 t) (Rect.unit (k0_off1 (grid0.coords t) 2#32 4294967295#32) ![128, 128] _)) (View.ld (iblk m c 3 t) (Rect.unit (k0_off1 (grid0.coords t) 2#32 0#32) ![128, 128] _)) (View.ld (iblk m c 3 t) (Rect.unit (k0_off1 (grid0.coords t) 2#32 1#32) ![128, 128] _))))
      (View.ld (iblk m c 4 t) (Rect.unit ![0, 384] ![1, 128] inb_S1x512_S1x128_0_384)) (ix2 q (kcol kv d)) = _
    refine (stored3 _ _ _ _ _ _ _ (sinks (iblk m c 0 t)) _ q kv d).trans (stored_eq _ _ _ _ _ (blockOf t 2) 2 q 3 kv d _ _ _ _ _ _ (number t 2) (loaded t 2 _ _ rfl _ _ _) (loaded t 2 _ _ rfl _ _ _)
      (sinks_apply _) (fun l => View.ld_unit_apply_of _ _ _ _ _ _ (fun a => match a with
        | ⟨0, _⟩ => rfl
        | ⟨1, _⟩ => rfl)) (fun l => View.ld_unit_apply_of _ _ _ _ _ _ (fun a => match a with
        | ⟨0, _⟩ => rfl
        | ⟨1, _⟩ => rfl)))
  case piece5 =>
    replace h0 : u.val * 128 + q.val = 256 + (x 0).val := h0
    replace h1 : g.val * 128 + kv.val * 64 + d.val = 256 + (x 1).val := h1
    replace x0_lt : (x 0).val < 128 := x0_lt
    replace x1_lt : (x 1).val < 128 := x1_lt
    obtain rfl : u = 2 := Fin.ext (show u.val = 2 by omega)
    obtain rfl : g = 2 := Fin.ext (show g.val = 2 by omega)
    obtain rfl : x = ix2 q (kcol kv d) := at_lane x (by have : (((2 : Fin 4) : Nat)) = 2 := rfl; omega)
      (by show (x 1).val = kv.val * 64 + d.val; have : (((2 : Fin 4) : Nat)) = 2 := rfl; omega)
    show scale (pair2 (Scalar.addi (Scalar.muli (BitVec.ofNat 32 (grid0.coords t 1).val) 4#32) 2#32)
      (scores (View.ld (iblk m c 1 t) (Rect.unit ![256, 0] ![128, 128] inb_S512x512_S128x128_256_0))
        (View.ld (iblk m c 1 t) (Rect.unit ![256, 128] ![128, 128] inb_S512x512_S128x128_256_128))
        (View.ld (iblk m c 1 t) (Rect.unit ![256, 256] ![128, 128] inb_S512x512_S128x128_256_256))
        (View.ld (iblk m c 1 t) (Rect.unit ![256, 384] ![128, 128] inb_S512x512_S128x128_256_384))
        (slab (View.ld (iblk m c 2 t) (Rect.unit (k0_off1 (grid0.coords t) 2#32 4294967295#32) ![128, 128] _)) (View.ld (iblk m c 2 t) (Rect.unit (k0_off1 (grid0.coords t) 2#32 0#32) ![128, 128] _)) (View.ld (iblk m c 2 t) (Rect.unit (k0_off1 (grid0.coords t) 2#32 1#32) ![128, 128] _))))
      (sinks (iblk m c 0 t) 0) (sinks (iblk m c 0 t) 1) (sinks (iblk m c 0 t) 2) (sinks (iblk m c 0 t) 3) (sinks (iblk m c 0 t) 4) (sinks (iblk m c 0 t) 5) (sinks (iblk m c 0 t) 6) (sinks (iblk m c 0 t) 7)
      (slab (View.ld (iblk m c 3 t) (Rect.unit (k0_off1 (grid0.coords t) 2#32 4294967295#32) ![128, 128] _)) (View.ld (iblk m c 3 t) (Rect.unit (k0_off1 (grid0.coords t) 2#32 0#32) ![128, 128] _)) (View.ld (iblk m c 3 t) (Rect.unit (k0_off1 (grid0.coords t) 2#32 1#32) ![128, 128] _))))
      (View.ld (iblk m c 4 t) (Rect.unit ![0, 256] ![1, 128] inb_S1x512_S1x128_0_256)) (ix2 q (kcol kv d)) = _
    refine (stored2 _ _ _ _ _ _ _ (sinks (iblk m c 0 t)) _ q kv d).trans (stored_eq _ _ _ _ _ (blockOf t 2) 2 q 2 kv d _ _ _ _ _ _ (number t 2) (loaded t 2 _ _ rfl _ _ _) (loaded t 2 _ _ rfl _ _ _)
      (sinks_apply _) (fun l => View.ld_unit_apply_of _ _ _ _ _ _ (fun a => match a with
        | ⟨0, _⟩ => rfl
        | ⟨1, _⟩ => rfl)) (fun l => View.ld_unit_apply_of _ _ _ _ _ _ (fun a => match a with
        | ⟨0, _⟩ => rfl
        | ⟨1, _⟩ => rfl)))
  case piece6 =>
    replace h0 : u.val * 128 + q.val = 256 + (x 0).val := h0
    replace h1 : g.val * 128 + kv.val * 64 + d.val = 128 + (x 1).val := h1
    replace x0_lt : (x 0).val < 128 := x0_lt
    replace x1_lt : (x 1).val < 128 := x1_lt
    obtain rfl : u = 2 := Fin.ext (show u.val = 2 by omega)
    obtain rfl : g = 1 := Fin.ext (show g.val = 1 by omega)
    obtain rfl : x = ix2 q (kcol kv d) := at_lane x (by have : (((2 : Fin 4) : Nat)) = 2 := rfl; omega)
      (by show (x 1).val = kv.val * 64 + d.val; have : (((1 : Fin 4) : Nat)) = 1 := rfl; omega)
    show scale (pair1 (Scalar.addi (Scalar.muli (BitVec.ofNat 32 (grid0.coords t 1).val) 4#32) 2#32)
      (scores (View.ld (iblk m c 1 t) (Rect.unit ![256, 0] ![128, 128] inb_S512x512_S128x128_256_0))
        (View.ld (iblk m c 1 t) (Rect.unit ![256, 128] ![128, 128] inb_S512x512_S128x128_256_128))
        (View.ld (iblk m c 1 t) (Rect.unit ![256, 256] ![128, 128] inb_S512x512_S128x128_256_256))
        (View.ld (iblk m c 1 t) (Rect.unit ![256, 384] ![128, 128] inb_S512x512_S128x128_256_384))
        (slab (View.ld (iblk m c 2 t) (Rect.unit (k0_off1 (grid0.coords t) 2#32 4294967295#32) ![128, 128] _)) (View.ld (iblk m c 2 t) (Rect.unit (k0_off1 (grid0.coords t) 2#32 0#32) ![128, 128] _)) (View.ld (iblk m c 2 t) (Rect.unit (k0_off1 (grid0.coords t) 2#32 1#32) ![128, 128] _))))
      (sinks (iblk m c 0 t) 0) (sinks (iblk m c 0 t) 1) (sinks (iblk m c 0 t) 2) (sinks (iblk m c 0 t) 3) (sinks (iblk m c 0 t) 4) (sinks (iblk m c 0 t) 5) (sinks (iblk m c 0 t) 6) (sinks (iblk m c 0 t) 7)
      (slab (View.ld (iblk m c 3 t) (Rect.unit (k0_off1 (grid0.coords t) 2#32 4294967295#32) ![128, 128] _)) (View.ld (iblk m c 3 t) (Rect.unit (k0_off1 (grid0.coords t) 2#32 0#32) ![128, 128] _)) (View.ld (iblk m c 3 t) (Rect.unit (k0_off1 (grid0.coords t) 2#32 1#32) ![128, 128] _))))
      (View.ld (iblk m c 4 t) (Rect.unit ![0, 128] ![1, 128] inb_S1x512_S1x128_0_128)) (ix2 q (kcol kv d)) = _
    refine (stored1 _ _ _ _ _ _ _ (sinks (iblk m c 0 t)) _ q kv d).trans (stored_eq _ _ _ _ _ (blockOf t 2) 2 q 1 kv d _ _ _ _ _ _ (number t 2) (loaded t 2 _ _ rfl _ _ _) (loaded t 2 _ _ rfl _ _ _)
      (sinks_apply _) (fun l => View.ld_unit_apply_of _ _ _ _ _ _ (fun a => match a with
        | ⟨0, _⟩ => rfl
        | ⟨1, _⟩ => rfl)) (fun l => View.ld_unit_apply_of _ _ _ _ _ _ (fun a => match a with
        | ⟨0, _⟩ => rfl
        | ⟨1, _⟩ => rfl)))
  case piece7 =>
    replace h0 : u.val * 128 + q.val = 256 + (x 0).val := h0
    replace h1 : g.val * 128 + kv.val * 64 + d.val = 0 + (x 1).val := h1.trans (Nat.zero_add _).symm
    replace x0_lt : (x 0).val < 128 := x0_lt
    replace x1_lt : (x 1).val < 128 := x1_lt
    obtain rfl : u = 2 := Fin.ext (show u.val = 2 by omega)
    obtain rfl : g = 0 := Fin.ext (show g.val = 0 by omega)
    obtain rfl : x = ix2 q (kcol kv d) := at_lane x (by have : (((2 : Fin 4) : Nat)) = 2 := rfl; omega)
      (by show (x 1).val = kv.val * 64 + d.val; have : (((0 : Fin 4) : Nat)) = 0 := rfl; omega)
    show scale (pair0 (Scalar.addi (Scalar.muli (BitVec.ofNat 32 (grid0.coords t 1).val) 4#32) 2#32)
      (scores (View.ld (iblk m c 1 t) (Rect.unit ![256, 0] ![128, 128] inb_S512x512_S128x128_256_0))
        (View.ld (iblk m c 1 t) (Rect.unit ![256, 128] ![128, 128] inb_S512x512_S128x128_256_128))
        (View.ld (iblk m c 1 t) (Rect.unit ![256, 256] ![128, 128] inb_S512x512_S128x128_256_256))
        (View.ld (iblk m c 1 t) (Rect.unit ![256, 384] ![128, 128] inb_S512x512_S128x128_256_384))
        (slab (View.ld (iblk m c 2 t) (Rect.unit (k0_off1 (grid0.coords t) 2#32 4294967295#32) ![128, 128] _)) (View.ld (iblk m c 2 t) (Rect.unit (k0_off1 (grid0.coords t) 2#32 0#32) ![128, 128] _)) (View.ld (iblk m c 2 t) (Rect.unit (k0_off1 (grid0.coords t) 2#32 1#32) ![128, 128] _))))
      (sinks (iblk m c 0 t) 0) (sinks (iblk m c 0 t) 1) (sinks (iblk m c 0 t) 2) (sinks (iblk m c 0 t) 3) (sinks (iblk m c 0 t) 4) (sinks (iblk m c 0 t) 5) (sinks (iblk m c 0 t) 6) (sinks (iblk m c 0 t) 7)
      (slab (View.ld (iblk m c 3 t) (Rect.unit (k0_off1 (grid0.coords t) 2#32 4294967295#32) ![128, 128] _)) (View.ld (iblk m c 3 t) (Rect.unit (k0_off1 (grid0.coords t) 2#32 0#32) ![128, 128] _)) (View.ld (iblk m c 3 t) (Rect.unit (k0_off1 (grid0.coords t) 2#32 1#32) ![128, 128] _))))
      (View.ld (iblk m c 4 t) (Rect.unit ![0, 0] ![1, 128] inb_S1x512_S1x128_0_0)) (ix2 q (kcol kv d)) = _
    refine (stored0 _ _ _ _ _ _ _ (sinks (iblk m c 0 t)) _ q kv d).trans (stored_eq _ _ _ _ _ (blockOf t 2) 2 q 0 kv d _ _ _ _ _ _ (number t 2) (loaded t 2 _ _ rfl _ _ _) (loaded t 2 _ _ rfl _ _ _)
      (sinks_apply _) (fun l => View.ld_unit_apply_of _ _ _ _ _ _ (fun a => match a with
        | ⟨0, _⟩ => rfl
        | ⟨1, _⟩ => rfl)) (fun l => View.ld_unit_apply_of _ _ _ _ _ _ (fun a => match a with
        | ⟨0, _⟩ => rfl
        | ⟨1, _⟩ => rfl)))
  case piece8 =>
    replace h0 : u.val * 128 + q.val = 128 + (x 0).val := h0
    replace h1 : g.val * 128 + kv.val * 64 + d.val = 384 + (x 1).val := h1
    replace x0_lt : (x 0).val < 128 := x0_lt
    replace x1_lt : (x 1).val < 128 := x1_lt
    obtain rfl : u = 1 := Fin.ext (show u.val = 1 by omega)
    obtain rfl : g = 3 := Fin.ext (show g.val = 3 by omega)
    obtain rfl : x = ix2 q (kcol kv d) := at_lane x (by have : (((1 : Fin 4) : Nat)) = 1 := rfl; omega)
      (by show (x 1).val = kv.val * 64 + d.val; have : (((3 : Fin 4) : Nat)) = 3 := rfl; omega)
    show scale (pair3 (Scalar.addi (Scalar.muli (BitVec.ofNat 32 (grid0.coords t 1).val) 4#32) 1#32)
      (scores (View.ld (iblk m c 1 t) (Rect.unit ![128, 0] ![128, 128] inb_S512x512_S128x128_128_0))
        (View.ld (iblk m c 1 t) (Rect.unit ![128, 128] ![128, 128] inb_S512x512_S128x128_128_128))
        (View.ld (iblk m c 1 t) (Rect.unit ![128, 256] ![128, 128] inb_S512x512_S128x128_128_256))
        (View.ld (iblk m c 1 t) (Rect.unit ![128, 384] ![128, 128] inb_S512x512_S128x128_128_384))
        (slab (View.ld (iblk m c 2 t) (Rect.unit (k0_off1 (grid0.coords t) 1#32 4294967295#32) ![128, 128] _)) (View.ld (iblk m c 2 t) (Rect.unit (k0_off1 (grid0.coords t) 1#32 0#32) ![128, 128] _)) (View.ld (iblk m c 2 t) (Rect.unit (k0_off1 (grid0.coords t) 1#32 1#32) ![128, 128] _))))
      (sinks (iblk m c 0 t) 0) (sinks (iblk m c 0 t) 1) (sinks (iblk m c 0 t) 2) (sinks (iblk m c 0 t) 3) (sinks (iblk m c 0 t) 4) (sinks (iblk m c 0 t) 5) (sinks (iblk m c 0 t) 6) (sinks (iblk m c 0 t) 7)
      (slab (View.ld (iblk m c 3 t) (Rect.unit (k0_off1 (grid0.coords t) 1#32 4294967295#32) ![128, 128] _)) (View.ld (iblk m c 3 t) (Rect.unit (k0_off1 (grid0.coords t) 1#32 0#32) ![128, 128] _)) (View.ld (iblk m c 3 t) (Rect.unit (k0_off1 (grid0.coords t) 1#32 1#32) ![128, 128] _))))
      (View.ld (iblk m c 4 t) (Rect.unit ![0, 384] ![1, 128] inb_S1x512_S1x128_0_384)) (ix2 q (kcol kv d)) = _
    refine (stored3 _ _ _ _ _ _ _ (sinks (iblk m c 0 t)) _ q kv d).trans (stored_eq _ _ _ _ _ (blockOf t 1) 1 q 3 kv d _ _ _ _ _ _ (number t 1) (loaded t 1 _ _ rfl _ _ _) (loaded t 1 _ _ rfl _ _ _)
      (sinks_apply _) (fun l => View.ld_unit_apply_of _ _ _ _ _ _ (fun a => match a with
        | ⟨0, _⟩ => rfl
        | ⟨1, _⟩ => rfl)) (fun l => View.ld_unit_apply_of _ _ _ _ _ _ (fun a => match a with
        | ⟨0, _⟩ => rfl
        | ⟨1, _⟩ => rfl)))
  case piece9 =>
    replace h0 : u.val * 128 + q.val = 128 + (x 0).val := h0
    replace h1 : g.val * 128 + kv.val * 64 + d.val = 256 + (x 1).val := h1
    replace x0_lt : (x 0).val < 128 := x0_lt
    replace x1_lt : (x 1).val < 128 := x1_lt
    obtain rfl : u = 1 := Fin.ext (show u.val = 1 by omega)
    obtain rfl : g = 2 := Fin.ext (show g.val = 2 by omega)
    obtain rfl : x = ix2 q (kcol kv d) := at_lane x (by have : (((1 : Fin 4) : Nat)) = 1 := rfl; omega)
      (by show (x 1).val = kv.val * 64 + d.val; have : (((2 : Fin 4) : Nat)) = 2 := rfl; omega)
    show scale (pair2 (Scalar.addi (Scalar.muli (BitVec.ofNat 32 (grid0.coords t 1).val) 4#32) 1#32)
      (scores (View.ld (iblk m c 1 t) (Rect.unit ![128, 0] ![128, 128] inb_S512x512_S128x128_128_0))
        (View.ld (iblk m c 1 t) (Rect.unit ![128, 128] ![128, 128] inb_S512x512_S128x128_128_128))
        (View.ld (iblk m c 1 t) (Rect.unit ![128, 256] ![128, 128] inb_S512x512_S128x128_128_256))
        (View.ld (iblk m c 1 t) (Rect.unit ![128, 384] ![128, 128] inb_S512x512_S128x128_128_384))
        (slab (View.ld (iblk m c 2 t) (Rect.unit (k0_off1 (grid0.coords t) 1#32 4294967295#32) ![128, 128] _)) (View.ld (iblk m c 2 t) (Rect.unit (k0_off1 (grid0.coords t) 1#32 0#32) ![128, 128] _)) (View.ld (iblk m c 2 t) (Rect.unit (k0_off1 (grid0.coords t) 1#32 1#32) ![128, 128] _))))
      (sinks (iblk m c 0 t) 0) (sinks (iblk m c 0 t) 1) (sinks (iblk m c 0 t) 2) (sinks (iblk m c 0 t) 3) (sinks (iblk m c 0 t) 4) (sinks (iblk m c 0 t) 5) (sinks (iblk m c 0 t) 6) (sinks (iblk m c 0 t) 7)
      (slab (View.ld (iblk m c 3 t) (Rect.unit (k0_off1 (grid0.coords t) 1#32 4294967295#32) ![128, 128] _)) (View.ld (iblk m c 3 t) (Rect.unit (k0_off1 (grid0.coords t) 1#32 0#32) ![128, 128] _)) (View.ld (iblk m c 3 t) (Rect.unit (k0_off1 (grid0.coords t) 1#32 1#32) ![128, 128] _))))
      (View.ld (iblk m c 4 t) (Rect.unit ![0, 256] ![1, 128] inb_S1x512_S1x128_0_256)) (ix2 q (kcol kv d)) = _
    refine (stored2 _ _ _ _ _ _ _ (sinks (iblk m c 0 t)) _ q kv d).trans (stored_eq _ _ _ _ _ (blockOf t 1) 1 q 2 kv d _ _ _ _ _ _ (number t 1) (loaded t 1 _ _ rfl _ _ _) (loaded t 1 _ _ rfl _ _ _)
      (sinks_apply _) (fun l => View.ld_unit_apply_of _ _ _ _ _ _ (fun a => match a with
        | ⟨0, _⟩ => rfl
        | ⟨1, _⟩ => rfl)) (fun l => View.ld_unit_apply_of _ _ _ _ _ _ (fun a => match a with
        | ⟨0, _⟩ => rfl
        | ⟨1, _⟩ => rfl)))
  case piece10 =>
    replace h0 : u.val * 128 + q.val = 128 + (x 0).val := h0
    replace h1 : g.val * 128 + kv.val * 64 + d.val = 128 + (x 1).val := h1
    replace x0_lt : (x 0).val < 128 := x0_lt
    replace x1_lt : (x 1).val < 128 := x1_lt
    obtain rfl : u = 1 := Fin.ext (show u.val = 1 by omega)
    obtain rfl : g = 1 := Fin.ext (show g.val = 1 by omega)
    obtain rfl : x = ix2 q (kcol kv d) := at_lane x (by have : (((1 : Fin 4) : Nat)) = 1 := rfl; omega)
      (by show (x 1).val = kv.val * 64 + d.val; have : (((1 : Fin 4) : Nat)) = 1 := rfl; omega)
    show scale (pair1 (Scalar.addi (Scalar.muli (BitVec.ofNat 32 (grid0.coords t 1).val) 4#32) 1#32)
      (scores (View.ld (iblk m c 1 t) (Rect.unit ![128, 0] ![128, 128] inb_S512x512_S128x128_128_0))
        (View.ld (iblk m c 1 t) (Rect.unit ![128, 128] ![128, 128] inb_S512x512_S128x128_128_128))
        (View.ld (iblk m c 1 t) (Rect.unit ![128, 256] ![128, 128] inb_S512x512_S128x128_128_256))
        (View.ld (iblk m c 1 t) (Rect.unit ![128, 384] ![128, 128] inb_S512x512_S128x128_128_384))
        (slab (View.ld (iblk m c 2 t) (Rect.unit (k0_off1 (grid0.coords t) 1#32 4294967295#32) ![128, 128] _)) (View.ld (iblk m c 2 t) (Rect.unit (k0_off1 (grid0.coords t) 1#32 0#32) ![128, 128] _)) (View.ld (iblk m c 2 t) (Rect.unit (k0_off1 (grid0.coords t) 1#32 1#32) ![128, 128] _))))
      (sinks (iblk m c 0 t) 0) (sinks (iblk m c 0 t) 1) (sinks (iblk m c 0 t) 2) (sinks (iblk m c 0 t) 3) (sinks (iblk m c 0 t) 4) (sinks (iblk m c 0 t) 5) (sinks (iblk m c 0 t) 6) (sinks (iblk m c 0 t) 7)
      (slab (View.ld (iblk m c 3 t) (Rect.unit (k0_off1 (grid0.coords t) 1#32 4294967295#32) ![128, 128] _)) (View.ld (iblk m c 3 t) (Rect.unit (k0_off1 (grid0.coords t) 1#32 0#32) ![128, 128] _)) (View.ld (iblk m c 3 t) (Rect.unit (k0_off1 (grid0.coords t) 1#32 1#32) ![128, 128] _))))
      (View.ld (iblk m c 4 t) (Rect.unit ![0, 128] ![1, 128] inb_S1x512_S1x128_0_128)) (ix2 q (kcol kv d)) = _
    refine (stored1 _ _ _ _ _ _ _ (sinks (iblk m c 0 t)) _ q kv d).trans (stored_eq _ _ _ _ _ (blockOf t 1) 1 q 1 kv d _ _ _ _ _ _ (number t 1) (loaded t 1 _ _ rfl _ _ _) (loaded t 1 _ _ rfl _ _ _)
      (sinks_apply _) (fun l => View.ld_unit_apply_of _ _ _ _ _ _ (fun a => match a with
        | ⟨0, _⟩ => rfl
        | ⟨1, _⟩ => rfl)) (fun l => View.ld_unit_apply_of _ _ _ _ _ _ (fun a => match a with
        | ⟨0, _⟩ => rfl
        | ⟨1, _⟩ => rfl)))
  case piece11 =>
    replace h0 : u.val * 128 + q.val = 128 + (x 0).val := h0
    replace h1 : g.val * 128 + kv.val * 64 + d.val = 0 + (x 1).val := h1.trans (Nat.zero_add _).symm
    replace x0_lt : (x 0).val < 128 := x0_lt
    replace x1_lt : (x 1).val < 128 := x1_lt
    obtain rfl : u = 1 := Fin.ext (show u.val = 1 by omega)
    obtain rfl : g = 0 := Fin.ext (show g.val = 0 by omega)
    obtain rfl : x = ix2 q (kcol kv d) := at_lane x (by have : (((1 : Fin 4) : Nat)) = 1 := rfl; omega)
      (by show (x 1).val = kv.val * 64 + d.val; have : (((0 : Fin 4) : Nat)) = 0 := rfl; omega)
    show scale (pair0 (Scalar.addi (Scalar.muli (BitVec.ofNat 32 (grid0.coords t 1).val) 4#32) 1#32)
      (scores (View.ld (iblk m c 1 t) (Rect.unit ![128, 0] ![128, 128] inb_S512x512_S128x128_128_0))
        (View.ld (iblk m c 1 t) (Rect.unit ![128, 128] ![128, 128] inb_S512x512_S128x128_128_128))
        (View.ld (iblk m c 1 t) (Rect.unit ![128, 256] ![128, 128] inb_S512x512_S128x128_128_256))
        (View.ld (iblk m c 1 t) (Rect.unit ![128, 384] ![128, 128] inb_S512x512_S128x128_128_384))
        (slab (View.ld (iblk m c 2 t) (Rect.unit (k0_off1 (grid0.coords t) 1#32 4294967295#32) ![128, 128] _)) (View.ld (iblk m c 2 t) (Rect.unit (k0_off1 (grid0.coords t) 1#32 0#32) ![128, 128] _)) (View.ld (iblk m c 2 t) (Rect.unit (k0_off1 (grid0.coords t) 1#32 1#32) ![128, 128] _))))
      (sinks (iblk m c 0 t) 0) (sinks (iblk m c 0 t) 1) (sinks (iblk m c 0 t) 2) (sinks (iblk m c 0 t) 3) (sinks (iblk m c 0 t) 4) (sinks (iblk m c 0 t) 5) (sinks (iblk m c 0 t) 6) (sinks (iblk m c 0 t) 7)
      (slab (View.ld (iblk m c 3 t) (Rect.unit (k0_off1 (grid0.coords t) 1#32 4294967295#32) ![128, 128] _)) (View.ld (iblk m c 3 t) (Rect.unit (k0_off1 (grid0.coords t) 1#32 0#32) ![128, 128] _)) (View.ld (iblk m c 3 t) (Rect.unit (k0_off1 (grid0.coords t) 1#32 1#32) ![128, 128] _))))
      (View.ld (iblk m c 4 t) (Rect.unit ![0, 0] ![1, 128] inb_S1x512_S1x128_0_0)) (ix2 q (kcol kv d)) = _
    refine (stored0 _ _ _ _ _ _ _ (sinks (iblk m c 0 t)) _ q kv d).trans (stored_eq _ _ _ _ _ (blockOf t 1) 1 q 0 kv d _ _ _ _ _ _ (number t 1) (loaded t 1 _ _ rfl _ _ _) (loaded t 1 _ _ rfl _ _ _)
      (sinks_apply _) (fun l => View.ld_unit_apply_of _ _ _ _ _ _ (fun a => match a with
        | ⟨0, _⟩ => rfl
        | ⟨1, _⟩ => rfl)) (fun l => View.ld_unit_apply_of _ _ _ _ _ _ (fun a => match a with
        | ⟨0, _⟩ => rfl
        | ⟨1, _⟩ => rfl)))
  case piece12 =>
    replace h0 : u.val * 128 + q.val = 0 + (x 0).val := h0.trans (Nat.zero_add _).symm
    replace h1 : g.val * 128 + kv.val * 64 + d.val = 384 + (x 1).val := h1
    replace x0_lt : (x 0).val < 128 := x0_lt
    replace x1_lt : (x 1).val < 128 := x1_lt
    obtain rfl : u = 0 := Fin.ext (show u.val = 0 by omega)
    obtain rfl : g = 3 := Fin.ext (show g.val = 3 by omega)
    obtain rfl : x = ix2 q (kcol kv d) := at_lane x (by have : (((0 : Fin 4) : Nat)) = 0 := rfl; omega)
      (by show (x 1).val = kv.val * 64 + d.val; have : (((3 : Fin 4) : Nat)) = 3 := rfl; omega)
    show scale (pair3 (Scalar.addi (Scalar.muli (BitVec.ofNat 32 (grid0.coords t 1).val) 4#32) 0#32)
      (scores (View.ld (iblk m c 1 t) (Rect.unit ![0, 0] ![128, 128] inb_S512x512_S128x128_0_0))
        (View.ld (iblk m c 1 t) (Rect.unit ![0, 128] ![128, 128] inb_S512x512_S128x128_0_128))
        (View.ld (iblk m c 1 t) (Rect.unit ![0, 256] ![128, 128] inb_S512x512_S128x128_0_256))
        (View.ld (iblk m c 1 t) (Rect.unit ![0, 384] ![128, 128] inb_S512x512_S128x128_0_384))
        (slab (View.ld (iblk m c 2 t) (Rect.unit (k0_off1 (grid0.coords t) 0#32 4294967295#32) ![128, 128] _)) (View.ld (iblk m c 2 t) (Rect.unit (k0_off1 (grid0.coords t) 0#32 0#32) ![128, 128] _)) (View.ld (iblk m c 2 t) (Rect.unit (k0_off1 (grid0.coords t) 0#32 1#32) ![128, 128] _))))
      (sinks (iblk m c 0 t) 0) (sinks (iblk m c 0 t) 1) (sinks (iblk m c 0 t) 2) (sinks (iblk m c 0 t) 3) (sinks (iblk m c 0 t) 4) (sinks (iblk m c 0 t) 5) (sinks (iblk m c 0 t) 6) (sinks (iblk m c 0 t) 7)
      (slab (View.ld (iblk m c 3 t) (Rect.unit (k0_off1 (grid0.coords t) 0#32 4294967295#32) ![128, 128] _)) (View.ld (iblk m c 3 t) (Rect.unit (k0_off1 (grid0.coords t) 0#32 0#32) ![128, 128] _)) (View.ld (iblk m c 3 t) (Rect.unit (k0_off1 (grid0.coords t) 0#32 1#32) ![128, 128] _))))
      (View.ld (iblk m c 4 t) (Rect.unit ![0, 384] ![1, 128] inb_S1x512_S1x128_0_384)) (ix2 q (kcol kv d)) = _
    refine (stored3 _ _ _ _ _ _ _ (sinks (iblk m c 0 t)) _ q kv d).trans (stored_eq _ _ _ _ _ (blockOf t 0) 0 q 3 kv d _ _ _ _ _ _ (number t 0) (loaded t 0 _ _ rfl _ _ _) (loaded t 0 _ _ rfl _ _ _)
      (sinks_apply _) (fun l => View.ld_unit_apply_of _ _ _ _ _ _ (fun a => match a with
        | ⟨0, _⟩ => rfl
        | ⟨1, _⟩ => rfl)) (fun l => View.ld_unit_apply_of _ _ _ _ _ _ (fun a => match a with
        | ⟨0, _⟩ => rfl
        | ⟨1, _⟩ => rfl)))
  case piece13 =>
    replace h0 : u.val * 128 + q.val = 0 + (x 0).val := h0.trans (Nat.zero_add _).symm
    replace h1 : g.val * 128 + kv.val * 64 + d.val = 256 + (x 1).val := h1
    replace x0_lt : (x 0).val < 128 := x0_lt
    replace x1_lt : (x 1).val < 128 := x1_lt
    obtain rfl : u = 0 := Fin.ext (show u.val = 0 by omega)
    obtain rfl : g = 2 := Fin.ext (show g.val = 2 by omega)
    obtain rfl : x = ix2 q (kcol kv d) := at_lane x (by have : (((0 : Fin 4) : Nat)) = 0 := rfl; omega)
      (by show (x 1).val = kv.val * 64 + d.val; have : (((2 : Fin 4) : Nat)) = 2 := rfl; omega)
    show scale (pair2 (Scalar.addi (Scalar.muli (BitVec.ofNat 32 (grid0.coords t 1).val) 4#32) 0#32)
      (scores (View.ld (iblk m c 1 t) (Rect.unit ![0, 0] ![128, 128] inb_S512x512_S128x128_0_0))
        (View.ld (iblk m c 1 t) (Rect.unit ![0, 128] ![128, 128] inb_S512x512_S128x128_0_128))
        (View.ld (iblk m c 1 t) (Rect.unit ![0, 256] ![128, 128] inb_S512x512_S128x128_0_256))
        (View.ld (iblk m c 1 t) (Rect.unit ![0, 384] ![128, 128] inb_S512x512_S128x128_0_384))
        (slab (View.ld (iblk m c 2 t) (Rect.unit (k0_off1 (grid0.coords t) 0#32 4294967295#32) ![128, 128] _)) (View.ld (iblk m c 2 t) (Rect.unit (k0_off1 (grid0.coords t) 0#32 0#32) ![128, 128] _)) (View.ld (iblk m c 2 t) (Rect.unit (k0_off1 (grid0.coords t) 0#32 1#32) ![128, 128] _))))
      (sinks (iblk m c 0 t) 0) (sinks (iblk m c 0 t) 1) (sinks (iblk m c 0 t) 2) (sinks (iblk m c 0 t) 3) (sinks (iblk m c 0 t) 4) (sinks (iblk m c 0 t) 5) (sinks (iblk m c 0 t) 6) (sinks (iblk m c 0 t) 7)
      (slab (View.ld (iblk m c 3 t) (Rect.unit (k0_off1 (grid0.coords t) 0#32 4294967295#32) ![128, 128] _)) (View.ld (iblk m c 3 t) (Rect.unit (k0_off1 (grid0.coords t) 0#32 0#32) ![128, 128] _)) (View.ld (iblk m c 3 t) (Rect.unit (k0_off1 (grid0.coords t) 0#32 1#32) ![128, 128] _))))
      (View.ld (iblk m c 4 t) (Rect.unit ![0, 256] ![1, 128] inb_S1x512_S1x128_0_256)) (ix2 q (kcol kv d)) = _
    refine (stored2 _ _ _ _ _ _ _ (sinks (iblk m c 0 t)) _ q kv d).trans (stored_eq _ _ _ _ _ (blockOf t 0) 0 q 2 kv d _ _ _ _ _ _ (number t 0) (loaded t 0 _ _ rfl _ _ _) (loaded t 0 _ _ rfl _ _ _)
      (sinks_apply _) (fun l => View.ld_unit_apply_of _ _ _ _ _ _ (fun a => match a with
        | ⟨0, _⟩ => rfl
        | ⟨1, _⟩ => rfl)) (fun l => View.ld_unit_apply_of _ _ _ _ _ _ (fun a => match a with
        | ⟨0, _⟩ => rfl
        | ⟨1, _⟩ => rfl)))
  case piece14 =>
    replace h0 : u.val * 128 + q.val = 0 + (x 0).val := h0.trans (Nat.zero_add _).symm
    replace h1 : g.val * 128 + kv.val * 64 + d.val = 128 + (x 1).val := h1
    replace x0_lt : (x 0).val < 128 := x0_lt
    replace x1_lt : (x 1).val < 128 := x1_lt
    obtain rfl : u = 0 := Fin.ext (show u.val = 0 by omega)
    obtain rfl : g = 1 := Fin.ext (show g.val = 1 by omega)
    obtain rfl : x = ix2 q (kcol kv d) := at_lane x (by have : (((0 : Fin 4) : Nat)) = 0 := rfl; omega)
      (by show (x 1).val = kv.val * 64 + d.val; have : (((1 : Fin 4) : Nat)) = 1 := rfl; omega)
    show scale (pair1 (Scalar.addi (Scalar.muli (BitVec.ofNat 32 (grid0.coords t 1).val) 4#32) 0#32)
      (scores (View.ld (iblk m c 1 t) (Rect.unit ![0, 0] ![128, 128] inb_S512x512_S128x128_0_0))
        (View.ld (iblk m c 1 t) (Rect.unit ![0, 128] ![128, 128] inb_S512x512_S128x128_0_128))
        (View.ld (iblk m c 1 t) (Rect.unit ![0, 256] ![128, 128] inb_S512x512_S128x128_0_256))
        (View.ld (iblk m c 1 t) (Rect.unit ![0, 384] ![128, 128] inb_S512x512_S128x128_0_384))
        (slab (View.ld (iblk m c 2 t) (Rect.unit (k0_off1 (grid0.coords t) 0#32 4294967295#32) ![128, 128] _)) (View.ld (iblk m c 2 t) (Rect.unit (k0_off1 (grid0.coords t) 0#32 0#32) ![128, 128] _)) (View.ld (iblk m c 2 t) (Rect.unit (k0_off1 (grid0.coords t) 0#32 1#32) ![128, 128] _))))
      (sinks (iblk m c 0 t) 0) (sinks (iblk m c 0 t) 1) (sinks (iblk m c 0 t) 2) (sinks (iblk m c 0 t) 3) (sinks (iblk m c 0 t) 4) (sinks (iblk m c 0 t) 5) (sinks (iblk m c 0 t) 6) (sinks (iblk m c 0 t) 7)
      (slab (View.ld (iblk m c 3 t) (Rect.unit (k0_off1 (grid0.coords t) 0#32 4294967295#32) ![128, 128] _)) (View.ld (iblk m c 3 t) (Rect.unit (k0_off1 (grid0.coords t) 0#32 0#32) ![128, 128] _)) (View.ld (iblk m c 3 t) (Rect.unit (k0_off1 (grid0.coords t) 0#32 1#32) ![128, 128] _))))
      (View.ld (iblk m c 4 t) (Rect.unit ![0, 128] ![1, 128] inb_S1x512_S1x128_0_128)) (ix2 q (kcol kv d)) = _
    refine (stored1 _ _ _ _ _ _ _ (sinks (iblk m c 0 t)) _ q kv d).trans (stored_eq _ _ _ _ _ (blockOf t 0) 0 q 1 kv d _ _ _ _ _ _ (number t 0) (loaded t 0 _ _ rfl _ _ _) (loaded t 0 _ _ rfl _ _ _)
      (sinks_apply _) (fun l => View.ld_unit_apply_of _ _ _ _ _ _ (fun a => match a with
        | ⟨0, _⟩ => rfl
        | ⟨1, _⟩ => rfl)) (fun l => View.ld_unit_apply_of _ _ _ _ _ _ (fun a => match a with
        | ⟨0, _⟩ => rfl
        | ⟨1, _⟩ => rfl)))
  case piece15 =>
    replace h0 : u.val * 128 + q.val = 0 + (x 0).val := h0.trans (Nat.zero_add _).symm
    replace h1 : g.val * 128 + kv.val * 64 + d.val = 0 + (x 1).val := h1.trans (Nat.zero_add _).symm
    replace x0_lt : (x 0).val < 128 := x0_lt
    replace x1_lt : (x 1).val < 128 := x1_lt
    obtain rfl : u = 0 := Fin.ext (show u.val = 0 by omega)
    obtain rfl : g = 0 := Fin.ext (show g.val = 0 by omega)
    obtain rfl : x = ix2 q (kcol kv d) := at_lane x (by have : (((0 : Fin 4) : Nat)) = 0 := rfl; omega)
      (by show (x 1).val = kv.val * 64 + d.val; have : (((0 : Fin 4) : Nat)) = 0 := rfl; omega)
    show scale (pair0 (Scalar.addi (Scalar.muli (BitVec.ofNat 32 (grid0.coords t 1).val) 4#32) 0#32)
      (scores (View.ld (iblk m c 1 t) (Rect.unit ![0, 0] ![128, 128] inb_S512x512_S128x128_0_0))
        (View.ld (iblk m c 1 t) (Rect.unit ![0, 128] ![128, 128] inb_S512x512_S128x128_0_128))
        (View.ld (iblk m c 1 t) (Rect.unit ![0, 256] ![128, 128] inb_S512x512_S128x128_0_256))
        (View.ld (iblk m c 1 t) (Rect.unit ![0, 384] ![128, 128] inb_S512x512_S128x128_0_384))
        (slab (View.ld (iblk m c 2 t) (Rect.unit (k0_off1 (grid0.coords t) 0#32 4294967295#32) ![128, 128] _)) (View.ld (iblk m c 2 t) (Rect.unit (k0_off1 (grid0.coords t) 0#32 0#32) ![128, 128] _)) (View.ld (iblk m c 2 t) (Rect.unit (k0_off1 (grid0.coords t) 0#32 1#32) ![128, 128] _))))
      (sinks (iblk m c 0 t) 0) (sinks (iblk m c 0 t) 1) (sinks (iblk m c 0 t) 2) (sinks (iblk m c 0 t) 3) (sinks (iblk m c 0 t) 4) (sinks (iblk m c 0 t) 5) (sinks (iblk m c 0 t) 6) (sinks (iblk m c 0 t) 7)
      (slab (View.ld (iblk m c 3 t) (Rect.unit (k0_off1 (grid0.coords t) 0#32 4294967295#32) ![128, 128] _)) (View.ld (iblk m c 3 t) (Rect.unit (k0_off1 (grid0.coords t) 0#32 0#32) ![128, 128] _)) (View.ld (iblk m c 3 t) (Rect.unit (k0_off1 (grid0.coords t) 0#32 1#32) ![128, 128] _))))
      (View.ld (iblk m c 4 t) (Rect.unit ![0, 0] ![1, 128] inb_S1x512_S1x128_0_0)) (ix2 q (kcol kv d)) = _
    refine (stored0 _ _ _ _ _ _ _ (sinks (iblk m c 0 t)) _ q kv d).trans (stored_eq _ _ _ _ _ (blockOf t 0) 0 q 0 kv d _ _ _ _ _ _ (number t 0) (loaded t 0 _ _ rfl _ _ _) (loaded t 0 _ _ rfl _ _ _)
      (sinks_apply _) (fun l => View.ld_unit_apply_of _ _ _ _ _ _ (fun a => match a with
        | ⟨0, _⟩ => rfl
        | ⟨1, _⟩ => rfl)) (fun l => View.ld_unit_apply_of _ _ _ _ _ _ (fun a => match a with
        | ⟨0, _⟩ => rfl
        | ⟨1, _⟩ => rfl)))

end Cert.Win.Block

end
-- ==== Proof.Win.Gain.lean ====
/- The gain the windowed attention kernel is handed: the host's gather puts each query head's gain where the pairs of
   heads have their lanes. -/
module

public import proofs.«01_k».proof.Proof.Attn.Spec
public import proofs.«01_k».proof.Proof.Gen.Kernel4Ideal.Frame
public import Idealize.ShloMosaic.Lib.Claim
public import Idealize.ShloMosaic.Lib.Pipeline.ValueKit
public import Idealize.ShloMosaic.Lib.Routing.OpsSearch

@[expose] public section

set_option maxRecDepth 16384

noncomputable section

namespace Cert.Win.Gain

open Idealize.ShloMosaic Idealize.ShloMosaic.TcCoe Idealize.SL.Sem
open Cert.Kernel4Ideal Cert.Kernel4Ideal.Gen
open Cert.Attn (qcol gcol)

/-- The table of the gather, at the column of a pair, a head and a lane. -/
theorem table : ∀ (g : Fin 4) (kv : Fin 2) (d : Fin 64), lit0 (qcol g kv d) = BitVec.ofNat 32 (gcol g kv d).val := by
  decide +kernel

variable (m : (ℓ : Loc nD τ sig) → Buf (Elt Ideal) ℓ)

/-- The gains as the kernel's columns hold them. -/
theorem gain_apply (c : Dev nD) (g : Fin 4) (kv : Fin 2) (d : Fin 64) :
    V m c main_v5 (ix2 0 (qcol g kv d)) = m ((c : Thread nD τ).loc main_arg4) (ix1 (gcol g kv d)) := by
  entry_read
  pointwise
  refine Routing.take_ap gather_S512_S512x1_S512_n_0_n_n_0_1_1 rfl rfl rfl rfl _ _ (qcol g kv d) (gcol g kv d).isLt ?_ ?_
  · have := (gcol g kv d).isLt; omega
  · pointwise
    have e : S512.rowMajor (ix1 (qcol g kv d)) = qcol g kv d := Fin.ext (Shape.rowMajor_val_one (ix1 (qcol g kv d)))
    exact (congrArg lit0 e).trans (table g kv d)

end Cert.Win.Gain

end
-- ==== Proof.Win.Keys.lean ====
/- The windowed attention's reference before its softmax: the words, the slopes, the padded keys and values and the masked
   scores at an index. -/
module

public import proofs.«01_k».proof.Proof.Win.Spec
public import proofs.«01_k».proof.Proof.Gen.Reference4Ideal.Read

@[expose] public section

set_option maxRecDepth 16384

noncomputable section

namespace Cert.Win.Ref

open Idealize.ShloMosaic Idealize.ShloMosaic.TcCoe Idealize.SL.Sem
open Cert.Reference4Ideal Cert.Reference4Ideal.Gen Cert.Reference4Ideal.Read
open Cert.Attn (normed row qcol kcol gcol)

variable (x0 : FVec Ideal S65536x512 .bf16) (x1 x2 : FVec Ideal S65536x128 .bf16) (x3 : FVec Ideal S8 .f32) (x4 : FVec Ideal S512 .f32)

/-! ## The words -/

/-- The distance does not depend on the block. -/
theorem gap_words (a q s : BitVec 32) : a + q - (a + (s - 128#32)) = q + 128#32 - s := by bv_omega

/-- A key's place from the block before. -/
theorem place_words (j s : BitVec 32) : j * 128#32 + (s - 128#32) = (j - 1#32) * 128#32 + s := by bv_omega

/-- The distances' words. -/
theorem gap_apply (j : Fin 16) (q : Fin 128) (s : Fin 384) :
    val_main_v107 (F := Ideal) (ix3 j q s) = Win.gap q s := by
  pointwise [val_main_v107, val_main_v106, val_main_v105, val_main_v104, val_main_v103, val_main_v102, val_main_v101, val_main_v100, val_main_v99, val_main_v98, val_main_v97, val_main_v96, val_main_v95, val_main_v94, val_main_v93, val_main_v92, val_main_v91, val_main_v90, val_main_v23, val_main_v22, val_main_v21, val_main_v20, val_main_c_9, val_main_c_8]
  exact congrArg IntOp.absi (gap_words _ _ _)

/-- The keys' places. -/
theorem place_apply (j : Fin 16) (s : Fin 384) :
    val_main_v101 (F := Ideal) (ix2 j s) = Win.place (BitVec.ofNat 32 j.val) s := by
  pointwise [val_main_v101, val_main_v100, val_main_v99, val_main_v98, val_main_v93, val_main_v92, val_main_v91, val_main_v90, val_main_v23, val_main_v22, val_main_v21, val_main_c_9, val_main_c_8]
  exact place_words _ _

/-- Three marks in either order of joining. -/
theorem marks : ∀ a b c : BitVec 1, IntOp.andi (IntOp.andi a b) c = IntOp.andi a (IntOp.andi b c) := by
  decide

/-- The marks of the keys attended to. -/
theorem valid_apply (j : Fin 16) (q : Fin 128) (s : Fin 384) :
    val_main_v119 (F := Ideal) (ix3 j q s) = Win.valid (BitVec.ofNat 32 j.val) q s := by
  unfold Win.valid Win.inside
  rw [← gap_apply j, ← place_apply, ← marks]
  pointwise [val_main_v119, val_main_v118, val_main_v117, val_main_v116, val_main_v115, val_main_v114, val_main_v113, val_main_v112, val_main_v111, val_main_v110, val_main_v109, val_main_v108, val_main_c_10, val_main_c_11, val_main_c_12]

/-- The slopes. -/
theorem slope_apply (g : Fin 4) (kv : Fin 2) :
    val_main_v18 (F := Ideal) (ix4 kv g 0 0) = Ideal.ofBits .f32 (slope (head g kv)) := by
  pointwise [val_main_v18, val_main_v11, val_main_v10, val_main_v9, val_main_v8, val_main_v7, val_main_v6, val_main_v5, val_main_v4, val_main_v3, val_main_cst, val_main_cst_0, val_main_cst_1, val_main_cst_2, val_main_cst_3, val_main_cst_4, val_main_cst_5, val_main_cst_6]
  rcases (by omega : g = 0 ∨ g = 1 ∨ g = 2 ∨ g = 3) with rfl | rfl | rfl | rfl <;>
    rcases (by omega : kv = 0 ∨ kv = 1) with rfl | rfl <;> rfl

/-! ## The keys and the values -/

/-- A padded key inside the sequence. -/
theorem padded_key (b : Fin 32) (p : Fin 2304) (kv : Fin 2) (d : Fin 64) (h : 128 ≤ p.val ∧ p.val < 2176) :
    val_main_v15 (F := Ideal) x1 (ix4 b p kv d) = x1 (ix2 (row b ⟨p.val - 128, by omega⟩) (kcol kv d)) := by
  pointwise [val_main_v15, val_main_v14, val_main_v1]
  exact dif_pos (by omega)

/-- A padded value inside the sequence. -/
theorem padded_value (b : Fin 32) (p : Fin 2304) (kv : Fin 2) (d : Fin 64) (h : 128 ≤ p.val ∧ p.val < 2176) :
    val_main_v17 (F := Ideal) x2 (ix4 b p kv d) = x2 (ix2 (row b ⟨p.val - 128, by omega⟩) (kcol kv d)) := by
  pointwise [val_main_v17, val_main_v16, val_main_v2]
  exact dif_pos (by omega)

/-- The padded keys of the three blocks. -/
theorem key_slice (b : Fin 32) (j : Fin 16) (s : Fin 384) (kv : Fin 2) (d : Fin 64) :
    val_main_v56 (F := Ideal) x1 (ix5 b j s kv d) = val_main_v15 (F := Ideal) x1 (ix4 b ⟨j.val * 128 + s.val, by omega⟩ kv d) := by
  fin_cases j
  case «0» => pointwise [val_main_v56, val_main_v55, val_main_v54, val_main_v53, val_main_v52, val_main_v51, val_main_v50, val_main_v49, val_main_v48, val_main_v47, val_main_v46, val_main_v45, val_main_v44, val_main_v43, val_main_v42, val_main_v41, val_main_v40, val_main_v39, val_main_v38, val_main_v37, val_main_v36, val_main_v35, val_main_v34, val_main_v33, val_main_v32, val_main_v31, val_main_v30, val_main_v29, val_main_v28, val_main_v27, val_main_v26, val_main_v25, val_main_v24]
  all_goals (
    pointwise [val_main_v56, val_main_v55, val_main_v54, val_main_v53, val_main_v52, val_main_v51, val_main_v50, val_main_v49, val_main_v48, val_main_v47, val_main_v46, val_main_v45, val_main_v44, val_main_v43, val_main_v42, val_main_v41, val_main_v40, val_main_v39, val_main_v38, val_main_v37, val_main_v36, val_main_v35, val_main_v34, val_main_v33, val_main_v32, val_main_v31, val_main_v30, val_main_v29, val_main_v28, val_main_v27, val_main_v26, val_main_v25, val_main_v24]
    try rfl)

/-- The padded values of the three blocks. -/
theorem value_slice (b : Fin 32) (j : Fin 16) (s : Fin 384) (kv : Fin 2) (d : Fin 64) :
    val_main_v89 (F := Ideal) x2 (ix5 b j s kv d) = val_main_v17 (F := Ideal) x2 (ix4 b ⟨j.val * 128 + s.val, by omega⟩ kv d) := by
  fin_cases j
  case «0» => pointwise [val_main_v89, val_main_v88, val_main_v87, val_main_v86, val_main_v85, val_main_v84, val_main_v83, val_main_v82, val_main_v81, val_main_v80, val_main_v79, val_main_v78, val_main_v77, val_main_v76, val_main_v75, val_main_v74, val_main_v73, val_main_v72, val_main_v71, val_main_v70, val_main_v69, val_main_v68, val_main_v67, val_main_v66, val_main_v65, val_main_v64, val_main_v63, val_main_v62, val_main_v61, val_main_v60, val_main_v59, val_main_v58, val_main_v57]
  all_goals (
    pointwise [val_main_v89, val_main_v88, val_main_v87, val_main_v86, val_main_v85, val_main_v84, val_main_v83, val_main_v82, val_main_v81, val_main_v80, val_main_v79, val_main_v78, val_main_v77, val_main_v76, val_main_v75, val_main_v74, val_main_v73, val_main_v72, val_main_v71, val_main_v70, val_main_v69, val_main_v68, val_main_v67, val_main_v66, val_main_v65, val_main_v64, val_main_v63, val_main_v62, val_main_v61, val_main_v60, val_main_v59, val_main_v58, val_main_v57]
    try rfl)

/-- The row that stands for a key inside the sequence. -/
theorem near_inside (j : Fin 16) (s : Fin 384) (h : 128 ≤ j.val * 128 + s.val ∧ j.val * 128 + s.val < 2176) :
    (⟨j.val * 128 + s.val - 128, by omega⟩ : Fin 2048) = near j s :=
  Fin.ext (by
    have h1 : 1 ≤ j.val + s.val / 128 := by omega
    have h2 : j.val + s.val / 128 ≤ 16 := by omega
    show j.val * 128 + s.val - 128 = (max 1 (min 16 (j.val + s.val / 128)) - 1) * 128 + s.val % 128
    rw [min_eq_right h2, max_eq_right h1]
    omega)

/-- A key inside the sequence. -/
theorem key_apply (b : Fin 32) (j : Fin 16) (s : Fin 384) (kv : Fin 2) (d : Fin 64) (h : inside (BitVec.ofNat 32 j.val) s = 1#1) :
    val_main_v56 (F := Ideal) x1 (ix5 b j s kv d) = x1 (ix2 (row b (near j s)) (kcol kv d)) := by
  have hb := inside_bounds j s h
  rw [key_slice, padded_key x1 b _ kv d hb, ← near_inside j s hb]

/-- A value inside the sequence. -/
theorem value_apply (b : Fin 32) (j : Fin 16) (s : Fin 384) (kv : Fin 2) (d : Fin 64) (h : inside (BitVec.ofNat 32 j.val) s = 1#1) :
    val_main_v89 (F := Ideal) x2 (ix5 b j s kv d) = value x2 b j kv s d := by
  have hb := inside_bounds j s h
  unfold value
  rw [value_slice, padded_value x2 b _ kv d hb, ← near_inside j s hb]

/-! ## The scores -/

/-- A mark is one or zero. -/
theorem mark_cases : ∀ a : BitVec 1, a = 1#1 ∨ a = 0#1 := by decide

/-- The pattern of minus infinity. -/
theorem ninf : Ideal.ofBits .f32 0xFF800000#32 = ⊥ := by
  simp [Ideal.ofBits, Ideal.ieee]

/-- The masked scores. -/
theorem score_apply (b : Fin 32) (j : Fin 16) (q : Fin 128) (g : Fin 4) (kv : Fin 2) (s : Fin 384) :
    val_main_v132 (F := Ideal) x0 x1 (ix6 b j kv g q s) = score x0 x1 b j q g kv s := by
  unfold score masked
  rw [← slope_apply, ← gap_apply j, ← valid_apply]
  pointwise [val_main_v132, val_main_v130, val_main_call2_v2, val_main_call2_v1, val_main_call2_v0, val_main_cst_13, val_main_v131, val_main_v129, val_main_v128, val_main_v127, val_main_v126, val_main_v125, val_main_v124, val_main_v123, val_main_v122, val_main_v121, val_main_v120, val_main_v13, val_main_v12, val_main_v0]
  rcases mark_cases (val_main_v119 (F := Ideal) (ix3 j q s)) with h | h
  · have hi := valid_inside _ q s ((valid_apply j q s).symm.trans h)
    rw [h, ValueIdx.select_one, ValueIdx.select_one]
    refine congrArg (· - _) (Finset.sum_congr rfl fun d _ => ?_)
    rw [key_apply x1 b j s kv d hi]
    exact mul_comm _ _
  · rw [h, ValueIdx.select_zero, ValueIdx.select_zero]
    exact ninf

/-- Where a score is not minus infinity the padded value is the value. -/
theorem value_cases (b : Fin 32) (j : Fin 16) (q : Fin 128) (g : Fin 4) (kv : Fin 2) (s : Fin 384) (d : Fin 64) :
    score x0 x1 b j q g kv s = ⊥ ∨ value x2 b j kv s d = val_main_v89 (F := Ideal) x2 (ix5 b j s kv d) := by
  rcases mark_cases (Win.valid (BitVec.ofNat 32 j.val) q s) with h | h
  · exact Or.inr (value_apply x2 b j s kv d (valid_inside _ q s h)).symm
  · refine Or.inl ?_
    unfold score masked
    rw [h, ValueIdx.select_zero]

end Cert.Win.Ref

end
-- ==== Proof.Win.Ref.lean ====
/- The windowed attention's reference at an index: one query row of one head against the 384 keys of its three blocks. -/
module

public import proofs.«01_k».proof.Proof.Win.Keys

@[expose] public section

set_option maxRecDepth 16384

noncomputable section

namespace Cert.Win.Ref

open Idealize.ShloMosaic Idealize.ShloMosaic.TcCoe Idealize.SL.Sem
open Cert.Reference4Ideal Cert.Reference4Ideal.Gen Cert.Reference4Ideal.Read
open Cert.Attn (normed row qcol kcol gcol)

variable (x0 : FVec Ideal S65536x512 .bf16) (x1 x2 : FVec Ideal S65536x128 .bf16) (x3 : FVec Ideal S8 .f32) (x4 : FVec Ideal S512 .f32)

/-! ## The softmax -/

/-- The host's largest score of a row, as a fold over the row. -/
theorem reduce_max (y : FVec Ideal S32x16x2x4x128x384 .f32) (c : FVec Ideal S_ .f32) (b : Fin 32) (j : Fin 16) (q : Fin 128) (g : Fin 4) (kv : Fin 2) :
    Host.reduce FloatOps.maximumf y c reducesTo_S32x16x2x4x128x384_S32x16x2x4x128_d5 h_S_ (ix5 b j kv g q)
      = Finset.univ.fold max (c (Shape.Idx.first h_S_)) (fun k : Fin 384 => y (ix6 b j kv g q k)) := by
  rw [Host.reduce_eq_fold_single FloatOps.maximumf y c reducesTo_S32x16x2x4x128x384_S32x16x2x4x128_d5 (by decide) h_S_]
  refine congrArg (fun y => Finset.univ.fold max (c (Shape.Idx.first h_S_)) y) (funext fun k => ?_)
  exact congrArg y (funext fun a => Fin.ext (match a with | ⟨0, _⟩ => rfl | ⟨1, _⟩ => rfl | ⟨2, _⟩ => rfl | ⟨3, _⟩ => rfl | ⟨4, _⟩ => rfl | ⟨5, _⟩ => rfl))

/-- The row maximum of the scores. -/
theorem reduced_apply (b : Fin 32) (j : Fin 16) (q : Fin 128) (g : Fin 4) (kv : Fin 2) :
    val_main_v133 (F := Ideal) x0 x1 (ix5 b j kv g q)
      = Finset.univ.fold max (Ideal.ofBits .f32 0xFF800000#32) (score x0 x1 b j q g kv) := by
  unfold val_main_v133
  rw [reduce_max]
  refine congrArg₂ (fun c y => Finset.univ.fold max c y) ?_ (funext fun k => score_apply x0 x1 b j q g kv k)
  pointwise [val_main_cst_14]

/-- The sinks. -/
theorem sink_apply (b : Fin 32) (j : Fin 16) (q : Fin 128) (g : Fin 4) (kv : Fin 2) :
    val_main_v135 (F := Ideal) x3 (ix5 b j kv g q) = x3 (ix1 (head g kv)) := by
  pointwise [val_main_v135, val_main_v134, val_main_v19]

/-- The same sinks where they are weighed. -/
theorem sink_apply' (b : Fin 32) (j : Fin 16) (q : Fin 128) (g : Fin 4) (kv : Fin 2) :
    val_main_v143 (F := Ideal) x3 (ix5 b j kv g q) = x3 (ix1 (head g kv)) := by
  pointwise [val_main_v143, val_main_v142, val_main_v19]

/-- The larger of two. -/
theorem larger (a b : EReal) : FloatOps.maximumf (F := Ideal) (φ := .f32) a b = max a b := rfl

/-- A sum of the rows and the sink's weight. -/
theorem joined (a n t : EReal) : FloatOps.addf (F := Ideal) (φ := .f32) a (FloatOps.hostUnary (F := Ideal) (φ := .f32) .exp (FloatOps.subf (F := Ideal) (φ := .f32) n t)) = a + Ideal.exp (n - t) := rfl

/-- The row maximum with the sink. -/
theorem top_apply (b : Fin 32) (j : Fin 16) (q : Fin 128) (g : Fin 4) (kv : Fin 2) :
    val_main_v136 (F := Ideal) x0 x1 x3 (ix5 b j kv g q) = top (score x0 x1 b j q g kv) (x3 (ix1 (head g kv))) := by
  rw [val_main_v136_apply, reduced_apply, sink_apply, larger]
  rfl

/-- The weights. -/
theorem wt_apply (b : Fin 32) (j : Fin 16) (q : Fin 128) (g : Fin 4) (kv : Fin 2) (s : Fin 384) :
    val_main_v140 (F := Ideal) x0 x1 x3 (ix6 b j kv g q s) = wt (score x0 x1 b j q g kv) (x3 (ix1 (head g kv))) s := by
  rw [wt, ← score_apply, ← top_apply]
  pointwise [val_main_v140, val_main_v139, val_main_v138, val_main_v137]

/-- The sum starts from zero. -/
theorem zero_add_cst (x : EReal) : val_main_cst_15 (F := Ideal) (Shape.Idx.first h_S_) + x = x := by
  pointwise [val_main_cst_15]
  try exact zero_add x

/-- The sum of the weights and the sink's. -/
theorem total_apply (b : Fin 32) (j : Fin 16) (q : Fin 128) (g : Fin 4) (kv : Fin 2) :
    val_main_v146 (F := Ideal) x0 x1 x3 (ix5 b j kv g q) = total (score x0 x1 b j q g kv) (x3 (ix1 (head g kv))) := by
  unfold total
  rw [val_main_v146_apply, val_main_v145_apply, val_main_v144_apply, sink_apply', top_apply, joined, val_main_v141_apply, zero_add_cst]
  refine congrArg (· + _) (Finset.sum_congr rfl fun k _ => ?_)
  rw [← wt_apply]
  exact congrArg _ (funext fun a => match a with | ⟨0, _⟩ => rfl | ⟨1, _⟩ => rfl | ⟨2, _⟩ => rfl | ⟨3, _⟩ => rfl | ⟨4, _⟩ => rfl | ⟨5, _⟩ => rfl)

/-- The weighted sums of the values. -/
theorem out_apply (b : Fin 32) (j : Fin 16) (q : Fin 128) (g : Fin 4) (kv : Fin 2) (d : Fin 64) :
    val_main_v151 (F := Ideal) x0 x1 x2 x3 (ix6 b j q kv g d)
      = outEarly (score x0 x1 b j q g kv) (x3 (ix1 (head g kv))) (fun s e => val_main_v89 (F := Ideal) x2 (ix5 b j s kv e)) d := by
  unfold outEarly
  rw [← total_apply]
  simp only [← wt_apply]
  pointwise [val_main_v151, val_main_v150, val_main_v149, val_main_v148, val_main_v147]

/-- A query's place in its sequence. -/
abbrev spot (j : Fin 16) (q : Fin 128) : Fin 2048 := ⟨j.val * 128 + q.val, by omega⟩

/-- The weighted sums with the heads in the layer's order. -/
theorem heads_apply (b : Fin 32) (j : Fin 16) (q : Fin 128) (g : Fin 4) (kv : Fin 2) (d : Fin 64) :
    val_main_v152 (F := Ideal) x0 x1 x2 x3 (ix4 b (spot j q) (head g kv) d)
      = outEarly (score x0 x1 b j q g kv) (x3 (ix1 (head g kv))) (fun s e => val_main_v89 (F := Ideal) x2 (ix5 b j s kv e)) d := by
  rw [← out_apply]
  pointwise [val_main_v152]
  have hj := j.isLt; have hq := q.isLt; have hg := g.isLt; have hk := kv.isLt
  refine congrArg _ (funext fun a => Fin.ext ?_)
  match a with
  | ⟨0, _⟩ => rfl
  | ⟨1, _⟩ => show (j.val * 128 + q.val) / 128 = j.val; omega
  | ⟨2, _⟩ => show (j.val * 128 + q.val) % 128 = q.val; omega
  | ⟨3, _⟩ => show (kv.val * 4 + g.val) / 4 = kv.val; omega
  | ⟨4, _⟩ => show (kv.val * 4 + g.val) % 4 = g.val; omega
  | ⟨5, _⟩ => rfl

/-- The heads normalized and scaled by their gains. -/
theorem scaled_apply (b : Fin 32) (j : Fin 16) (q : Fin 128) (g : Fin 4) (kv : Fin 2) (d : Fin 64) :
    val_main_v166 (F := Ideal) x0 x1 x2 x3 x4 (ix4 b (spot j q) (head g kv) d)
      = normed (outEarly (score x0 x1 b j q g kv) (x3 (ix1 (head g kv))) (fun s e => val_main_v89 (F := Ideal) x2 (ix5 b j s kv e))) d
        * x4 (ix1 (gcol g kv d)) := by
  unfold normed
  simp only [← heads_apply]
  pointwise [val_main_v166, val_main_v165, val_main_v164, val_main_v163, val_main_v162, val_main_v161, val_main_v160, val_main_v159, val_main_v158, val_main_v157, val_main_v156, val_main_v155, val_main_v154, val_main_v153, val_main_cst_16, val_main_cst_17, val_main_cst_18]

/-- The reference's result. -/
theorem result_apply (b : Fin 32) (j : Fin 16) (q : Fin 128) (g : Fin 4) (kv : Fin 2) (d : Fin 64) :
    val_main_v170 (F := Ideal) x0 x1 x2 x3 x4 (ix2 (qrow b j q) (qcol g kv d))
      = normed (outLate (score x0 x1 b j q g kv) (x3 (ix1 (head g kv))) (value x2 b j kv)) d * x4 (ix1 (gcol g kv d)) := by
  rw [normed_late_eq_early _ _ _ _ (fun s e => value_cases x0 x1 x2 b j q g kv s e), ← scaled_apply]
  pointwise [val_main_v170, val_main_v169, val_main_v168, val_main_v167]
  have hb := b.isLt; have hj := j.isLt; have hq := q.isLt; have hg := g.isLt; have hk := kv.isLt; have hd := d.isLt
  refine congrArg _ ((ix4_inj ..).2 ⟨Fin.ext ?_, Fin.ext ?_, Fin.ext ?_, Fin.ext ?_⟩) <;> dsimp only <;> omega

end Cert.Win.Ref

end
-- ==== Proof.Win.Final.lean ====
/- The windowed attention kernel's result array after the run: at every row and column the attention of that row's query
   head over its three blocks of keys, as the reference computes it. -/
module

public import proofs.«01_k».proof.Proof.Win.Block
public import proofs.«01_k».proof.Proof.Win.Gain
public import proofs.«01_k».proof.Proof.Win.Ref
public import proofs.«01_k».proof.Proof.Gen.Kernel4Ideal.Value

@[expose] public section

set_option maxRecDepth 16384

noncomputable section

namespace Cert.Win.Final

open Idealize.ShloMosaic Idealize.ShloMosaic.TcCoe Idealize.SL.Sem
open Cert.Kernel4Ideal Cert.Kernel4Ideal.Gen Cert.Win.Block
open Cert.Attn (normed row qcol kcol gcol)

/-- A query column is one of a pair, a head and a lane. -/
theorem qcol_cases (l : Fin 512) : ∃ (g : Fin 4) (kv : Fin 2) (d : Fin 64), l = qcol g kv d :=
  ⟨⟨l.val / 128, by omega⟩, ⟨l.val / 64 % 2, by omega⟩, ⟨l.val % 64, by omega⟩, Fin.ext (by
    show l.val = l.val / 128 * 128 + l.val / 64 % 2 * 64 + l.val % 64; omega)⟩

/-- A row of a block is one of a block of 128 rows. -/
theorem sub_cases (r : Fin 512) : ∃ (u : Fin 4) (q : Fin 128), r = sub u q :=
  ⟨⟨r.val / 128, by omega⟩, ⟨r.val % 128, by omega⟩, Fin.ext (by show r.val = r.val / 128 * 128 + r.val % 128; omega)⟩

variable (m : (ℓ : Loc nD τ sig) → Buf (Elt Ideal) ℓ)

/-- The windows' block indices. -/
theorem idx : ∀ t : Fin cfg0.N, win0_0.index t = ![0] ∧ win0_1.index t = ![t.val, 0] ∧ win0_2.index t = ![t.val / 4, 0]
    ∧ win0_3.index t = ![t.val / 4, 0] ∧ win0_4.index t = ![0, 0] ∧ win0_5.index t = ![t.val, 0] :=
  (by decide +kernel : ∀ t : Fin grid0.N, _)

/-- A block's rows are the reference's rows at the block's place. -/
theorem point (c : Dev nD) (t : Fin cfg0.N) (y : S512x512.Idx) :
    outsAt0 (F := Ideal) m c t y
      = Cert.Reference4Ideal.Read.val_main_v170 (F := Ideal) (m ((c : Thread nD τ).loc main_arg0)) (m ((c : Thread nD τ).loc main_arg1))
          (m ((c : Thread nD τ).loc main_arg2)) (m ((c : Thread nD τ).loc main_arg3)) (m ((c : Thread nD τ).loc main_arg4)) (((cfg0.win 5).blk t).view.emb y) := by
  obtain ⟨r, l, rfl⟩ : ∃ r l : Fin 512, y = ix2 r l :=
    ⟨y 0, y 1, funext fun a => Fin.ext (match a with | ⟨0, _⟩ => rfl | ⟨1, _⟩ => rfl)⟩
  obtain ⟨g, kv, d, rfl⟩ := qcol_cases l
  obtain ⟨u, q, rfl⟩ := sub_cases r
  have ht := t.isLt
  have hu := u.isLt
  have hr := q.isLt
  have hq := (qcol g kv d).isLt
  have hN : cfg0.N = 128 := rfl
  have e : ((cfg0.win 5).blk t).view.emb (ix2 (sub u q) (qcol g kv d))
      = ix2 (qrow ⟨t.val / 4, by omega⟩ (blockOf t u) q) (qcol g kv d) := by
    blk_ext [idx t]
  rw [e, Ref.result_apply, out_apply]
  unfold rowOut
  refine congrArg₂ (· * ·) (congrArg (fun o => normed o d) ?_) ?_
  · refine congr (congr (congrArg outLate (funext fun s => ?_)) ?_) (funext fun s => funext fun d => ?_)
    · unfold score
      refine congrArg (Win.masked _ _ _ _) (Finset.sum_congr rfl fun d _ => congrArg₂ (· * ·) ?_ ?_)
      · blk_ext [iblk, V, idx t]
      · blk_ext [iblk, V, idx t]
    · blk_ext [iblk, V, idx t]
    · unfold value
      blk_ext [iblk, V, idx t]
  · refine Eq.trans ?_ (Gain.gain_apply m c g kv d)
    blk_ext [iblk, idx t]

/-- The result array after the run. -/
theorem final (c : Dev nD) : (dats m 0 c).arrAt 5 cfg0.N
    = Cert.Reference4Ideal.Read.val_main_v170 (F := Ideal) (m ((c : Thread nD τ).loc main_arg0)) (m ((c : Thread nD τ).loc main_arg1))
        (m ((c : Thread nD τ).loc main_arg2)) (m ((c : Thread nD τ).loc main_arg3)) (m ((c : Thread nD τ).loc main_arg4)) := by
  refine (dats m 0 c).arrAt_eq_of_covers 5 _ (by decide +kernel) fun t _ y => ?_
  blk_simp
  rw [after0_5]
  exact point m c t y

end Cert.Win.Final

end
-- ==== Proof.Norm.Final.lean ====
/- The input normalization: what one block of the kernel computes, the operands its host hands it, the reference's rows, and
   the result array after the run. -/
module

public import proofs.«01_k».proof.Proof.Oproj.Spec
public import proofs.«01_k».proof.Proof.Gen.Kernel5Ideal.Frame
public import proofs.«01_k».proof.Proof.Gen.Kernel5Ideal.Value
public import proofs.«01_k».proof.Proof.Gen.Reference5Ideal.Read
public import Idealize.ShloMosaic.Lib.Claim
public import Idealize.ShloMosaic.Lib.Pipeline.ValueKit

@[expose] public section

set_option maxRecDepth 16384

noncomputable section

namespace Cert.Norm

open Idealize.ShloMosaic Idealize.ShloMosaic.TcCoe Idealize.SL.Sem

/-- The sequence of a row of the whole. -/
abbrev seq (t : Fin 65536) : Fin 32 := ⟨t.val / 2048, by omega⟩

/-- The place of the row in its sequence. -/
abbrev place (t : Fin 65536) : Fin 2048 := ⟨t.val % 2048, by omega⟩

namespace Ref

open Cert.Reference5Ideal Cert.Reference5Ideal.Gen Cert.Reference5Ideal.Read

variable (x0 : (⟨S32x2048x1024, .f32⟩ : BufTy).Contents (Elt Ideal)) (x1 x2 : (⟨S1024, .f32⟩ : BufTy).Contents (Elt Ideal))

/-- The normalized input, by sequence and place. -/
theorem rows_apply (b : Fin 32) (s : Fin 2048) (l : Fin 1024) :
    val_main_v23 (F := Ideal) x0 x1 x2 (ix3 b s l) = Oproj.ln (fun l => x0 (ix3 b s l)) (x1 (ix1 l)) (x2 (ix1 l)) l := by
  unfold Oproj.ln
  pointwise [val_main_v23, val_main_v22, val_main_v21, val_main_v20, val_main_v19, val_main_v18, val_main_v17, val_main_v16, val_main_v15, val_main_v14, val_main_v13, val_main_v12, val_main_v11, val_main_v10, val_main_v9, val_main_v8, val_main_v7, val_main_v6, val_main_v5, val_main_v4, val_main_v3, val_main_v2, val_main_v1, val_main_v0, val_main_cst, val_main_cst_0, val_main_cst_1, val_main_cst_2, val_main_cst_3]

/-- The same, by row of the whole. -/
theorem result_apply (t : Fin 65536) (l : Fin 1024) :
    val_main_v24 (F := Ideal) x0 x1 x2 (ix2 t l) = Oproj.ln (fun l => x0 (ix3 (seq t) (place t) l)) (x1 (ix1 l)) (x2 (ix1 l)) l := by
  rw [← rows_apply]
  pointwise [val_main_v24]

end Ref

namespace Final

open Cert.Kernel5Ideal Cert.Kernel5Ideal.Gen

/-- A block's normalized rows. -/
theorem norm_apply (h : FVec Ideal S1024x1024 .f32) (g b : FVec Ideal S1x1024 .f32) (r : Fin 1024) (c : Fin 1024) :
    k0_pay1 (F := Ideal) h g b (ix2 r c) = Oproj.ln (fun c => h (ix2 r c)) (g (ix2 0 c)) (b (ix2 0 c)) c := by
  unfold Oproj.ln
  pointwise [k0_pay1]

/-- What a block's store leaves. -/
theorem block_rows (h : FVec Ideal S1024x1024 .f32) (g b : FVec Ideal S1x1024 .f32) (r : Fin 1024) (c : Fin 1024) :
    out0_3 (F := Ideal) h g b (ix2 r c) = Oproj.ln (fun c => h (ix2 r c)) (g (ix2 0 c)) (b (ix2 0 c)) c := by
  rw [← norm_apply]
  have e0 (x : Vec Ideal S1024x1024 .f32) : View.ld x r0_0 = x := View.ld_unit_zero (by funext a; match a with | ⟨0, _⟩ => rfl | ⟨1, _⟩ => rfl) _ x
  have e1 (x : Vec Ideal S1x1024 .f32) : View.ld x r0_1 = x := View.ld_unit_zero (by funext a; match a with | ⟨0, _⟩ => rfl | ⟨1, _⟩ => rfl) _ x
  unfold out0_3
  rw [e0, e1, e1]
  exact congrFun (View.canon_unit_zero (by funext a; match a with | ⟨0, _⟩ => rfl | ⟨1, _⟩ => rfl) _ _) (ix2 r c)

variable (m : (ℓ : Loc nD τ sig) → Buf (Elt Ideal) ℓ)

/-- The input's rows, one sequence after another. -/
theorem input_apply (c : Dev nD) (t : Fin 65536) (l : Fin 1024) :
    V m c main_v0 (ix2 t l) = m ((c : Thread nD τ).loc main_arg0) (ix3 (seq t) (place t) l) := by
  entry_read
  pointwise

/-- The gain. -/
theorem gain_apply (c : Dev nD) (l : Fin 1024) : V m c main_v1 (ix2 0 l) = m ((c : Thread nD τ).loc main_arg1) (ix1 l) := by
  entry_read
  pointwise

/-- The shift. -/
theorem bias_apply (c : Dev nD) (l : Fin 1024) : V m c main_v2 (ix2 0 l) = m ((c : Thread nD τ).loc main_arg2) (ix1 l) := by
  entry_read
  pointwise

/-- The windows' block indices. -/
theorem idx : ∀ t : Fin cfg0.N, win0_0.index t = ![t.val, 0] ∧ win0_1.index t = ![0, 0] ∧ win0_2.index t = ![0, 0]
    ∧ win0_3.index t = ![t.val, 0] :=
  (by decide +kernel : ∀ t : Fin grid0.N, _)

/-- A block's row as a row of the whole. -/
abbrev row (t : Fin cfg0.N) (r : Fin 1024) : Fin 65536 :=
  ⟨t.val * 1024 + r.val, by have := t.isLt; have hN : cfg0.N = 64 := rfl; omega⟩

/-- The rows the reference computes. -/
abbrev rows (c : Dev nD) : (⟨S65536x1024, .f32⟩ : BufTy).Contents (Elt Ideal) :=
  Cert.Reference5Ideal.Read.val_main_v24 (F := Ideal) (m ((c : Thread nD τ).loc main_arg0)) (m ((c : Thread nD τ).loc main_arg1))
    (m ((c : Thread nD τ).loc main_arg2))

/-- A block of the result. -/
theorem point (c : Dev nD) (t : Fin cfg0.N) (y : S1024x1024.Idx) :
    out0_3 (iblk m c 0 t) (iblk m c 1 t) (iblk m c 2 t) y = rows m c (((cfg0.win 3).blk t).view.emb y) := by
  obtain ⟨r, l, rfl⟩ : ∃ (r : Fin 1024) (l : Fin 1024), y = ix2 r l :=
    ⟨y 0, y 1, funext fun a => Fin.ext (match a with | ⟨0, _⟩ => rfl | ⟨1, _⟩ => rfl)⟩
  have e : ((cfg0.win 3).blk t).view.emb (ix2 r l) = ix2 (row t r) l := by
    blk_ext [idx t]
  unfold rows
  rw [block_rows, e, Ref.result_apply]
  refine congr (congr (congrArg₂ Oproj.ln ?_ ?_) ?_) rfl
  · funext l
    refine Eq.trans ?_ (input_apply m c (row t r) l)
    blk_ext [iblk, idx t]
  · refine Eq.trans ?_ (gain_apply m c l)
    blk_ext [iblk, idx t]
  · refine Eq.trans ?_ (bias_apply m c l)
    blk_ext [iblk, idx t]

/-- The rows after the run. -/
theorem final (c : Dev nD) : (dats m 0 c).arrAt 3 cfg0.N = rows m c := by
  refine (dats m 0 c).arrAt_eq_of_covers 3 _ (by decide +kernel) fun t _ y => ?_
  blk_simp
  rw [after0_3]
  exact point m c t y

end Final

end Cert.Norm

end
-- ==== Proof.Pack.Rows.lean ====
/- The packing of the experts' input weights: the word a pair of rows gives, what one block of the kernel stores, the
   reference's words, and the result array after the run. -/
module

public import proofs.«01_k».proof.Proof.Gen.Kernel6.Frame
public import proofs.«01_k».proof.Proof.Gen.Kernel6.Value
public import proofs.«01_k».proof.Proof.Gen.Reference6.Read
public import Idealize.ShloMosaic.Lib.BitcastPair
public import Idealize.ShloMosaic.Lib.BitcastConvert
public import Idealize.ShloMosaic.Lib.Claim
public import Idealize.ShloMosaic.Lib.Pipeline.ValueKit

@[expose] public section

set_option maxRecDepth 16384

noncomputable section

namespace Cert.Pack

open Idealize.ShloMosaic Idealize.ShloMosaic.TcCoe Idealize.SL.Sem

/-- A weight rounded to bf16. -/
abbrev rounded (x : Bits .f32) : Bits .bf16 := FloatOps.truncf .bf16 (by decide) x

/-- The same, as sixteen bits. -/
def half (x : Bits .f32) : BitVec 16 := BitOps.toBits (F := Bits) (φ := .bf16) (rounded x)

/-- The word of two weights: the second in the high half. -/
def word (a b : Bits .f32) : BitVec 32 := half b ++ half a

/-- The even row of a pair. -/
abbrev even {n : Nat} (r : Fin n) : Fin (2 * n) := ⟨2 * r.val, by omega⟩

/-- The odd row of a pair. -/
abbrev odd {n : Nat} (r : Fin n) : Fin (2 * n) := ⟨2 * r.val + 1, by omega⟩

namespace RowsRef

open Cert.Reference6 Cert.Reference6.Gen Cert.Reference6.Read

/-- The rounded weights, a pair in the last axis. -/
theorem pair_apply (x0 : (⟨S2x16384x1024, .f32⟩ : BufTy).Contents (Elt Bits)) (r : Fin 8192) (l : Fin 1024) (k : Fin 2) :
    val_main_v4 (F := Bits) x0 (ix3 r l k) = rounded (x0 (ix3 0 (⟨2 * r.val + k.val, by omega⟩ : Fin 16384) l)) := by
  rw [val_main_v4_apply, val_main_v3_apply, val_main_v2_apply, val_main_v1_apply, val_main_v0_apply]
  congr 2
  funext a
  apply Fin.ext
  match a with
  | ⟨0, _⟩ => rfl
  | ⟨1, _⟩ => simp; omega
  | ⟨2, _⟩ => simp

/-- The reference's words. -/
theorem result_apply (x0 : (⟨S2x16384x1024, .f32⟩ : BufTy).Contents (Elt Bits)) (r : Fin 8192) (l : Fin 1024) :
    val_main_v5 (F := Bits) x0 (ix2 r l) = word (x0 (ix3 0 (even r : Fin 16384) l)) (x0 (ix3 0 (odd r : Fin 16384) l)) := by
  unfold val_main_v5
  rw [Host.bitcastConvertWiden_apply_16_32]
  unfold word half bitcastToInt
  have e (k : Fin 2) : splits_S8192x1024_w32_S8192x1024x2_w16.snoc (ix2 r l) k = ix3 r l k := by
    funext a
    apply Fin.ext
    match a with
    | ⟨0, _⟩ => rfl
    | ⟨1, _⟩ => rfl
    | ⟨2, _⟩ => rfl
  exact congrArg₂ (fun a b : Bits .bf16 => BitOps.toBits (F := Bits) (φ := .bf16) a ++ BitOps.toBits (F := Bits) (φ := .bf16) b)
    ((congrArg _ (e 1)).trans (pair_apply x0 r l 1)) ((congrArg _ (e 0)).trans (pair_apply x0 r l 0))

end RowsRef

namespace Rows

open Cert.Kernel6 Cert.Kernel6.Gen

/-- A block's words. -/
theorem word_apply (x : FVec Bits S1x1024x1024 .f32) (r : Fin 512) (l : Fin 1024) :
    k0_pay1 (F := Bits) x (ix2 r l) = word (x (ix3 0 (even r : Fin 1024) l)) (x (ix3 0 (odd r : Fin 1024) l)) := by
  have e (i : S1024x1024.Idx) (k : Fin 1024) (h0 : (i 0).val = k.val) (h1 : (i 1).val = l.val) :
      bitcastToInt (truncf .bf16 (shapeCast S1024x1024 x shapeCasts_S1x1024x1024_S1024x1024) bitsLt_bf16_f32) i = half (x (ix3 0 k l)) := by
    obtain rfl : i = ix2 k l := funext fun a => Fin.ext (match a with | ⟨0, _⟩ => h0 | ⟨1, _⟩ => h1)
    unfold half
    pointwise
  unfold k0_pay1
  refine (bitcast_16_32 _ _ _).trans ?_
  exact congrArg₂ (fun a b : BitVec 16 => a ++ b)
    (e _ (odd r) (Shape.Bitcasts.srcIdx_row _ _ _ _ 0 rfl) (Shape.Bitcasts.srcIdx_other _ _ _ _ 1 (by decide)))
    (e _ (even r) (Shape.Bitcasts.srcIdx_row _ _ _ _ 0 rfl) (Shape.Bitcasts.srcIdx_other _ _ _ _ 1 (by decide)))

/-- What a block's store leaves. -/
theorem block_words (x : FVec Bits S1x1024x1024 .f32) (r : Fin 512) (l : Fin 1024) :
    out0_1 (F := Bits) x (ix2 r l) = word (x (ix3 0 (even r : Fin 1024) l)) (x (ix3 0 (odd r : Fin 1024) l)) := by
  rw [← word_apply]
  have e0 (x : Vec Bits S1x1024x1024 .f32) : View.ld x r0_0 = x :=
    View.ld_unit_zero (by funext a; match a with | ⟨0, _⟩ => rfl | ⟨1, _⟩ => rfl | ⟨2, _⟩ => rfl) _ x
  unfold out0_1
  rw [e0]
  exact congrFun (View.canon_unit_zero (by funext a; match a with | ⟨0, _⟩ => rfl | ⟨1, _⟩ => rfl) _ _) (ix2 r l)

variable (m : (ℓ : Loc nD τ sig) → Buf (Elt Bits) ℓ)

/-- The windows' block indices. -/
theorem idx : ∀ t : Fin cfg0.N, win0_0.index t = ![0, t.val, 0] ∧ win0_1.index t = ![t.val, 0] :=
  (by decide +kernel : ∀ t : Fin grid0.N, _)

/-- A block's row of words as a row of the whole. -/
abbrev row (t : Fin cfg0.N) (r : Fin 512) : Fin 8192 :=
  ⟨t.val * 512 + r.val, by have := t.isLt; have hN : cfg0.N = 16 := rfl; omega⟩

/-- The words the reference computes. -/
abbrev words (c : Dev nD) : (⟨S8192x1024, .i32⟩ : BufTy).Contents (Elt Bits) :=
  Cert.Reference6.Read.val_main_v5 (F := Bits) (m ((c : Thread nD τ).loc main_arg0))

/-- A block of the weights. -/
theorem input_apply (c : Dev nD) (t : Fin cfg0.N) (k : Fin 1024) (l : Fin 1024) (k' : Fin 16384) (h : k'.val = t.val * 1024 + k.val) :
    (iblk m c 0 t : FVec Bits S1x1024x1024 .f32) (ix3 0 k l) = m ((c : Thread nD τ).loc main_arg0) (ix3 0 k' l) := by
  rw [← V_main_arg0 m c]
  blk_ext [iblk, idx t, h]

/-- A block of the result. -/
theorem point (c : Dev nD) (t : Fin cfg0.N) (y : S512x1024.Idx) :
    out0_1 (iblk m c 0 t) y = words m c (((cfg0.win 1).blk t).view.emb y) := by
  obtain ⟨r, l, rfl⟩ : ∃ (r : Fin 512) (l : Fin 1024), y = ix2 r l :=
    ⟨y 0, y 1, funext fun a => Fin.ext (match a with | ⟨0, _⟩ => rfl | ⟨1, _⟩ => rfl)⟩
  have e : ((cfg0.win 1).blk t).view.emb (ix2 r l) = ix2 (row t r) l := by
    blk_ext [idx t]
  unfold words
  rw [block_words, e, RowsRef.result_apply]
  exact congrArg₂ word (input_apply m c t _ l _ (by show 2 * (t.val * 512 + r.val) = t.val * 1024 + 2 * r.val; omega))
    (input_apply m c t _ l _ (by show 2 * (t.val * 512 + r.val) + 1 = t.val * 1024 + (2 * r.val + 1); omega))

/-- The words after the run. -/
theorem final (c : Dev nD) : (dats m 0 c).arrAt 1 cfg0.N = words m c := by
  refine (dats m 0 c).arrAt_eq_of_covers 1 _ (by decide +kernel) fun t _ y => ?_
  blk_simp
  rw [after0_1]
  exact point m c t y

end Rows

end Cert.Pack

end
-- ==== Proof.Pack.Columns.lean ====
/- The packing of the experts' output weights, transposed: what one block of the kernel stores, the reference's words, and the
   result array after the run. -/
module

public import proofs.«01_k».proof.Proof.Pack.Rows
public import proofs.«01_k».proof.Proof.Gen.Kernel7.Frame
public import proofs.«01_k».proof.Proof.Gen.Kernel7.Value
public import proofs.«01_k».proof.Proof.Gen.Reference7.Read

@[expose] public section

set_option maxRecDepth 16384

noncomputable section

namespace Cert.Pack

open Idealize.ShloMosaic Idealize.ShloMosaic.TcCoe Idealize.SL.Sem

namespace ColumnsRef

open Cert.Reference7 Cert.Reference7.Gen Cert.Reference7.Read

/-- The rounded weights, a pair in the last axis. -/
theorem pair_apply (x0 : (⟨S2x16384x1024, .f32⟩ : BufTy).Contents (Elt Bits)) (r : Fin 512) (l : Fin 16384) (k : Fin 2) :
    val_main_v5 (F := Bits) x0 (ix3 r l k) = rounded (x0 (ix3 0 l (⟨2 * r.val + k.val, by omega⟩ : Fin 1024))) := by
  have e : idx_main_v4 (idx_main_v5 (ix3 r l k)) = ix2 (⟨2 * r.val + k.val, by omega⟩ : Fin 1024) l := by
    funext a
    apply Fin.ext
    match a with
    | ⟨0, _⟩ => show ((r.val * 2 + k.val) * 16384 + l.val) / 16384 = 2 * r.val + k.val; omega
    | ⟨1, _⟩ => show ((r.val * 2 + k.val) * 16384 + l.val) % 16384 = l.val; omega
  rw [val_main_v5_apply, val_main_v4_apply, e, val_main_v3_apply, val_main_v2_apply, val_main_v1_apply, val_main_v0_apply]
  congr 2
  funext a
  apply Fin.ext
  match a with
  | ⟨0, _⟩ => rfl
  | ⟨1, _⟩ => simp; omega
  | ⟨2, _⟩ => simp; omega

/-- The reference's words. -/
theorem result_apply (x0 : (⟨S2x16384x1024, .f32⟩ : BufTy).Contents (Elt Bits)) (r : Fin 512) (l : Fin 16384) :
    val_main_v6 (F := Bits) x0 (ix2 r l) = word (x0 (ix3 0 l (even r : Fin 1024))) (x0 (ix3 0 l (odd r : Fin 1024))) := by
  unfold val_main_v6
  rw [Host.bitcastConvertWiden_apply_16_32]
  unfold word half bitcastToInt
  have e (k : Fin 2) : splits_S512x16384_w32_S512x16384x2_w16.snoc (ix2 r l) k = ix3 r l k := by
    funext a
    apply Fin.ext
    match a with
    | ⟨0, _⟩ => rfl
    | ⟨1, _⟩ => rfl
    | ⟨2, _⟩ => rfl
  exact congrArg₂ (fun a b : Bits .bf16 => BitOps.toBits (F := Bits) (φ := .bf16) a ++ BitOps.toBits (F := Bits) (φ := .bf16) b)
    ((congrArg _ (e 1)).trans (pair_apply x0 r l 1)) ((congrArg _ (e 0)).trans (pair_apply x0 r l 0))

end ColumnsRef

namespace Columns

open Cert.Kernel7 Cert.Kernel7.Gen

/-- A block's words. -/
theorem word_apply (x : FVec Bits S1x1024x1024 .f32) (r : Fin 512) (l : Fin 1024) :
    k0_pay1 (F := Bits) x (ix2 r l) = word (x (ix3 0 l (even r : Fin 1024))) (x (ix3 0 l (odd r : Fin 1024))) := by
  have e (i : S1024x1024.Idx) (k : Fin 1024) (h0 : (i 0).val = k.val) (h1 : (i 1).val = l.val) :
      bitcastToInt (truncf .bf16 (transpose S1024x1024 [1, 0] (shapeCast S1024x1024 x shapeCasts_S1x1024x1024_S1024x1024) transposes_S1024x1024_p1_0_S1024x1024) bitsLt_bf16_f32) i = half (x (ix3 0 l k)) := by
    obtain rfl : i = ix2 k l := funext fun a => Fin.ext (match a with | ⟨0, _⟩ => h0 | ⟨1, _⟩ => h1)
    unfold half
    pointwise
  unfold k0_pay1
  refine (bitcast_16_32 _ _ _).trans ?_
  exact congrArg₂ (fun a b : BitVec 16 => a ++ b)
    (e _ (odd r) (Shape.Bitcasts.srcIdx_row _ _ _ _ 0 rfl) (Shape.Bitcasts.srcIdx_other _ _ _ _ 1 (by decide)))
    (e _ (even r) (Shape.Bitcasts.srcIdx_row _ _ _ _ 0 rfl) (Shape.Bitcasts.srcIdx_other _ _ _ _ 1 (by decide)))

/-- What a block's store leaves. -/
theorem block_words (x : FVec Bits S1x1024x1024 .f32) (r : Fin 512) (l : Fin 1024) :
    out0_1 (F := Bits) x (ix2 r l) = word (x (ix3 0 l (even r : Fin 1024))) (x (ix3 0 l (odd r : Fin 1024))) := by
  rw [← word_apply]
  have e0 (x : Vec Bits S1x1024x1024 .f32) : View.ld x r0_0 = x :=
    View.ld_unit_zero (by funext a; match a with | ⟨0, _⟩ => rfl | ⟨1, _⟩ => rfl | ⟨2, _⟩ => rfl) _ x
  unfold out0_1
  rw [e0]
  exact congrFun (View.canon_unit_zero (by funext a; match a with | ⟨0, _⟩ => rfl | ⟨1, _⟩ => rfl) _ _) (ix2 r l)

variable (m : (ℓ : Loc nD τ sig) → Buf (Elt Bits) ℓ)

/-- The windows' block indices. -/
theorem idx : ∀ t : Fin cfg0.N, win0_0.index t = ![0, t.val, 0] ∧ win0_1.index t = ![0, t.val] :=
  (by decide +kernel : ∀ t : Fin grid0.N, _)

/-- A block's column of words as a column of the whole. -/
abbrev col (t : Fin cfg0.N) (l : Fin 1024) : Fin 16384 :=
  ⟨t.val * 1024 + l.val, by have := t.isLt; have hN : cfg0.N = 16 := rfl; omega⟩

/-- The words the reference computes. -/
abbrev words (c : Dev nD) : (⟨S512x16384, .i32⟩ : BufTy).Contents (Elt Bits) :=
  Cert.Reference7.Read.val_main_v6 (F := Bits) (m ((c : Thread nD τ).loc main_arg0))

/-- A block of the weights. -/
theorem input_apply (c : Dev nD) (t : Fin cfg0.N) (k : Fin 1024) (l : Fin 1024) :
    (iblk m c 0 t : FVec Bits S1x1024x1024 .f32) (ix3 0 l k) = m ((c : Thread nD τ).loc main_arg0) (ix3 0 (col t l) k) := by
  rw [← V_main_arg0 m c]
  blk_ext [iblk, idx t]

/-- A block of the result. -/
theorem point (c : Dev nD) (t : Fin cfg0.N) (y : S512x1024.Idx) :
    out0_1 (iblk m c 0 t) y = words m c (((cfg0.win 1).blk t).view.emb y) := by
  obtain ⟨r, l, rfl⟩ : ∃ (r : Fin 512) (l : Fin 1024), y = ix2 r l :=
    ⟨y 0, y 1, funext fun a => Fin.ext (match a with | ⟨0, _⟩ => rfl | ⟨1, _⟩ => rfl)⟩
  have e : ((cfg0.win 1).blk t).view.emb (ix2 r l) = ix2 r (col t l) := by
    blk_ext [idx t]
  unfold words
  rw [block_words, e, ColumnsRef.result_apply]
  exact congrArg₂ word (input_apply m c t _ l) (input_apply m c t _ l)

/-- The words after the run. -/
theorem final (c : Dev nD) : (dats m 0 c).arrAt 1 cfg0.N = words m c := by
  refine (dats m 0 c).arrAt_eq_of_covers 1 _ (by decide +kernel) fun t _ y => ?_
  blk_simp
  rw [after0_1]
  exact point m c t y

end Columns

end Cert.Pack

end
-- ==== Proof.lean ====
/- The claims about the kernels, their ideal forms and the references, put together. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Gen.ReferenceIdeal.Read
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Reference2Ideal
public import proofs.«01_k».proof.Proof.Gen.Kernel2Ideal.Value
public import proofs.«01_k».proof.Proof.Gen.Reference2Ideal.Run
public import proofs.«01_k».proof.Proof.Gen.Reference2Ideal.Read
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Reference3Ideal
public import proofs.«01_k».proof.Proof.Gen.Kernel3Ideal.Value
public import proofs.«01_k».proof.Proof.Gen.Reference3Ideal.Run
public import proofs.«01_k».proof.Proof.Gen.Reference3Ideal.Read
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Reference4Ideal
public import proofs.«01_k».proof.Proof.Gen.Kernel4Ideal.Value
public import proofs.«01_k».proof.Proof.Gen.Reference4Ideal.Run
public import proofs.«01_k».proof.Proof.Gen.Reference4Ideal.Read
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Reference5Ideal
public import proofs.«01_k».proof.Proof.Gen.Kernel5Ideal.Value
public import proofs.«01_k».proof.Proof.Gen.Reference5Ideal.Run
public import proofs.«01_k».proof.Proof.Gen.Reference5Ideal.Read
public import proofs.«01_k».proof.Proof.Gen.Kernel6
public import proofs.«01_k».proof.Proof.Gen.Kernel6.Skeleton
public import proofs.«01_k».proof.Proof.Gen.Kernel6.Launch
public import proofs.«01_k».proof.Proof.Gen.Kernel6.Points
public import proofs.«01_k».proof.Proof.Gen.Kernel6.Frame
public import proofs.«01_k».proof.Proof.Gen.Kernel6.Value
public import proofs.«01_k».proof.Proof.Gen.Reference6
public import proofs.«01_k».proof.Proof.Gen.Reference6.Run
public import proofs.«01_k».proof.Proof.Gen.Reference6.Read
public import proofs.«01_k».proof.Proof.Gen.Kernel7
public import proofs.«01_k».proof.Proof.Gen.Kernel7.Skeleton
public import proofs.«01_k».proof.Proof.Gen.Kernel7.Launch
public import proofs.«01_k».proof.Proof.Gen.Kernel7.Points
public import proofs.«01_k».proof.Proof.Gen.Kernel7.Frame
public import proofs.«01_k».proof.Proof.Gen.Kernel7.Value
public import proofs.«01_k».proof.Proof.Gen.Reference7
public import proofs.«01_k».proof.Proof.Gen.Reference7.Run
public import proofs.«01_k».proof.Proof.Gen.Reference7.Read
public import proofs.«01_k».proof.Proof.Attn.Final
public import proofs.«01_k».proof.Proof.Oproj.Final
public import proofs.«01_k».proof.Proof.Inproj.Final
public import proofs.«01_k».proof.Proof.Win.Final
public import proofs.«01_k».proof.Proof.Norm.Final
public import proofs.«01_k».proof.Proof.Pack.Rows
public import proofs.«01_k».proof.Proof.Pack.Columns
public import Idealize.ShloMosaic.Adequacy
public import Idealize.ShloMosaic.Init

@[expose] public section

noncomputable section

namespace Cert.Proof

open Idealize.ShloMosaic Idealize.ShloMosaic.TcCoe Idealize.SL.Sem

/-- The attention's reference ends with its arguments as they were; it has no semaphore. -/
theorem reference_frame : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run m ρ)

/-- The attention's ideal kernel and reference, run from memories that agree on the arguments, leave equal results. -/
theorem attention : Cert.algebraic_KernelIdeal_ReferenceIdeal := by
  intro m ρ m' ρ' _ hag
  refine ⟨fun c => Cert.ReferenceIdeal.Read.val_main_v40 (F := Ideal) (m ((c.tc : Thread Cert.KernelIdeal.nD Cert.KernelIdeal.τ).loc Cert.KernelIdeal.main_arg0))
    (m ((c.tc : Thread Cert.KernelIdeal.nD Cert.KernelIdeal.τ).loc Cert.KernelIdeal.main_arg1)) (m ((c.tc : Thread Cert.KernelIdeal.nD Cert.KernelIdeal.τ).loc Cert.KernelIdeal.main_arg2))
    (m ((c.tc : Thread Cert.KernelIdeal.nD Cert.KernelIdeal.τ).loc Cert.KernelIdeal.main_arg3)),
    (θ_run _ _ _).mono (fun _ h c => ⟨(h c).1.trans (Cert.Attn.Final.final m c), (h c).2⟩) (Cert.KernelIdeal.Value.run_blocks m ρ),
    (θ_run _ _ _).mono (fun _ h c => ⟨(h c).1.trans ?_, (h c).2⟩) (Cert.ReferenceIdeal.Value.run m' ρ')⟩
  rw [Cert.ReferenceIdeal.Read.val_main_v40_eq]
  obtain ⟨h0, h1, h2, h3⟩ := hag c
  rw [h0, h1, h2, h3]

/-- The output projection's reference ends with its arguments as they were; it has no semaphore. -/
theorem reference2_frame : Cert.quiescent_Reference2Ideal := fun m ρ _ =>
  (θ_run Cert.Reference2Ideal.defs _ _).mono (fun r h => ⟨fun c => (h c).2.2, sem_eq_zero_of_no_sems (by decide) r.2⟩)
    (Cert.Reference2Ideal.Value.run m ρ)

/-- The output projection's ideal kernel and reference leave equal rows and equal scores. -/
theorem projection : Cert.algebraic_Kernel2Ideal_Reference2Ideal := by
  intro m ρ m' ρ' _ hag
  refine ⟨fun c => Cert.Oproj.Final.hidden m c, fun c => Cert.Oproj.Final.scores m c,
    (θ_run _ _ _).mono (fun _ h c => ⟨(h c).1.trans (Cert.Oproj.Final.final9 m c), (h c).2.1.trans (Cert.Oproj.Final.final10 m c), (h c).2.2⟩)
      (Cert.Kernel2Ideal.Value.run_blocks m ρ),
    (θ_run _ _ _).mono (fun _ h c => ⟨(h c).1.trans ?_, (h c).2.1.trans ?_, (h c).2.2⟩) (Cert.Reference2Ideal.Value.run m' ρ')⟩
  · rw [Cert.Reference2Ideal.Read.val_main_v36_eq]
    obtain ⟨h0, h1, h2, h3, h4, h5, h6, h7⟩ := hag c
    rw [h0, h1, h2, h3, h4, h5]
  · rw [Cert.Reference2Ideal.Read.val_main_v42_eq]
    obtain ⟨h0, h1, h2, h3, h4, h5, h6, h7⟩ := hag c
    rw [h0, h1, h2, h3, h4, h5, h6, h7]

/-- The input projection's reference ends with its arguments as they were; it has no semaphore. -/
theorem reference3_frame : Cert.quiescent_Reference3Ideal := fun m ρ _ =>
  (θ_run Cert.Reference3Ideal.defs _ _).mono (fun r h => ⟨fun c => (h c).2.2.2.2.2.2, sem_eq_zero_of_no_sems (by decide) r.2⟩)
    (Cert.Reference3Ideal.Value.run m ρ)

/-- The input projection's ideal kernel and reference leave equal queries, keys and values. -/
theorem inputs : Cert.algebraic_Kernel3Ideal_Reference3Ideal := by
  intro m ρ m' ρ' _ hag
  refine ⟨fun c => Cert.Inproj.Final.queries m c, fun c => Cert.Inproj.Final.keys m c, fun c => Cert.Inproj.Final.values m c,
    fun c => Cert.Inproj.Final.queries2 m c, fun c => Cert.Inproj.Final.keys2 m c, fun c => Cert.Inproj.Final.values2 m c,
    (θ_run _ _ _).mono (fun _ h c => ⟨(h c).1.trans (Cert.Inproj.Final.final7 m c), (h c).2.1.trans (Cert.Inproj.Final.final8 m c),
        (h c).2.2.1.trans (Cert.Inproj.Final.final9 m c), (h c).2.2.2.1.trans (Cert.Inproj.Final.final10 m c),
        (h c).2.2.2.2.1.trans (Cert.Inproj.Final.final11 m c), (h c).2.2.2.2.2.1.trans (Cert.Inproj.Final.final12 m c), (h c).2.2.2.2.2.2⟩)
      (Cert.Kernel3Ideal.Value.run_blocks m ρ),
    (θ_run _ _ _).mono (fun _ h c => ⟨(h c).1.trans ?_, (h c).2.1.trans ?_, (h c).2.2.1.trans ?_, (h c).2.2.2.1.trans ?_,
        (h c).2.2.2.2.1.trans ?_, (h c).2.2.2.2.2.1.trans ?_, (h c).2.2.2.2.2.2⟩) (Cert.Reference3Ideal.Value.run m' ρ')⟩
  · rw [Cert.Reference3Ideal.Read.val_main_v109_eq]
    obtain ⟨h0, h1, h2, h3⟩ := hag c
    rw [h0, h1, h2]
  · rw [Cert.Reference3Ideal.Read.val_main_v111_eq]
    obtain ⟨h0, h1, h2, h3⟩ := hag c
    rw [h0, h1, h3]
  · rw [Cert.Reference3Ideal.Read.val_main_v113_eq]
    obtain ⟨h0, h1, h2, h3⟩ := hag c
    rw [h0, h1]
  · rw [Cert.Reference3Ideal.Read.val_main_v117_eq]
    obtain ⟨h0, h1, h2, h3⟩ := hag c
    rw [h0, h1]
  · rw [Cert.Reference3Ideal.Read.val_main_v119_eq]
    obtain ⟨h0, h1, h2, h3⟩ := hag c
    rw [h0, h1]
  · rw [Cert.Reference3Ideal.Read.val_main_v121_eq]
    obtain ⟨h0, h1, h2, h3⟩ := hag c
    rw [h0, h1]

/-- The windowed attention's reference ends with its arguments as they were; it has no semaphore. -/
theorem reference4_frame : Cert.quiescent_Reference4Ideal := fun m ρ _ =>
  (θ_run Cert.Reference4Ideal.defs _ _).mono (fun r h => ⟨fun c => (h c).2, sem_eq_zero_of_no_sems (by decide) r.2⟩)
    (Cert.Reference4Ideal.Value.run m ρ)

/-- The mask's word is named minus infinity. -/
theorem mask : Cert.preserves_Kernel4_Kernel4Ideal := IdealRules.named_const.statement _ _ _ _ _ rfl

/-- The windowed attention's ideal kernel and reference leave equal results. -/
theorem window : Cert.algebraic_Kernel4Ideal_Reference4Ideal := by
  intro m ρ m' ρ' _ hag
  refine ⟨fun c => Cert.Reference4Ideal.Read.val_main_v170 (F := Ideal) (m ((c.tc : Thread Cert.Kernel4Ideal.nD Cert.Kernel4Ideal.τ).loc Cert.Kernel4Ideal.main_arg0))
    (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2))
    (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)),
    (θ_run _ _ _).mono (fun _ h c => ⟨(h c).1.trans (Cert.Win.Final.final m c), (h c).2⟩) (Cert.Kernel4Ideal.Value.run_blocks m ρ),
    (θ_run _ _ _).mono (fun _ h c => ⟨(h c).1.trans ?_, (h c).2⟩) (Cert.Reference4Ideal.Value.run m' ρ')⟩
  rw [Cert.Reference4Ideal.Read.val_main_v170_eq]
  obtain ⟨h0, h1, h2, h3, h4⟩ := hag c
  show Cert.Reference4Ideal.Read.val_main_v170 (F := Ideal) (m' ((c.tc : Thread Cert.Reference4Ideal.nD Cert.Reference4Ideal.τ).loc Cert.Reference4Ideal.main_arg0))
    (m' ((c.tc : Thread Cert.Reference4Ideal.nD Cert.Reference4Ideal.τ).loc Cert.Reference4Ideal.main_arg1)) (m' ((c.tc : Thread Cert.Reference4Ideal.nD Cert.Reference4Ideal.τ).loc Cert.Reference4Ideal.main_arg2))
    (m' ((c.tc : Thread Cert.Reference4Ideal.nD Cert.Reference4Ideal.τ).loc Cert.Reference4Ideal.main_arg3)) (m' ((c.tc : Thread Cert.Reference4Ideal.nD Cert.Reference4Ideal.τ).loc Cert.Reference4Ideal.main_arg4)) = _
  rw [h0, h1, h2, h3, h4]

/-- The input normalization's reference ends with its arguments as they were; it has no semaphore. -/
theorem reference5_frame : Cert.quiescent_Reference5Ideal := fun m ρ _ =>
  (θ_run Cert.Reference5Ideal.defs _ _).mono (fun r h => ⟨fun c => (h c).2, sem_eq_zero_of_no_sems (by decide) r.2⟩)
    (Cert.Reference5Ideal.Value.run m ρ)

/-- The input normalization's ideal kernel and reference leave equal rows. -/
theorem normalization : Cert.algebraic_Kernel5Ideal_Reference5Ideal := by
  intro m ρ m' ρ' _ hag
  refine ⟨fun c => Cert.Norm.Final.rows m c,
    (θ_run _ _ _).mono (fun _ h c => ⟨(h c).1.trans (Cert.Norm.Final.final m c), (h c).2⟩) (Cert.Kernel5Ideal.Value.run_blocks m ρ),
    (θ_run _ _ _).mono (fun _ h c => ⟨(h c).1.trans ?_, (h c).2⟩) (Cert.Reference5Ideal.Value.run m' ρ')⟩
  rw [Cert.Reference5Ideal.Read.val_main_v24_eq]
  obtain ⟨h0, h1, h2⟩ := hag c
  rw [h0, h1, h2]

/-- The reference of the packing of the experts' input weights ends with its argument as it was; it has no semaphore. -/
theorem reference6_frame : Cert.quiescent_Reference6 := fun m ρ _ =>
  (θ_run Cert.Reference6.defs _ _).mono (fun r h => ⟨fun c => (h c).2, sem_eq_zero_of_no_sems (by decide) r.2⟩)
    (Cert.Reference6.Value.run m ρ)

/-- The packing of the experts' input weights and its reference leave the same words. -/
theorem packing : Cert.bitexact_Kernel6_Reference6 := by
  intro m ρ m' ρ' _ hag
  refine ⟨fun c => Cert.Pack.Rows.words m c,
    (θ_run _ _ _).mono (fun _ h c => ⟨(h c).1.trans (Cert.Pack.Rows.final m c), (h c).2⟩) (Cert.Kernel6.Value.run_blocks m ρ),
    (θ_run _ _ _).mono (fun _ h c => ⟨(h c).1.trans ?_, (h c).2⟩) (Cert.Reference6.Value.run m' ρ')⟩
  rw [Cert.Reference6.Read.val_main_v5_eq, hag c]

/-- The reference of the packing of the experts' output weights ends with its argument as it was; it has no semaphore. -/
theorem reference7_frame : Cert.quiescent_Reference7 := fun m ρ _ =>
  (θ_run Cert.Reference7.defs _ _).mono (fun r h => ⟨fun c => (h c).2, sem_eq_zero_of_no_sems (by decide) r.2⟩)
    (Cert.Reference7.Value.run m ρ)

/-- The packing of the experts' output weights and its reference leave the same words. -/
theorem packing_transposed : Cert.bitexact_Kernel7_Reference7 := by
  intro m ρ m' ρ' _ hag
  refine ⟨fun c => Cert.Pack.Columns.words m c,
    (θ_run _ _ _).mono (fun _ h c => ⟨(h c).1.trans (Cert.Pack.Columns.final m c), (h c).2⟩) (Cert.Kernel7.Value.run_blocks m ρ),
    (θ_run _ _ _).mono (fun _ h c => ⟨(h c).1.trans ?_, (h c).2⟩) (Cert.Reference7.Value.run m' ρ')⟩
  rw [Cert.Reference7.Read.val_main_v6_eq, hag c]

/-- The claim. -/
theorem claim : Cert.Claim := ⟨Cert.Kernel.Gen.facts, Cert.KernelIdeal.Gen.facts, Cert.ReferenceIdeal.Gen.facts,
    Cert.Kernel2.Gen.facts, Cert.Kernel2Ideal.Gen.facts, Cert.Reference2Ideal.Gen.facts,
    Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Kernel5.Gen.facts, Cert.Kernel5Ideal.Gen.facts, Cert.Reference5Ideal.Gen.facts,
    Cert.Kernel6.Gen.facts, Cert.Reference6.Gen.facts, Cert.Kernel7.Gen.facts, Cert.Reference7.Gen.facts, by
  exact ⟨fun m ρ _ => Cert.Kernel.Gen.frame m ρ, fun m ρ _ => Cert.KernelIdeal.Gen.frame m ρ, reference_frame,
    fun m ρ _ => Cert.Kernel2.Gen.frame m ρ, fun m ρ _ => Cert.Kernel2Ideal.Gen.frame m ρ, reference2_frame,
    fun m ρ _ => Cert.Kernel3.Gen.frame m ρ, fun m ρ _ => Cert.Kernel3Ideal.Gen.frame m ρ, reference3_frame,
    fun m ρ _ => Cert.Kernel4.Gen.frame m ρ, fun m ρ _ => Cert.Kernel4Ideal.Gen.frame m ρ, reference4_frame,
    fun m ρ _ => Cert.Kernel5.Gen.frame m ρ, fun m ρ _ => Cert.Kernel5Ideal.Gen.frame m ρ, reference5_frame,
    fun m ρ _ => Cert.Kernel6.Gen.frame m ρ, reference6_frame, fun m ρ _ => Cert.Kernel7.Gen.frame m ρ, reference7_frame,
    trivial, attention, trivial, projection, trivial, inputs, mask, window, trivial, normalization,
    packing, packing_transposed⟩⟩

end Cert.Proof

end
